-- ==== Defs.lean ====
def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaIdeal_finite_scores [hPre_finite_scores : Cert.Pre_finite_scores.Facts] (m : (ℓ : Loc Cert.MobaIdeal.nD Cert.MobaIdeal.τ Cert.MobaIdeal.sig) → Buf (Elt Ideal) ℓ) : Prop :=
  ∀ c : Dev Cert.MobaIdeal.nD,
    (Cert.Pre_finite_scores.fn (F := Ideal) (m ((c.tc : Thread Cert.MobaIdeal.nD Cert.MobaIdeal.τ).loc Cert.MobaIdeal.main_arg0)) (m ((c.tc : Thread Cert.MobaIdeal.nD Cert.MobaIdeal.τ).loc Cert.MobaIdeal.main_arg1)) (m ((c.tc : Thread Cert.MobaIdeal.nD Cert.MobaIdeal.τ).loc Cert.MobaIdeal.main_arg2)) (m ((c.tc : Thread Cert.MobaIdeal.nD Cert.MobaIdeal.τ).loc Cert.MobaIdeal.main_arg3))) = (fun _ => 1#1)

def Pre_MobaRefIdeal (m : (ℓ : Loc Cert.MobaRefIdeal.nD Cert.MobaRefIdeal.τ Cert.MobaRefIdeal.sig) → Buf (Elt Ideal) ℓ) : Prop :=
  True

def Pre_MobaRefIdeal_finite_scores [hPre_finite_scores : Cert.Pre_finite_scores.Facts] (m : (ℓ : Loc Cert.MobaRefIdeal.nD Cert.MobaRefIdeal.τ Cert.MobaRefIdeal.sig) → Buf (Elt Ideal) ℓ) : Prop :=
  ∀ c : Dev Cert.MobaRefIdeal.nD,
    (Cert.Pre_finite_scores.fn (F := Ideal) (m ((c.tc : Thread Cert.MobaRefIdeal.nD Cert.MobaRefIdeal.τ).loc Cert.MobaRefIdeal.main_arg0)) (m ((c.tc : Thread Cert.MobaRefIdeal.nD Cert.MobaRefIdeal.τ).loc Cert.MobaRefIdeal.main_arg1)) (m ((c.tc : Thread Cert.MobaRefIdeal.nD Cert.MobaRefIdeal.τ).loc Cert.MobaRefIdeal.main_arg2)) (m ((c.tc : Thread Cert.MobaRefIdeal.nD Cert.MobaRefIdeal.τ).loc Cert.MobaRefIdeal.main_arg3))) = (fun _ => 1#1)

def Pre_MobaRef (m : (ℓ : Loc Cert.MobaRef.nD Cert.MobaRef.τ Cert.MobaRef.sig) → Buf (Elt Bits) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnRef (m : (ℓ : Loc Cert.FfnRef.nD Cert.FfnRef.τ Cert.FfnRef.sig) → Buf (Elt Bits) ℓ) : Prop :=
  True

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastRefIdeal (m : (ℓ : Loc Cert.FfnLastRefIdeal.nD Cert.FfnLastRefIdeal.τ Cert.FfnLastRefIdeal.sig) → Buf (Elt Ideal) ℓ) : Prop :=
  True

def Pre_FfnLastRef (m : (ℓ : Loc Cert.FfnLastRef.nD Cert.FfnLastRef.τ Cert.FfnLastRef.sig) → Buf (Elt Bits) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_OutEvenRefIdeal (m : (ℓ : Loc Cert.OutEvenRefIdeal.nD Cert.OutEvenRefIdeal.τ Cert.OutEvenRefIdeal.sig) → Buf (Elt Ideal) ℓ) : Prop :=
  True

def Pre_OutEvenRef (m : (ℓ : Loc Cert.OutEvenRef.nD Cert.OutEvenRef.τ Cert.OutEvenRef.sig) → Buf (Elt Bits) ℓ) : Prop :=
  True

def Pre_OutOdd (m : (ℓ : Loc Cert.OutOdd.nD Cert.OutOdd.τ Cert.OutOdd.sig) → Buf (Elt Bits) ℓ) : Prop :=
  True

def Pre_OutOddIdeal (m : (ℓ : Loc Cert.OutOddIdeal.nD Cert.OutOddIdeal.τ Cert.OutOddIdeal.sig) → Buf (Elt Ideal) ℓ) : Prop :=
  True

def Pre_OutOddRefIdeal (m : (ℓ : Loc Cert.OutOddRefIdeal.nD Cert.OutOddRefIdeal.τ Cert.OutOddRefIdeal.sig) → Buf (Elt Ideal) ℓ) : Prop :=
  True

def Pre_OutOddRef (m : (ℓ : Loc Cert.OutOddRef.nD Cert.OutOddRef.τ Cert.OutOddRef.sig) → Buf (Elt Bits) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenRefIdeal (m : (ℓ : Loc Cert.InEvenRefIdeal.nD Cert.InEvenRefIdeal.τ Cert.InEvenRefIdeal.sig) → Buf (Elt Ideal) ℓ) : Prop :=
  True

def Pre_InEvenRef (m : (ℓ : Loc Cert.InEvenRef.nD Cert.InEvenRef.τ Cert.InEvenRef.sig) → Buf (Elt Bits) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddRefIdeal (m : (ℓ : Loc Cert.InOddRefIdeal.nD Cert.InOddRefIdeal.τ Cert.InOddRefIdeal.sig) → Buf (Elt Ideal) ℓ) : Prop :=
  True

def Pre_InOddRef (m : (ℓ : Loc Cert.InOddRef.nD Cert.InOddRef.τ Cert.InOddRef.sig) → Buf (Elt Bits) ℓ) : Prop :=
  True

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0)
      ∧ r.2.mem ((c.tc : Thread Cert.Moba.nD Cert.Moba.τ).loc Cert.Moba.main_arg1) = m ((c.tc : Thread Cert.Moba.nD Cert.Moba.τ).loc Cert.Moba.main_arg1)
      ∧ r.2.mem ((c.tc : Thread Cert.Moba.nD Cert.Moba.τ).loc Cert.Moba.main_arg2) = m ((c.tc : Thread Cert.Moba.nD Cert.Moba.τ).loc Cert.Moba.main_arg2)
      ∧ r.2.mem ((c.tc : Thread Cert.Moba.nD Cert.Moba.τ).loc Cert.Moba.main_arg3) = m ((c.tc : Thread Cert.Moba.nD Cert.Moba.τ).loc Cert.Moba.main_arg3))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
      ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3))
      ∧ r.2.sem = fun _ => 0)

def quiescent_MobaIdeal_pre_finite_scores [hMobaIdeal : Cert.MobaIdeal.Facts] [hPre_finite_scores : Cert.Pre_finite_scores.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal_finite_scores m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
      ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3))
      ∧ r.2.sem = fun _ => 0)

def quiescent_MobaRefIdeal [hMobaRefIdeal : Cert.MobaRefIdeal.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2)
      ∧ r.2.mem ((c.tc : Thread Cert.MobaRefIdeal.nD Cert.MobaRefIdeal.τ).loc Cert.MobaRefIdeal.main_arg3) = m ((c.tc : Thread Cert.MobaRefIdeal.nD Cert.MobaRefIdeal.τ).loc Cert.MobaRefIdeal.main_arg3))
      ∧ r.2.sem = fun _ => 0)

def quiescent_MobaRefIdeal_pre_finite_scores [hMobaRefIdeal : Cert.MobaRefIdeal.Facts] [hPre_finite_scores : Cert.Pre_finite_scores.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal_finite_scores m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2)
      ∧ r.2.mem ((c.tc : Thread Cert.MobaRefIdeal.nD Cert.MobaRefIdeal.τ).loc Cert.MobaRefIdeal.main_arg3) = m ((c.tc : Thread Cert.MobaRefIdeal.nD Cert.MobaRefIdeal.τ).loc Cert.MobaRefIdeal.main_arg3))
      ∧ r.2.sem = fun _ => 0)

def quiescent_MobaRef [hMobaRef : Cert.MobaRef.Facts] : Prop :=
  ∀ (m : (ℓ : Loc Cert.MobaRef.nD Cert.MobaRef.τ Cert.MobaRef.sig) → Buf (Elt Bits) ℓ) (g : Dev Cert.MobaRef.nD → PrngReg), Pre_MobaRef m →
    θ_run (Cert.MobaRef.defs (F := Bits)) (onTc (τ := Cert.MobaRef.τ) (Cert.MobaRef.main (F := Bits))) ⟨m, fun _ => 0, g⟩ (fun r => (∀ c : Dev Cert.MobaRef.nD,
      r.2.mem ((c.tc : Thread Cert.MobaRef.nD Cert.MobaRef.τ).loc Cert.MobaRef.main_arg0) = m ((c.tc : Thread Cert.MobaRef.nD Cert.MobaRef.τ).loc Cert.MobaRef.main_arg0)
      ∧ r.2.mem ((c.tc : Thread Cert.MobaRef.nD Cert.MobaRef.τ).loc Cert.MobaRef.main_arg1) = m ((c.tc : Thread Cert.MobaRef.nD Cert.MobaRef.τ).loc Cert.MobaRef.main_arg1)
      ∧ r.2.mem ((c.tc : Thread Cert.MobaRef.nD Cert.MobaRef.τ).loc Cert.MobaRef.main_arg2) = m ((c.tc : Thread Cert.MobaRef.nD Cert.MobaRef.τ).loc Cert.MobaRef.main_arg2)
      ∧ r.2.mem ((c.tc : Thread Cert.MobaRef.nD Cert.MobaRef.τ).loc Cert.MobaRef.main_arg3) = m ((c.tc : Thread Cert.MobaRef.nD Cert.MobaRef.τ).loc Cert.MobaRef.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRef [hFfnRef : Cert.FfnRef.Facts] : Prop :=
  ∀ (m : (ℓ : Loc Cert.FfnRef.nD Cert.FfnRef.τ Cert.FfnRef.sig) → Buf (Elt Bits) ℓ) (g : Dev Cert.FfnRef.nD → PrngReg), Pre_FfnRef m →
    θ_run (Cert.FfnRef.defs (F := Bits)) (onTc (τ := Cert.FfnRef.τ) (Cert.FfnRef.main (F := Bits))) ⟨m, fun _ => 0, g⟩ (fun r => (∀ c : Dev Cert.FfnRef.nD,
      r.2.mem ((c.tc : Thread Cert.FfnRef.nD Cert.FfnRef.τ).loc Cert.FfnRef.main_arg0) = m ((c.tc : Thread Cert.FfnRef.nD Cert.FfnRef.τ).loc Cert.FfnRef.main_arg0)
      ∧ r.2.mem ((c.tc : Thread Cert.FfnRef.nD Cert.FfnRef.τ).loc Cert.FfnRef.main_arg1) = m ((c.tc : Thread Cert.FfnRef.nD Cert.FfnRef.τ).loc Cert.FfnRef.main_arg1)
      ∧ r.2.mem ((c.tc : Thread Cert.FfnRef.nD Cert.FfnRef.τ).loc Cert.FfnRef.main_arg2) = m ((c.tc : Thread Cert.FfnRef.nD Cert.FfnRef.τ).loc Cert.FfnRef.main_arg2)
      ∧ r.2.mem ((c.tc : Thread Cert.FfnRef.nD Cert.FfnRef.τ).loc Cert.FfnRef.main_arg3) = m ((c.tc : Thread Cert.FfnRef.nD Cert.FfnRef.τ).loc Cert.FfnRef.main_arg3)
      ∧ r.2.mem ((c.tc : Thread Cert.FfnRef.nD Cert.FfnRef.τ).loc Cert.FfnRef.main_arg4) = m ((c.tc : Thread Cert.FfnRef.nD Cert.FfnRef.τ).loc Cert.FfnRef.main_arg4))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4)
      ∧ r.2.mem ((c.tc : Thread Cert.FfnLast.nD Cert.FfnLast.τ).loc Cert.FfnLast.main_arg5) = m ((c.tc : Thread Cert.FfnLast.nD Cert.FfnLast.τ).loc Cert.FfnLast.main_arg5))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
      ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ r.2.sem = fun _ => 0)

def quiescent_FfnLastRefIdeal [hFfnLastRefIdeal : Cert.FfnLastRefIdeal.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4)
      ∧ r.2.mem ((c.tc : Thread Cert.FfnLastRefIdeal.nD Cert.FfnLastRefIdeal.τ).loc Cert.FfnLastRefIdeal.main_arg5) = m ((c.tc : Thread Cert.FfnLastRefIdeal.nD Cert.FfnLastRefIdeal.τ).loc Cert.FfnLastRefIdeal.main_arg5))
      ∧ r.2.sem = fun _ => 0)

def quiescent_FfnLastRef [hFfnLastRef : Cert.FfnLastRef.Facts] : Prop :=
  ∀ (m : (ℓ : Loc Cert.FfnLastRef.nD Cert.FfnLastRef.τ Cert.FfnLastRef.sig) → Buf (Elt Bits) ℓ) (g : Dev Cert.FfnLastRef.nD → PrngReg), Pre_FfnLastRef m →
    θ_run (Cert.FfnLastRef.defs (F := Bits)) (onTc (τ := Cert.FfnLastRef.τ) (Cert.FfnLastRef.main (F := Bits))) ⟨m, fun _ => 0, g⟩ (fun r => (∀ c : Dev Cert.FfnLastRef.nD,
      r.2.mem ((c.tc : Thread Cert.FfnLastRef.nD Cert.FfnLastRef.τ).loc Cert.FfnLastRef.main_arg0) = m ((c.tc : Thread Cert.FfnLastRef.nD Cert.FfnLastRef.τ).loc Cert.FfnLastRef.main_arg0)
      ∧ r.2.mem ((c.tc : Thread Cert.FfnLastRef.nD Cert.FfnLastRef.τ).loc Cert.FfnLastRef.main_arg1) = m ((c.tc : Thread Cert.FfnLastRef.nD Cert.FfnLastRef.τ).loc Cert.FfnLastRef.main_arg1)
      ∧ r.2.mem ((c.tc : Thread Cert.FfnLastRef.nD Cert.FfnLastRef.τ).loc Cert.FfnLastRef.main_arg2) = m ((c.tc : Thread Cert.FfnLastRef.nD Cert.FfnLastRef.τ).loc Cert.FfnLastRef.main_arg2)
      ∧ r.2.mem ((c.tc : Thread Cert.FfnLastRef.nD Cert.FfnLastRef.τ).loc Cert.FfnLastRef.main_arg3) = m ((c.tc : Thread Cert.FfnLastRef.nD Cert.FfnLastRef.τ).loc Cert.FfnLastRef.main_arg3)
      ∧ r.2.mem ((c.tc : Thread Cert.FfnLastRef.nD Cert.FfnLastRef.τ).loc Cert.FfnLastRef.main_arg4) = m ((c.tc : Thread Cert.FfnLastRef.nD Cert.FfnLastRef.τ).loc Cert.FfnLastRef.main_arg4)
      ∧ r.2.mem ((c.tc : Thread Cert.FfnLastRef.nD Cert.FfnLastRef.τ).loc Cert.FfnLastRef.main_arg5) = m ((c.tc : Thread Cert.FfnLastRef.nD Cert.FfnLastRef.τ).loc Cert.FfnLastRef.main_arg5))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3))
      ∧ r.2.sem = fun _ => 0)

def quiescent_OutEvenRefIdeal [hOutEvenRefIdeal : Cert.OutEvenRefIdeal.Facts] : Prop :=
  ∀ (m : (ℓ : Loc Cert.OutEvenRefIdeal.nD Cert.OutEvenRefIdeal.τ Cert.OutEvenRefIdeal.sig) → Buf (Elt Ideal) ℓ) (g : Dev Cert.OutEvenRefIdeal.nD → PrngReg), Pre_OutEvenRefIdeal m →
    θ_run (Cert.OutEvenRefIdeal.defs (F := Ideal)) (onTc (τ := Cert.OutEvenRefIdeal.τ) (Cert.OutEvenRefIdeal.main (F := Ideal))) ⟨m, fun _ => 0, g⟩ (fun r => (∀ c : Dev Cert.OutEvenRefIdeal.nD,
      r.2.mem ((c.tc : Thread Cert.OutEvenRefIdeal.nD Cert.OutEvenRefIdeal.τ).loc Cert.OutEvenRefIdeal.main_arg0) = m ((c.tc : Thread Cert.OutEvenRefIdeal.nD Cert.OutEvenRefIdeal.τ).loc Cert.OutEvenRefIdeal.main_arg0)
      ∧ r.2.mem ((c.tc : Thread Cert.OutEvenRefIdeal.nD Cert.OutEvenRefIdeal.τ).loc Cert.OutEvenRefIdeal.main_arg1) = m ((c.tc : Thread Cert.OutEvenRefIdeal.nD Cert.OutEvenRefIdeal.τ).loc Cert.OutEvenRefIdeal.main_arg1)
      ∧ r.2.mem ((c.tc : Thread Cert.OutEvenRefIdeal.nD Cert.OutEvenRefIdeal.τ).loc Cert.OutEvenRefIdeal.main_arg2) = m ((c.tc : Thread Cert.OutEvenRefIdeal.nD Cert.OutEvenRefIdeal.τ).loc Cert.OutEvenRefIdeal.main_arg2)
      ∧ r.2.mem ((c.tc : Thread Cert.OutEvenRefIdeal.nD Cert.OutEvenRefIdeal.τ).loc Cert.OutEvenRefIdeal.main_arg3) = m ((c.tc : Thread Cert.OutEvenRefIdeal.nD Cert.OutEvenRefIdeal.τ).loc Cert.OutEvenRefIdeal.main_arg3))
      ∧ r.2.sem = fun _ => 0)

def quiescent_OutEvenRef [hOutEvenRef : Cert.OutEvenRef.Facts] : Prop :=
  ∀ (m : (ℓ : Loc Cert.OutEvenRef.nD Cert.OutEvenRef.τ Cert.OutEvenRef.sig) → Buf (Elt Bits) ℓ) (g : Dev Cert.OutEvenRef.nD → PrngReg), Pre_OutEvenRef m →
    θ_run (Cert.OutEvenRef.defs (F := Bits)) (onTc (τ := Cert.OutEvenRef.τ) (Cert.OutEvenRef.main (F := Bits))) ⟨m, fun _ => 0, g⟩ (fun r => (∀ c : Dev Cert.OutEvenRef.nD,
      r.2.mem ((c.tc : Thread Cert.OutEvenRef.nD Cert.OutEvenRef.τ).loc Cert.OutEvenRef.main_arg0) = m ((c.tc : Thread Cert.OutEvenRef.nD Cert.OutEvenRef.τ).loc Cert.OutEvenRef.main_arg0)
      ∧ r.2.mem ((c.tc : Thread Cert.OutEvenRef.nD Cert.OutEvenRef.τ).loc Cert.OutEvenRef.main_arg1) = m ((c.tc : Thread Cert.OutEvenRef.nD Cert.OutEvenRef.τ).loc Cert.OutEvenRef.main_arg1)
      ∧ r.2.mem ((c.tc : Thread Cert.OutEvenRef.nD Cert.OutEvenRef.τ).loc Cert.OutEvenRef.main_arg2) = m ((c.tc : Thread Cert.OutEvenRef.nD Cert.OutEvenRef.τ).loc Cert.OutEvenRef.main_arg2)
      ∧ r.2.mem ((c.tc : Thread Cert.OutEvenRef.nD Cert.OutEvenRef.τ).loc Cert.OutEvenRef.main_arg3) = m ((c.tc : Thread Cert.OutEvenRef.nD Cert.OutEvenRef.τ).loc Cert.OutEvenRef.main_arg3))
      ∧ r.2.sem = fun _ => 0)

def quiescent_OutOdd [hOutOdd : Cert.OutOdd.Facts] : Prop :=
  ∀ (m : (ℓ : Loc Cert.OutOdd.nD Cert.OutOdd.τ Cert.OutOdd.sig) → Buf (Elt Bits) ℓ) (g : Dev Cert.OutOdd.nD → PrngReg), Pre_OutOdd m →
    θ_run (Cert.OutOdd.defs (F := Bits)) (onTc (τ := Cert.OutOdd.τ) (Cert.OutOdd.main (F := Bits))) ⟨m, fun _ => 0, g⟩ (fun r => (∀ c : Dev Cert.OutOdd.nD,
      r.2.mem ((c.tc : Thread Cert.OutOdd.nD Cert.OutOdd.τ).loc Cert.OutOdd.main_arg0) = m ((c.tc : Thread Cert.OutOdd.nD Cert.OutOdd.τ).loc Cert.OutOdd.main_arg0)
      ∧ r.2.mem ((c.tc : Thread Cert.OutOdd.nD Cert.OutOdd.τ).loc Cert.OutOdd.main_arg1) = m ((c.tc : Thread Cert.OutOdd.nD Cert.OutOdd.τ).loc Cert.OutOdd.main_arg1)
      ∧ r.2.mem ((c.tc : Thread Cert.OutOdd.nD Cert.OutOdd.τ).loc Cert.OutOdd.main_arg2) = m ((c.tc : Thread Cert.OutOdd.nD Cert.OutOdd.τ).loc Cert.OutOdd.main_arg2)
      ∧ r.2.mem ((c.tc : Thread Cert.OutOdd.nD Cert.OutOdd.τ).loc Cert.OutOdd.main_arg3) = m ((c.tc : Thread Cert.OutOdd.nD Cert.OutOdd.τ).loc Cert.OutOdd.main_arg3))
      ∧ r.2.sem = fun _ => 0)

def quiescent_OutOddIdeal [hOutOddIdeal : Cert.OutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg), Pre_OutOddIdeal m →
    θ_run (Cert.OutOddIdeal.defs (F := Ideal)) (onTc (τ := Cert.OutOddIdeal.τ) (Cert.OutOddIdeal.main (F := Ideal))) ⟨m, fun _ => 0, g⟩ (fun r => (∀ c : Dev Cert.OutOddIdeal.nD,
      r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
      ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
      ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
      ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3))
      ∧ r.2.sem = fun _ => 0)

def quiescent_OutOddRefIdeal [hOutOddRefIdeal : Cert.OutOddRefIdeal.Facts] : Prop :=
  ∀ (m : (ℓ : Loc Cert.OutOddRefIdeal.nD Cert.OutOddRefIdeal.τ Cert.OutOddRefIdeal.sig) → Buf (Elt Ideal) ℓ) (g : Dev Cert.OutOddRefIdeal.nD → PrngReg), Pre_OutOddRefIdeal m →
    θ_run (Cert.OutOddRefIdeal.defs (F := Ideal)) (onTc (τ := Cert.OutOddRefIdeal.τ) (Cert.OutOddRefIdeal.main (F := Ideal))) ⟨m, fun _ => 0, g⟩ (fun r => (∀ c : Dev Cert.OutOddRefIdeal.nD,
      r.2.mem ((c.tc : Thread Cert.OutOddRefIdeal.nD Cert.OutOddRefIdeal.τ).loc Cert.OutOddRefIdeal.main_arg0) = m ((c.tc : Thread Cert.OutOddRefIdeal.nD Cert.OutOddRefIdeal.τ).loc Cert.OutOddRefIdeal.main_arg0)
      ∧ r.2.mem ((c.tc : Thread Cert.OutOddRefIdeal.nD Cert.OutOddRefIdeal.τ).loc Cert.OutOddRefIdeal.main_arg1) = m ((c.tc : Thread Cert.OutOddRefIdeal.nD Cert.OutOddRefIdeal.τ).loc Cert.OutOddRefIdeal.main_arg1)
      ∧ r.2.mem ((c.tc : Thread Cert.OutOddRefIdeal.nD Cert.OutOddRefIdeal.τ).loc Cert.OutOddRefIdeal.main_arg2) = m ((c.tc : Thread Cert.OutOddRefIdeal.nD Cert.OutOddRefIdeal.τ).loc Cert.OutOddRefIdeal.main_arg2)
      ∧ r.2.mem ((c.tc : Thread Cert.OutOddRefIdeal.nD Cert.OutOddRefIdeal.τ).loc Cert.OutOddRefIdeal.main_arg3) = m ((c.tc : Thread Cert.OutOddRefIdeal.nD Cert.OutOddRefIdeal.τ).loc Cert.OutOddRefIdeal.main_arg3))
      ∧ r.2.sem = fun _ => 0)

def quiescent_OutOddRef [hOutOddRef : Cert.OutOddRef.Facts] : Prop :=
  ∀ (m : (ℓ : Loc Cert.OutOddRef.nD Cert.OutOddRef.τ Cert.OutOddRef.sig) → Buf (Elt Bits) ℓ) (g : Dev Cert.OutOddRef.nD → PrngReg), Pre_OutOddRef m →
    θ_run (Cert.OutOddRef.defs (F := Bits)) (onTc (τ := Cert.OutOddRef.τ) (Cert.OutOddRef.main (F := Bits))) ⟨m, fun _ => 0, g⟩ (fun r => (∀ c : Dev Cert.OutOddRef.nD,
      r.2.mem ((c.tc : Thread Cert.OutOddRef.nD Cert.OutOddRef.τ).loc Cert.OutOddRef.main_arg0) = m ((c.tc : Thread Cert.OutOddRef.nD Cert.OutOddRef.τ).loc Cert.OutOddRef.main_arg0)
      ∧ r.2.mem ((c.tc : Thread Cert.OutOddRef.nD Cert.OutOddRef.τ).loc Cert.OutOddRef.main_arg1) = m ((c.tc : Thread Cert.OutOddRef.nD Cert.OutOddRef.τ).loc Cert.OutOddRef.main_arg1)
      ∧ r.2.mem ((c.tc : Thread Cert.OutOddRef.nD Cert.OutOddRef.τ).loc Cert.OutOddRef.main_arg2) = m ((c.tc : Thread Cert.OutOddRef.nD Cert.OutOddRef.τ).loc Cert.OutOddRef.main_arg2)
      ∧ r.2.mem ((c.tc : Thread Cert.OutOddRef.nD Cert.OutOddRef.τ).loc Cert.OutOddRef.main_arg3) = m ((c.tc : Thread Cert.OutOddRef.nD Cert.OutOddRef.τ).loc Cert.OutOddRef.main_arg3))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2)
      ∧ r.2.mem ((c.tc : Thread Cert.InEven.nD Cert.InEven.τ).loc Cert.InEven.main_arg3) = m ((c.tc : Thread Cert.InEven.nD Cert.InEven.τ).loc Cert.InEven.main_arg3))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
      ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3))
      ∧ r.2.sem = fun _ => 0)

def quiescent_InEvenRefIdeal [hInEvenRefIdeal : Cert.InEvenRefIdeal.Facts] : Prop :=
  ∀ (m : (ℓ : Loc Cert.InEvenRefIdeal.nD Cert.InEvenRefIdeal.τ Cert.InEvenRefIdeal.sig) → Buf (Elt Ideal) ℓ) (g : Dev Cert.InEvenRefIdeal.nD → PrngReg), Pre_InEvenRefIdeal m →
    θ_run (Cert.InEvenRefIdeal.defs (F := Ideal)) (onTc (τ := Cert.InEvenRefIdeal.τ) (Cert.InEvenRefIdeal.main (F := Ideal))) ⟨m, fun _ => 0, g⟩ (fun r => (∀ c : Dev Cert.InEvenRefIdeal.nD,
      r.2.mem ((c.tc : Thread Cert.InEvenRefIdeal.nD Cert.InEvenRefIdeal.τ).loc Cert.InEvenRefIdeal.main_arg0) = m ((c.tc : Thread Cert.InEvenRefIdeal.nD Cert.InEvenRefIdeal.τ).loc Cert.InEvenRefIdeal.main_arg0)
      ∧ r.2.mem ((c.tc : Thread Cert.InEvenRefIdeal.nD Cert.InEvenRefIdeal.τ).loc Cert.InEvenRefIdeal.main_arg1) = m ((c.tc : Thread Cert.InEvenRefIdeal.nD Cert.InEvenRefIdeal.τ).loc Cert.InEvenRefIdeal.main_arg1)
      ∧ r.2.mem ((c.tc : Thread Cert.InEvenRefIdeal.nD Cert.InEvenRefIdeal.τ).loc Cert.InEvenRefIdeal.main_arg2) = m ((c.tc : Thread Cert.InEvenRefIdeal.nD Cert.InEvenRefIdeal.τ).loc Cert.InEvenRefIdeal.main_arg2)
      ∧ r.2.mem ((c.tc : Thread Cert.InEvenRefIdeal.nD Cert.InEvenRefIdeal.τ).loc Cert.InEvenRefIdeal.main_arg3) = m ((c.tc : Thread Cert.InEvenRefIdeal.nD Cert.InEvenRefIdeal.τ).loc Cert.InEvenRefIdeal.main_arg3))
      ∧ r.2.sem = fun _ => 0)

def quiescent_InEvenRef [hInEvenRef : Cert.InEvenRef.Facts] : Prop :=
  ∀ (m : (ℓ : Loc Cert.InEvenRef.nD Cert.InEvenRef.τ Cert.InEvenRef.sig) → Buf (Elt Bits) ℓ) (g : Dev Cert.InEvenRef.nD → PrngReg), Pre_InEvenRef m →
    θ_run (Cert.InEvenRef.defs (F := Bits)) (onTc (τ := Cert.InEvenRef.τ) (Cert.InEvenRef.main (F := Bits))) ⟨m, fun _ => 0, g⟩ (fun r => (∀ c : Dev Cert.InEvenRef.nD,
      r.2.mem ((c.tc : Thread Cert.InEvenRef.nD Cert.InEvenRef.τ).loc Cert.InEvenRef.main_arg0) = m ((c.tc : Thread Cert.InEvenRef.nD Cert.InEvenRef.τ).loc Cert.InEvenRef.main_arg0)
      ∧ r.2.mem ((c.tc : Thread Cert.InEvenRef.nD Cert.InEvenRef.τ).loc Cert.InEvenRef.main_arg1) = m ((c.tc : Thread Cert.InEvenRef.nD Cert.InEvenRef.τ).loc Cert.InEvenRef.main_arg1)
      ∧ r.2.mem ((c.tc : Thread Cert.InEvenRef.nD Cert.InEvenRef.τ).loc Cert.InEvenRef.main_arg2) = m ((c.tc : Thread Cert.InEvenRef.nD Cert.InEvenRef.τ).loc Cert.InEvenRef.main_arg2)
      ∧ r.2.mem ((c.tc : Thread Cert.InEvenRef.nD Cert.InEvenRef.τ).loc Cert.InEvenRef.main_arg3) = m ((c.tc : Thread Cert.InEvenRef.nD Cert.InEvenRef.τ).loc Cert.InEvenRef.main_arg3))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2)
      ∧ r.2.mem ((c.tc : Thread Cert.InOdd.nD Cert.InOdd.τ).loc Cert.InOdd.main_arg3) = m ((c.tc : Thread Cert.InOdd.nD Cert.InOdd.τ).loc Cert.InOdd.main_arg3))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
      ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3))
      ∧ r.2.sem = fun _ => 0)

def quiescent_InOddRefIdeal [hInOddRefIdeal : Cert.InOddRefIdeal.Facts] : Prop :=
  ∀ (m : (ℓ : Loc Cert.InOddRefIdeal.nD Cert.InOddRefIdeal.τ Cert.InOddRefIdeal.sig) → Buf (Elt Ideal) ℓ) (g : Dev Cert.InOddRefIdeal.nD → PrngReg), Pre_InOddRefIdeal m →
    θ_run (Cert.InOddRefIdeal.defs (F := Ideal)) (onTc (τ := Cert.InOddRefIdeal.τ) (Cert.InOddRefIdeal.main (F := Ideal))) ⟨m, fun _ => 0, g⟩ (fun r => (∀ c : Dev Cert.InOddRefIdeal.nD,
      r.2.mem ((c.tc : Thread Cert.InOddRefIdeal.nD Cert.InOddRefIdeal.τ).loc Cert.InOddRefIdeal.main_arg0) = m ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m ((c.tc : Thread Cert.InOddRefIdeal.nD Cert.InOddRefIdeal.τ).loc Cert.InOddRefIdeal.main_arg1)
      ∧ r.2.mem ((c.tc : Thread Cert.InOddRefIdeal.nD Cert.InOddRefIdeal.τ).loc Cert.InOddRefIdeal.main_arg2) = m ((c.tc : Thread Cert.InOddRefIdeal.nD Cert.InOddRefIdeal.τ).loc Cert.InOddRefIdeal.main_arg2)
      ∧ r.2.mem ((c.tc : Thread Cert.InOddRefIdeal.nD Cert.InOddRefIdeal.τ).loc Cert.InOddRefIdeal.main_arg3) = m ((c.tc : Thread Cert.InOddRefIdeal.nD Cert.InOddRefIdeal.τ).loc Cert.InOddRefIdeal.main_arg3))
      ∧ r.2.sem = fun _ => 0)

def quiescent_InOddRef [hInOddRef : Cert.InOddRef.Facts] : Prop :=
  ∀ (m : (ℓ : Loc Cert.InOddRef.nD Cert.InOddRef.τ Cert.InOddRef.sig) → Buf (Elt Bits) ℓ) (g : Dev Cert.InOddRef.nD → PrngReg), Pre_InOddRef m →
    θ_run (Cert.InOddRef.defs (F := Bits)) (onTc (τ := Cert.InOddRef.τ) (Cert.InOddRef.main (F := Bits))) ⟨m, fun _ => 0, g⟩ (fun r => (∀ c : Dev Cert.InOddRef.nD,
      r.2.mem ((c.tc : Thread Cert.InOddRef.nD Cert.InOddRef.τ).loc Cert.InOddRef.main_arg0) = m ((c.tc : Thread Cert.InOddRef.nD Cert.InOddRef.τ).loc Cert.InOddRef.main_arg0)
      ∧ r.2.mem ((c.tc : Thread Cert.InOddRef.nD Cert.InOddRef.τ).loc Cert.InOddRef.main_arg1) = m ((c.tc : Thread Cert.InOddRef.nD Cert.InOddRef.τ).loc Cert.InOddRef.main_arg1)
      ∧ r.2.mem ((c.tc : Thread Cert.InOddRef.nD Cert.InOddRef.τ).loc Cert.InOddRef.main_arg2) = m ((c.tc : Thread Cert.InOddRef.nD Cert.InOddRef.τ).loc Cert.InOddRef.main_arg2)
      ∧ r.2.mem ((c.tc : Thread Cert.InOddRef.nD Cert.InOddRef.τ).loc Cert.InOddRef.main_arg3) = m ((c.tc : Thread Cert.InOddRef.nD Cert.InOddRef.τ).loc Cert.InOddRef.main_arg3))
      ∧ r.2.sem = fun _ => 0)

def preserves_Moba_MobaIdeal : Prop :=
  IdealRules.named_const.Statement Cert.MobaIdeal.κ "mask" .f32 0xF149F2CA#32 ⊥

def preserves_MobaRef_MobaRefIdeal : Prop :=
  True

def algebraic_MobaIdeal_MobaRefIdeal_pre_finite_scores [hMobaIdeal : Cert.MobaIdeal.Facts] [hMobaRefIdeal : Cert.MobaRefIdeal.Facts] [hPre_finite_scores : Cert.Pre_finite_scores.Facts] : Prop :=
  ∀ (m : (ℓ : Loc Cert.MobaIdeal.nD Cert.MobaIdeal.τ Cert.MobaIdeal.sig) → Buf (Elt Ideal) ℓ) (g : Dev Cert.MobaIdeal.nD → PrngReg)
    (m' : (ℓ : Loc Cert.MobaRefIdeal.nD Cert.MobaRefIdeal.τ Cert.MobaRefIdeal.sig) → Buf (Elt Ideal) ℓ) (g' : Dev Cert.MobaRefIdeal.nD → PrngReg), Pre_MobaIdeal_finite_scores m →
    (∀ c : Dev Cert.MobaIdeal.nD,
      m' ((c.tc : Thread Cert.MobaRefIdeal.nD Cert.MobaRefIdeal.τ).loc Cert.MobaRefIdeal.main_arg0) = m ((c.tc : Thread Cert.MobaIdeal.nD Cert.MobaIdeal.τ).loc Cert.MobaIdeal.main_arg0)
      ∧ m' ((c.tc : Thread Cert.MobaRefIdeal.nD Cert.MobaRefIdeal.τ).loc Cert.MobaRefIdeal.main_arg1) = m ((c.tc : Thread Cert.MobaIdeal.nD Cert.MobaIdeal.τ).loc Cert.MobaIdeal.main_arg1)
      ∧ m' ((c.tc : Thread Cert.MobaRefIdeal.nD Cert.MobaRefIdeal.τ).loc Cert.MobaRefIdeal.main_arg2) = m ((c.tc : Thread Cert.MobaIdeal.nD Cert.MobaIdeal.τ).loc Cert.MobaIdeal.main_arg2)
      ∧ m' ((c.tc : Thread Cert.MobaRefIdeal.nD Cert.MobaRefIdeal.τ).loc Cert.MobaRefIdeal.main_arg3) = m ((c.tc : Thread Cert.MobaIdeal.nD Cert.MobaIdeal.τ).loc Cert.MobaIdeal.main_arg3)) →
    ∃ (v0 : (c : Dev Cert.MobaIdeal.nD) → Buf (Elt Ideal) ((c.tc : Thread Cert.MobaIdeal.nD Cert.MobaIdeal.τ).loc Cert.MobaIdeal.main_v10)),
      θ_run (Cert.MobaIdeal.defs (F := Ideal)) (onTc (τ := Cert.MobaIdeal.τ) (Cert.MobaIdeal.main (F := Ideal))) ⟨m, fun _ => 0, g⟩ (fun r => ∀ c : Dev Cert.MobaIdeal.nD,
          r.2.mem ((c.tc : Thread Cert.MobaIdeal.nD Cert.MobaIdeal.τ).loc Cert.MobaIdeal.main_v10) = v0 c
          ∧ r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
          ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
          ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
          ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3))
      ∧ θ_run (Cert.MobaRefIdeal.defs (F := Ideal)) (onTc (τ := Cert.MobaRefIdeal.τ) (Cert.MobaRefIdeal.main (F := Ideal))) ⟨m', fun _ => 0, g'⟩ (fun r => ∀ c : Dev Cert.MobaRefIdeal.nD,
          r.2.mem ((c.tc : Thread Cert.MobaRefIdeal.nD Cert.MobaRefIdeal.τ).loc Cert.MobaRefIdeal.main_v76) = v0 c
          ∧ r.2.mem ((c.tc : Thread Cert.MobaRefIdeal.nD Cert.MobaRefIdeal.τ).loc Cert.MobaRefIdeal.main_arg0) = m' ((c.tc : Thread Cert.MobaRefIdeal.nD Cert.MobaRefIdeal.τ).loc Cert.MobaRefIdeal.main_arg0)
          ∧ r.2.mem ((c.tc : Thread Cert.MobaRefIdeal.nD Cert.MobaRefIdeal.τ).loc Cert.MobaRefIdeal.main_arg1) = m' ((c.tc : Thread Cert.MobaRefIdeal.nD Cert.MobaRefIdeal.τ).loc Cert.MobaRefIdeal.main_arg1)
          ∧ r.2.mem ((c.tc : Thread Cert.MobaRefIdeal.nD Cert.MobaRefIdeal.τ).loc Cert.MobaRefIdeal.main_arg2) = m' ((c.tc : Thread Cert.MobaRefIdeal.nD Cert.MobaRefIdeal.τ).loc Cert.MobaRefIdeal.main_arg2)
          ∧ r.2.mem ((c.tc : Thread Cert.MobaRefIdeal.nD Cert.MobaRefIdeal.τ).loc Cert.MobaRefIdeal.main_arg3) = m' ((c.tc : Thread Cert.MobaRefIdeal.nD Cert.MobaRefIdeal.τ).loc Cert.MobaRefIdeal.main_arg3))

def preserves_Ffn_FfnIdeal : Prop :=
  True

def preserves_FfnRef_FfnRefIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnLast_FfnLastIdeal : Prop :=
  True

def preserves_FfnLastRef_FfnLastRefIdeal : Prop :=
  True

def algebraic_FfnLastIdeal_FfnLastRefIdeal [hFfnLastIdeal : Cert.FfnLastIdeal.Facts] [hFfnLastRefIdeal : Cert.FfnLastRefIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastRefIdeal.nD Cert.FfnLastRefIdeal.τ Cert.FfnLastRefIdeal.sig) → Buf (Elt Ideal) ℓ) (g' : Dev Cert.FfnLastRefIdeal.nD → PrngReg), Pre_FfnLastIdeal m →
    (∀ c : Dev Cert.FfnLastIdeal.nD,
      m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0)
      ∧ m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1)
      ∧ m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2)
      ∧ m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3)
      ∧ m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4)
      ∧ m' ((c.tc : Thread Cert.FfnLastRefIdeal.nD Cert.FfnLastRefIdeal.τ).loc Cert.FfnLastRefIdeal.main_arg5) = m ((c.tc : Thread Cert.FfnLastIdeal.nD Cert.FfnLastIdeal.τ).loc Cert.FfnLastIdeal.main_arg5)) →
    ∃ (v0 : (c : Dev Cert.FfnLastIdeal.nD) → Buf (Elt Ideal) ((c.tc : Thread Cert.FfnLastIdeal.nD Cert.FfnLastIdeal.τ).loc Cert.FfnLastIdeal.main_v5)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v5) = v0 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
          ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ θ_run (Cert.FfnLastRefIdeal.defs (F := Ideal)) (onTc (τ := Cert.FfnLastRefIdeal.τ) (Cert.FfnLastRefIdeal.main (F := Ideal))) ⟨m', fun _ => 0, g'⟩ (fun r => ∀ c : Dev Cert.FfnLastRefIdeal.nD,
          r.2.mem ((c.tc : Thread Cert.FfnLastRefIdeal.nD Cert.FfnLastRefIdeal.τ).loc Cert.FfnLastRefIdeal.main_v33) = v0 c
          ∧ r.2.mem ((c.tc : Thread Cert.FfnLastRefIdeal.nD Cert.FfnLastRefIdeal.τ).loc Cert.FfnLastRefIdeal.main_arg0) = m' ((c.tc : Thread Cert.FfnLastRefIdeal.nD Cert.FfnLastRefIdeal.τ).loc Cert.FfnLastRefIdeal.main_arg0)
          ∧ r.2.mem ((c.tc : Thread Cert.FfnLastRefIdeal.nD Cert.FfnLastRefIdeal.τ).loc Cert.FfnLastRefIdeal.main_arg1) = m' ((c.tc : Thread Cert.FfnLastRefIdeal.nD Cert.FfnLastRefIdeal.τ).loc Cert.FfnLastRefIdeal.main_arg1)
          ∧ r.2.mem ((c.tc : Thread Cert.FfnLastRefIdeal.nD Cert.FfnLastRefIdeal.τ).loc Cert.FfnLastRefIdeal.main_arg2) = m' ((c.tc : Thread Cert.FfnLastRefIdeal.nD Cert.FfnLastRefIdeal.τ).loc Cert.FfnLastRefIdeal.main_arg2)
          ∧ r.2.mem ((c.tc : Thread Cert.FfnLastRefIdeal.nD Cert.FfnLastRefIdeal.τ).loc Cert.FfnLastRefIdeal.main_arg3) = m' ((c.tc : Thread Cert.FfnLastRefIdeal.nD Cert.FfnLastRefIdeal.τ).loc Cert.FfnLastRefIdeal.main_arg3)
          ∧ r.2.mem ((c.tc : Thread Cert.FfnLastRefIdeal.nD Cert.FfnLastRefIdeal.τ).loc Cert.FfnLastRefIdeal.main_arg4) = m' ((c.tc : Thread Cert.FfnLastRefIdeal.nD Cert.FfnLastRefIdeal.τ).loc Cert.FfnLastRefIdeal.main_arg4)
          ∧ r.2.mem ((c.tc : Thread Cert.FfnLastRefIdeal.nD Cert.FfnLastRefIdeal.τ).loc Cert.FfnLastRefIdeal.main_arg5) = m' ((c.tc : Thread Cert.FfnLastRefIdeal.nD Cert.FfnLastRefIdeal.τ).loc Cert.FfnLastRefIdeal.main_arg5))

def preserves_OutEven_OutEvenIdeal : Prop :=
  True

def preserves_OutEvenRef_OutEvenRefIdeal : Prop :=
  True

def algebraic_OutEvenIdeal_OutEvenRefIdeal [hOutEvenIdeal : Cert.OutEvenIdeal.Facts] [hOutEvenRefIdeal : Cert.OutEvenRefIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.OutEvenRefIdeal.nD Cert.OutEvenRefIdeal.τ Cert.OutEvenRefIdeal.sig) → Buf (Elt Ideal) ℓ) (g' : Dev Cert.OutEvenRefIdeal.nD → PrngReg), Pre_OutEvenIdeal m →
    (∀ c : Dev Cert.OutEvenIdeal.nD,
      m' ((c.tc : Thread Cert.OutEvenRefIdeal.nD Cert.OutEvenRefIdeal.τ).loc Cert.OutEvenRefIdeal.main_arg0) = m ((c.tc : Thread Cert.OutEvenIdeal.nD Cert.OutEvenIdeal.τ).loc Cert.OutEvenIdeal.main_arg0)
      ∧ m' ((c.tc : Thread Cert.OutEvenRefIdeal.nD Cert.OutEvenRefIdeal.τ).loc Cert.OutEvenRefIdeal.main_arg1) = m ((c.tc : Thread Cert.OutEvenIdeal.nD Cert.OutEvenIdeal.τ).loc Cert.OutEvenIdeal.main_arg1)
      ∧ m' ((c.tc : Thread Cert.OutEvenRefIdeal.nD Cert.OutEvenRefIdeal.τ).loc Cert.OutEvenRefIdeal.main_arg2) = m ((c.tc : Thread Cert.OutEvenIdeal.nD Cert.OutEvenIdeal.τ).loc Cert.OutEvenIdeal.main_arg2)
      ∧ m' ((c.tc : Thread Cert.OutEvenRefIdeal.nD Cert.OutEvenRefIdeal.τ).loc Cert.OutEvenRefIdeal.main_arg3) = m ((c.tc : Thread Cert.OutEvenIdeal.nD Cert.OutEvenIdeal.τ).loc Cert.OutEvenIdeal.main_arg3)) →
    ∃ (v0 : (c : Dev Cert.OutEvenIdeal.nD) → Buf (Elt Ideal) ((c.tc : Thread Cert.OutEvenIdeal.nD Cert.OutEvenIdeal.τ).loc Cert.OutEvenIdeal.main_v4)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v4) = v0 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3))
      ∧ θ_run (Cert.OutEvenRefIdeal.defs (F := Ideal)) (onTc (τ := Cert.OutEvenRefIdeal.τ) (Cert.OutEvenRefIdeal.main (F := Ideal))) ⟨m', fun _ => 0, g'⟩ (fun r => ∀ c : Dev Cert.OutEvenRefIdeal.nD,
          r.2.mem ((c.tc : Thread Cert.OutEvenRefIdeal.nD Cert.OutEvenRefIdeal.τ).loc Cert.OutEvenRefIdeal.main_v2) = v0 c
          ∧ r.2.mem ((c.tc : Thread Cert.OutEvenRefIdeal.nD Cert.OutEvenRefIdeal.τ).loc Cert.OutEvenRefIdeal.main_arg0) = m' ((c.tc : Thread Cert.OutEvenRefIdeal.nD Cert.OutEvenRefIdeal.τ).loc Cert.OutEvenRefIdeal.main_arg0)
          ∧ r.2.mem ((c.tc : Thread Cert.OutEvenRefIdeal.nD Cert.OutEvenRefIdeal.τ).loc Cert.OutEvenRefIdeal.main_arg1) = m' ((c.tc : Thread Cert.OutEvenRefIdeal.nD Cert.OutEvenRefIdeal.τ).loc Cert.OutEvenRefIdeal.main_arg1)
          ∧ r.2.mem ((c.tc : Thread Cert.OutEvenRefIdeal.nD Cert.OutEvenRefIdeal.τ).loc Cert.OutEvenRefIdeal.main_arg2) = m' ((c.tc : Thread Cert.OutEvenRefIdeal.nD Cert.OutEvenRefIdeal.τ).loc Cert.OutEvenRefIdeal.main_arg2)
          ∧ r.2.mem ((c.tc : Thread Cert.OutEvenRefIdeal.nD Cert.OutEvenRefIdeal.τ).loc Cert.OutEvenRefIdeal.main_arg3) = m' ((c.tc : Thread Cert.OutEvenRefIdeal.nD Cert.OutEvenRefIdeal.τ).loc Cert.OutEvenRefIdeal.main_arg3))

def preserves_OutOdd_OutOddIdeal : Prop :=
  True

def preserves_OutOddRef_OutOddRefIdeal : Prop :=
  True

def algebraic_OutOddIdeal_OutOddRefIdeal [hOutOddIdeal : Cert.OutOddIdeal.Facts] [hOutOddRefIdeal : Cert.OutOddRefIdeal.Facts] : Prop :=
  ∀ (m : (ℓ : Loc Cert.OutOddIdeal.nD Cert.OutOddIdeal.τ Cert.OutOddIdeal.sig) → Buf (Elt Ideal) ℓ) (g : Dev Cert.OutOddIdeal.nD → PrngReg)
    (m' : (ℓ : Loc Cert.OutOddRefIdeal.nD Cert.OutOddRefIdeal.τ Cert.OutOddRefIdeal.sig) → Buf (Elt Ideal) ℓ) (g' : Dev Cert.OutOddRefIdeal.nD → PrngReg), Pre_OutOddIdeal m →
    (∀ c : Dev Cert.OutOddIdeal.nD,
      m' ((c.tc : Thread Cert.OutOddRefIdeal.nD Cert.OutOddRefIdeal.τ).loc Cert.OutOddRefIdeal.main_arg0) = m ((c.tc : Thread Cert.OutOddIdeal.nD Cert.OutOddIdeal.τ).loc Cert.OutOddIdeal.main_arg0)
      ∧ m' ((c.tc : Thread Cert.OutOddRefIdeal.nD Cert.OutOddRefIdeal.τ).loc Cert.OutOddRefIdeal.main_arg1) = m ((c.tc : Thread Cert.OutOddIdeal.nD Cert.OutOddIdeal.τ).loc Cert.OutOddIdeal.main_arg1)
      ∧ m' ((c.tc : Thread Cert.OutOddRefIdeal.nD Cert.OutOddRefIdeal.τ).loc Cert.OutOddRefIdeal.main_arg2) = m ((c.tc : Thread Cert.OutOddIdeal.nD Cert.OutOddIdeal.τ).loc Cert.OutOddIdeal.main_arg2)
      ∧ m' ((c.tc : Thread Cert.OutOddRefIdeal.nD Cert.OutOddRefIdeal.τ).loc Cert.OutOddRefIdeal.main_arg3) = m ((c.tc : Thread Cert.OutOddIdeal.nD Cert.OutOddIdeal.τ).loc Cert.OutOddIdeal.main_arg3)) →
    ∃ (v0 : (c : Dev Cert.OutOddIdeal.nD) → Buf (Elt Ideal) ((c.tc : Thread Cert.OutOddIdeal.nD Cert.OutOddIdeal.τ).loc Cert.OutOddIdeal.main_v4)),
      θ_run (Cert.OutOddIdeal.defs (F := Ideal)) (onTc (τ := Cert.OutOddIdeal.τ) (Cert.OutOddIdeal.main (F := Ideal))) ⟨m, fun _ => 0, g⟩ (fun r => ∀ c : Dev Cert.OutOddIdeal.nD,
          r.2.mem ((c.tc : Thread Cert.OutOddIdeal.nD Cert.OutOddIdeal.τ).loc Cert.OutOddIdeal.main_v4) = v0 c
          ∧ r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
          ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
          ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
          ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3))
      ∧ θ_run (Cert.OutOddRefIdeal.defs (F := Ideal)) (onTc (τ := Cert.OutOddRefIdeal.τ) (Cert.OutOddRefIdeal.main (F := Ideal))) ⟨m', fun _ => 0, g'⟩ (fun r => ∀ c : Dev Cert.OutOddRefIdeal.nD,
          r.2.mem ((c.tc : Thread Cert.OutOddRefIdeal.nD Cert.OutOddRefIdeal.τ).loc Cert.OutOddRefIdeal.main_v2) = v0 c
          ∧ r.2.mem ((c.tc : Thread Cert.OutOddRefIdeal.nD Cert.OutOddRefIdeal.τ).loc Cert.OutOddRefIdeal.main_arg0) = m' ((c.tc : Thread Cert.OutOddRefIdeal.nD Cert.OutOddRefIdeal.τ).loc Cert.OutOddRefIdeal.main_arg0)
          ∧ r.2.mem ((c.tc : Thread Cert.OutOddRefIdeal.nD Cert.OutOddRefIdeal.τ).loc Cert.OutOddRefIdeal.main_arg1) = m' ((c.tc : Thread Cert.OutOddRefIdeal.nD Cert.OutOddRefIdeal.τ).loc Cert.OutOddRefIdeal.main_arg1)
          ∧ r.2.mem ((c.tc : Thread Cert.OutOddRefIdeal.nD Cert.OutOddRefIdeal.τ).loc Cert.OutOddRefIdeal.main_arg2) = m' ((c.tc : Thread Cert.OutOddRefIdeal.nD Cert.OutOddRefIdeal.τ).loc Cert.OutOddRefIdeal.main_arg2)
          ∧ r.2.mem ((c.tc : Thread Cert.OutOddRefIdeal.nD Cert.OutOddRefIdeal.τ).loc Cert.OutOddRefIdeal.main_arg3) = m' ((c.tc : Thread Cert.OutOddRefIdeal.nD Cert.OutOddRefIdeal.τ).loc Cert.OutOddRefIdeal.main_arg3))

def preserves_InEven_InEvenIdeal : Prop :=
  True

def preserves_InEvenRef_InEvenRefIdeal : Prop :=
  True

def algebraic_InEvenIdeal_InEvenRefIdeal [hInEvenIdeal : Cert.InEvenIdeal.Facts] [hInEvenRefIdeal : Cert.InEvenRefIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenRefIdeal.nD Cert.InEvenRefIdeal.τ Cert.InEvenRefIdeal.sig) → Buf (Elt Ideal) ℓ) (g' : Dev Cert.InEvenRefIdeal.nD → PrngReg), Pre_InEvenIdeal m →
    (∀ c : Dev Cert.InEvenIdeal.nD,
      m' ((c.tc : Thread Cert.InEvenRefIdeal.nD Cert.InEvenRefIdeal.τ).loc Cert.InEvenRefIdeal.main_arg0) = m ((c.tc : Thread Cert.InEvenIdeal.nD Cert.InEvenIdeal.τ).loc Cert.InEvenIdeal.main_arg0)
      ∧ m' ((c.tc : Thread Cert.InEvenRefIdeal.nD Cert.InEvenRefIdeal.τ).loc Cert.InEvenRefIdeal.main_arg1) = m ((c.tc : Thread Cert.InEvenIdeal.nD Cert.InEvenIdeal.τ).loc Cert.InEvenIdeal.main_arg1)
      ∧ m' ((c.tc : Thread Cert.InEvenRefIdeal.nD Cert.InEvenRefIdeal.τ).loc Cert.InEvenRefIdeal.main_arg2) = m ((c.tc : Thread Cert.InEvenIdeal.nD Cert.InEvenIdeal.τ).loc Cert.InEvenIdeal.main_arg2)
      ∧ m' ((c.tc : Thread Cert.InEvenRefIdeal.nD Cert.InEvenRefIdeal.τ).loc Cert.InEvenRefIdeal.main_arg3) = m ((c.tc : Thread Cert.InEvenIdeal.nD Cert.InEvenIdeal.τ).loc Cert.InEvenIdeal.main_arg3)) →
    ∃ (v0 : (c : Dev Cert.InEvenIdeal.nD) → Buf (Elt Ideal) ((c.tc : Thread Cert.InEvenIdeal.nD Cert.InEvenIdeal.τ).loc Cert.InEvenIdeal.main_v94_0)) (v1 : (c : Dev Cert.InEvenIdeal.nD) → Buf (Elt Ideal) ((c.tc : Thread Cert.InEvenIdeal.nD Cert.InEvenIdeal.τ).loc Cert.InEvenIdeal.main_v94_1)) (v2 : (c : Dev Cert.InEvenIdeal.nD) → Buf (Elt Ideal) ((c.tc : Thread Cert.InEvenIdeal.nD Cert.InEvenIdeal.τ).loc Cert.InEvenIdeal.main_v94_2)) (v3 : (c : Dev Cert.InEvenIdeal.nD) → Buf (Elt Ideal) ((c.tc : Thread Cert.InEvenIdeal.nD Cert.InEvenIdeal.τ).loc Cert.InEvenIdeal.main_v94_3)) (v4 : (c : Dev Cert.InEvenIdeal.nD) → Buf (Elt Ideal) ((c.tc : Thread Cert.InEvenIdeal.nD Cert.InEvenIdeal.τ).loc Cert.InEvenIdeal.main_v94_4)) (v5 : (c : Dev Cert.InEvenIdeal.nD) → Buf (Elt Ideal) ((c.tc : Thread Cert.InEvenIdeal.nD Cert.InEvenIdeal.τ).loc Cert.InEvenIdeal.main_v94_5)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v94_0) = v0 c
          ∧ r.2.mem ((c.tc : Thread Cert.InEvenIdeal.nD Cert.InEvenIdeal.τ).loc Cert.InEvenIdeal.main_v94_1) = v1 c
          ∧ r.2.mem ((c.tc : Thread Cert.InEvenIdeal.nD Cert.InEvenIdeal.τ).loc Cert.InEvenIdeal.main_v94_2) = v2 c
          ∧ r.2.mem ((c.tc : Thread Cert.InEvenIdeal.nD Cert.InEvenIdeal.τ).loc Cert.InEvenIdeal.main_v94_3) = v3 c
          ∧ r.2.mem ((c.tc : Thread Cert.InEvenIdeal.nD Cert.InEvenIdeal.τ).loc Cert.InEvenIdeal.main_v94_4) = v4 c
          ∧ r.2.mem ((c.tc : Thread Cert.InEvenIdeal.nD Cert.InEvenIdeal.τ).loc Cert.InEvenIdeal.main_v94_5) = v5 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
          ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3))
      ∧ θ_run (Cert.InEvenRefIdeal.defs (F := Ideal)) (onTc (τ := Cert.InEvenRefIdeal.τ) (Cert.InEvenRefIdeal.main (F := Ideal))) ⟨m', fun _ => 0, g'⟩ (fun r => ∀ c : Dev Cert.InEvenRefIdeal.nD,
          r.2.mem ((c.tc : Thread Cert.InEvenRefIdeal.nD Cert.InEvenRefIdeal.τ).loc Cert.InEvenRefIdeal.main_v32) = v0 c
          ∧ r.2.mem ((c.tc : Thread Cert.InEvenRefIdeal.nD Cert.InEvenRefIdeal.τ).loc Cert.InEvenRefIdeal.main_v33) = v1 c
          ∧ r.2.mem ((c.tc : Thread Cert.InEvenRefIdeal.nD Cert.InEvenRefIdeal.τ).loc Cert.InEvenRefIdeal.main_v65) = v2 c
          ∧ r.2.mem ((c.tc : Thread Cert.InEvenRefIdeal.nD Cert.InEvenRefIdeal.τ).loc Cert.InEvenRefIdeal.main_v66) = v3 c
          ∧ r.2.mem ((c.tc : Thread Cert.InEvenRefIdeal.nD Cert.InEvenRefIdeal.τ).loc Cert.InEvenRefIdeal.main_v85) = v4 c
          ∧ r.2.mem ((c.tc : Thread Cert.InEvenRefIdeal.nD Cert.InEvenRefIdeal.τ).loc Cert.InEvenRefIdeal.main_v47) = v5 c
          ∧ r.2.mem ((c.tc : Thread Cert.InEvenRefIdeal.nD Cert.InEvenRefIdeal.τ).loc Cert.InEvenRefIdeal.main_arg0) = m' ((c.tc : Thread Cert.InEvenRefIdeal.nD Cert.InEvenRefIdeal.τ).loc Cert.InEvenRefIdeal.main_arg0)
          ∧ r.2.mem ((c.tc : Thread Cert.InEvenRefIdeal.nD Cert.InEvenRefIdeal.τ).loc Cert.InEvenRefIdeal.main_arg1) = m' ((c.tc : Thread Cert.InEvenRefIdeal.nD Cert.InEvenRefIdeal.τ).loc Cert.InEvenRefIdeal.main_arg1)
          ∧ r.2.mem ((c.tc : Thread Cert.InEvenRefIdeal.nD Cert.InEvenRefIdeal.τ).loc Cert.InEvenRefIdeal.main_arg2) = m' ((c.tc : Thread Cert.InEvenRefIdeal.nD Cert.InEvenRefIdeal.τ).loc Cert.InEvenRefIdeal.main_arg2)
          ∧ r.2.mem ((c.tc : Thread Cert.InEvenRefIdeal.nD Cert.InEvenRefIdeal.τ).loc Cert.InEvenRefIdeal.main_arg3) = m' ((c.tc : Thread Cert.InEvenRefIdeal.nD Cert.InEvenRefIdeal.τ).loc Cert.InEvenRefIdeal.main_arg3))

def preserves_InOdd_InOddIdeal : Prop :=
  True

def preserves_InOddRef_InOddRefIdeal : Prop :=
  True

def algebraic_InOddIdeal_InOddRefIdeal [hInOddIdeal : Cert.InOddIdeal.Facts] [hInOddRefIdeal : Cert.InOddRefIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddRefIdeal.nD Cert.InOddRefIdeal.τ Cert.InOddRefIdeal.sig) → Buf (Elt Ideal) ℓ) (g' : Dev Cert.InOddRefIdeal.nD → PrngReg), Pre_InOddIdeal m →
    (∀ c : Dev Cert.InOddIdeal.nD,
      m' ((c.tc : Thread Cert.InOddRefIdeal.nD Cert.InOddRefIdeal.τ).loc Cert.InOddRefIdeal.main_arg0) = m ((c.tc : Thread Cert.InOddIdeal.nD Cert.InOddIdeal.τ).loc Cert.InOddIdeal.main_arg0)
      ∧ m' ((c.tc : Thread Cert.InOddRefIdeal.nD Cert.InOddRefIdeal.τ).loc Cert.InOddRefIdeal.main_arg1) = m ((c.tc : Thread Cert.InOddIdeal.nD Cert.InOddIdeal.τ).loc Cert.InOddIdeal.main_arg1)
      ∧ m' ((c.tc : Thread Cert.InOddRefIdeal.nD Cert.InOddRefIdeal.τ).loc Cert.InOddRefIdeal.main_arg2) = m ((c.tc : Thread Cert.InOddIdeal.nD Cert.InOddIdeal.τ).loc Cert.InOddIdeal.main_arg2)
      ∧ m' ((c.tc : Thread Cert.InOddRefIdeal.nD Cert.InOddRefIdeal.τ).loc Cert.InOddRefIdeal.main_arg3) = m ((c.tc : Thread Cert.InOddIdeal.nD Cert.InOddIdeal.τ).loc Cert.InOddIdeal.main_arg3)) →
    ∃ (v0 : (c : Dev Cert.InOddIdeal.nD) → Buf (Elt Ideal) ((c.tc : Thread Cert.InOddIdeal.nD Cert.InOddIdeal.τ).loc Cert.InOddIdeal.main_v95_0)) (v1 : (c : Dev Cert.InOddIdeal.nD) → Buf (Elt Ideal) ((c.tc : Thread Cert.InOddIdeal.nD Cert.InOddIdeal.τ).loc Cert.InOddIdeal.main_v95_1)) (v2 : (c : Dev Cert.InOddIdeal.nD) → Buf (Elt Ideal) ((c.tc : Thread Cert.InOddIdeal.nD Cert.InOddIdeal.τ).loc Cert.InOddIdeal.main_v95_2)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v95_0) = v0 c
          ∧ r.2.mem ((c.tc : Thread Cert.InOddIdeal.nD Cert.InOddIdeal.τ).loc Cert.InOddIdeal.main_v95_1) = v1 c
          ∧ r.2.mem ((c.tc : Thread Cert.InOddIdeal.nD Cert.InOddIdeal.τ).loc Cert.InOddIdeal.main_v95_2) = v2 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
          ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3))
      ∧ θ_run (Cert.InOddRefIdeal.defs (F := Ideal)) (onTc (τ := Cert.InOddRefIdeal.τ) (Cert.InOddRefIdeal.main (F := Ideal))) ⟨m', fun _ => 0, g'⟩ (fun r => ∀ c : Dev Cert.InOddRefIdeal.nD,
          r.2.mem ((c.tc : Thread Cert.InOddRefIdeal.nD Cert.InOddRefIdeal.τ).loc Cert.InOddRefIdeal.main_v78) = v0 c
          ∧ r.2.mem ((c.tc : Thread Cert.InOddRefIdeal.nD Cert.InOddRefIdeal.τ).loc Cert.InOddRefIdeal.main_v98) = v1 c
          ∧ r.2.mem ((c.tc : Thread Cert.InOddRefIdeal.nD Cert.InOddRefIdeal.τ).loc Cert.InOddRefIdeal.main_v100) = v2 c
          ∧ r.2.mem ((c.tc : Thread Cert.InOddRefIdeal.nD Cert.InOddRefIdeal.τ).loc Cert.InOddRefIdeal.main_arg0) = m' ((c.tc : Thread Cert.InOddRefIdeal.nD Cert.InOddRefIdeal.τ).loc Cert.InOddRefIdeal.main_arg0)
          ∧ r.2.mem ((c.tc : Thread Cert.InOddRefIdeal.nD Cert.InOddRefIdeal.τ).loc Cert.InOddRefIdeal.main_arg1) = m' ((c.tc : Thread Cert.InOddRefIdeal.nD Cert.InOddRefIdeal.τ).loc Cert.InOddRefIdeal.main_arg1)
          ∧ r.2.mem ((c.tc : Thread Cert.InOddRefIdeal.nD Cert.InOddRefIdeal.τ).loc Cert.InOddRefIdeal.main_arg2) = m' ((c.tc : Thread Cert.InOddRefIdeal.nD Cert.InOddRefIdeal.τ).loc Cert.InOddRefIdeal.main_arg2)
          ∧ r.2.mem ((c.tc : Thread Cert.InOddRefIdeal.nD Cert.InOddRefIdeal.τ).loc Cert.InOddRefIdeal.main_arg3) = m' ((c.tc : Thread Cert.InOddRefIdeal.nD Cert.InOddRefIdeal.τ).loc Cert.InOddRefIdeal.main_arg3))

def Claim : Prop :=
  ∃ (hMoba : Cert.Moba.Facts) (hMobaIdeal : Cert.MobaIdeal.Facts) (hMobaRefIdeal : Cert.MobaRefIdeal.Facts) (hMobaRef : Cert.MobaRef.Facts) (hFfn : Cert.Ffn.Facts) (hFfnIdeal : Cert.FfnIdeal.Facts) (hFfnRefIdeal : Cert.FfnRefIdeal.Facts) (hFfnRef : Cert.FfnRef.Facts) (hFfnLast : Cert.FfnLast.Facts) (hFfnLastIdeal : Cert.FfnLastIdeal.Facts) (hFfnLastRefIdeal : Cert.FfnLastRefIdeal.Facts) (hFfnLastRef : Cert.FfnLastRef.Facts) (hOutEven : Cert.OutEven.Facts) (hOutEvenIdeal : Cert.OutEvenIdeal.Facts) (hOutEvenRefIdeal : Cert.OutEvenRefIdeal.Facts) (hOutEvenRef : Cert.OutEvenRef.Facts) (hOutOdd : Cert.OutOdd.Facts) (hOutOddIdeal : Cert.OutOddIdeal.Facts) (hOutOddRefIdeal : Cert.OutOddRefIdeal.Facts) (hOutOddRef : Cert.OutOddRef.Facts) (hInEven : Cert.InEven.Facts) (hInEvenIdeal : Cert.InEvenIdeal.Facts) (hInEvenRefIdeal : Cert.InEvenRefIdeal.Facts) (hInEvenRef : Cert.InEvenRef.Facts) (hInOdd : Cert.InOdd.Facts) (hInOddIdeal : Cert.InOddIdeal.Facts) (hInOddRefIdeal : Cert.InOddRefIdeal.Facts) (hInOddRef : Cert.InOddRef.Facts) (hPre_finite_scores : Cert.Pre_finite_scores.Facts),
    quiescent_Moba (hMoba := hMoba)
    ∧ quiescent_MobaIdeal (hMobaIdeal := hMobaIdeal)
    ∧ quiescent_MobaIdeal_pre_finite_scores (hMobaIdeal := hMobaIdeal) (hPre_finite_scores := hPre_finite_scores)
    ∧ quiescent_MobaRefIdeal (hMobaRefIdeal := hMobaRefIdeal)
    ∧ quiescent_MobaRefIdeal_pre_finite_scores (hMobaRefIdeal := hMobaRefIdeal) (hPre_finite_scores := hPre_finite_scores)
    ∧ quiescent_MobaRef (hMobaRef := hMobaRef)
    ∧ quiescent_Ffn (hFfn := hFfn)
    ∧ quiescent_FfnIdeal (hFfnIdeal := hFfnIdeal)
    ∧ quiescent_FfnRefIdeal (hFfnRefIdeal := hFfnRefIdeal)
    ∧ quiescent_FfnRef (hFfnRef := hFfnRef)
    ∧ quiescent_FfnLast (hFfnLast := hFfnLast)
    ∧ quiescent_FfnLastIdeal (hFfnLastIdeal := hFfnLastIdeal)
    ∧ quiescent_FfnLastRefIdeal (hFfnLastRefIdeal := hFfnLastRefIdeal)
    ∧ quiescent_FfnLastRef (hFfnLastRef := hFfnLastRef)
    ∧ quiescent_OutEven (hOutEven := hOutEven)
    ∧ quiescent_OutEvenIdeal (hOutEvenIdeal := hOutEvenIdeal)
    ∧ quiescent_OutEvenRefIdeal (hOutEvenRefIdeal := hOutEvenRefIdeal)
    ∧ quiescent_OutEvenRef (hOutEvenRef := hOutEvenRef)
    ∧ quiescent_OutOdd (hOutOdd := hOutOdd)
    ∧ quiescent_OutOddIdeal (hOutOddIdeal := hOutOddIdeal)
    ∧ quiescent_OutOddRefIdeal (hOutOddRefIdeal := hOutOddRefIdeal)
    ∧ quiescent_OutOddRef (hOutOddRef := hOutOddRef)
    ∧ quiescent_InEven (hInEven := hInEven)
    ∧ quiescent_InEvenIdeal (hInEvenIdeal := hInEvenIdeal)
    ∧ quiescent_InEvenRefIdeal (hInEvenRefIdeal := hInEvenRefIdeal)
    ∧ quiescent_InEvenRef (hInEvenRef := hInEvenRef)
    ∧ quiescent_InOdd (hInOdd := hInOdd)
    ∧ quiescent_InOddIdeal (hInOddIdeal := hInOddIdeal)
    ∧ quiescent_InOddRefIdeal (hInOddRefIdeal := hInOddRefIdeal)
    ∧ quiescent_InOddRef (hInOddRef := hInOddRef)
    ∧ preserves_Moba_MobaIdeal
    ∧ preserves_MobaRef_MobaRefIdeal
    ∧ algebraic_MobaIdeal_MobaRefIdeal_pre_finite_scores (hMobaIdeal := hMobaIdeal) (hMobaRefIdeal := hMobaRefIdeal) (hPre_finite_scores := hPre_finite_scores)
    ∧ preserves_Ffn_FfnIdeal
    ∧ preserves_FfnRef_FfnRefIdeal
    ∧ algebraic_FfnIdeal_FfnRefIdeal (hFfnIdeal := hFfnIdeal) (hFfnRefIdeal := hFfnRefIdeal)
    ∧ preserves_FfnLast_FfnLastIdeal
    ∧ preserves_FfnLastRef_FfnLastRefIdeal
    ∧ algebraic_FfnLastIdeal_FfnLastRefIdeal (hFfnLastIdeal := hFfnLastIdeal) (hFfnLastRefIdeal := hFfnLastRefIdeal)
    ∧ preserves_OutEven_OutEvenIdeal
    ∧ preserves_OutEvenRef_OutEvenRefIdeal
    ∧ algebraic_OutEvenIdeal_OutEvenRefIdeal (hOutEvenIdeal := hOutEvenIdeal) (hOutEvenRefIdeal := hOutEvenRefIdeal)
    ∧ preserves_OutOdd_OutOddIdeal
    ∧ preserves_OutOddRef_OutOddRefIdeal
    ∧ algebraic_OutOddIdeal_OutOddRefIdeal (hOutOddIdeal := hOutOddIdeal) (hOutOddRefIdeal := hOutOddRefIdeal)
    ∧ preserves_InEven_InEvenIdeal
    ∧ preserves_InEvenRef_InEvenRefIdeal
    ∧ algebraic_InEvenIdeal_InEvenRefIdeal (hInEvenIdeal := hInEvenIdeal) (hInEvenRefIdeal := hInEvenRefIdeal)
    ∧ preserves_InOdd_InOddIdeal
    ∧ preserves_InOddRef_InOddRefIdeal
    ∧ algebraic_InOddIdeal_InOddRefIdeal (hInOddIdeal := hInOddIdeal) (hInOddRefIdeal := hInOddRefIdeal)
-- ==== Pre_finite_scores.lean ====
abbrev S16x2048x512 : Shape := ⟨3, ![16, 2048, 512]⟩
abbrev S16x8x512 : Shape := ⟨3, ![16, 8, 512]⟩
abbrev S_ : Shape := ⟨0, ![]⟩

class Facts : Prop where
  bcast_S_S16x2048x512 : S_.BroadcastsInDim S16x2048x512 (![] : Fin 0 → Fin S16x2048x512.rank)

variable [Facts]

def fn {F : FTy → Type} [FloatOps F] (main_arg0 : FVec F S16x2048x512 .f32) (main_arg1 : FVec F S16x2048x512 .f32) (main_arg2 : FVec F S16x2048x512 .f32) (main_arg3 : FVec F S16x8x512 .f32) : IVec S16x2048x512 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_v3 : FVec F S16x2048x512 .f32 := Host.absf main_arg1
  let main_cst_0 : FVec F S_ .f32 := constant S_ .f32 0x7F800000#32
  let main_v4 : FVec F S16x2048x512 .f32 := broadcastInDim S16x2048x512 ![] bcast_S_S16x2048x512 main_cst_0
  let main_v5 : IVec S16x2048x512 1 := cmpf .olt main_v3 main_v4
  let main_v6 : IVec S16x2048x512 1 := andi main_v2 main_v5
  main_v6
-- ==== Moba.lean ====
abbrev S16x2048x512 : Shape := ⟨3, ![16, 2048, 512]⟩
abbrev S16x8x512 : Shape := ⟨3, ![16, 8, 512]⟩
abbrev S16x8x8x64 : Shape := ⟨4, ![16, 8, 8, 64]⟩
abbrev S16x2048x8x64 : Shape := ⟨4, ![16, 2048, 8, 64]⟩
abbrev S16x8x2048x64 : Shape := ⟨4, ![16, 8, 2048, 64]⟩
abbrev S1x8x128x64 : Shape := ⟨4, ![1, 8, 128, 64]⟩
abbrev S1x8x2048x64 : Shape := ⟨4, ![1, 8, 2048, 64]⟩
abbrev S1x8x8x64 : Shape := ⟨4, ![1, 8, 8, 64]⟩
abbrev S8x128x256 : Shape := ⟨3, ![8, 128, 256]⟩
abbrev S8x128 : Shape := ⟨2, ![8, 128]⟩
abbrev S128x256 : Shape := ⟨2, ![128, 256]⟩
abbrev S1x1x128x64 : Shape := ⟨4, ![1, 1, 128, 64]⟩
abbrev S128x64 : Shape := ⟨2, ![128, 64]⟩
abbrev S1x1x8x64 : Shape := ⟨4, ![1, 1, 8, 64]⟩
abbrev S8x64 : Shape := ⟨2, ![8, 64]⟩
abbrev S1x128 : Shape := ⟨2, ![1, 128]⟩
abbrev S120x128 : Shape := ⟨2, ![120, 128]⟩
abbrev S128x128 : Shape := ⟨2, ![128, 128]⟩
abbrev S1x1x256x64 : Shape := ⟨4, ![1, 1, 256, 64]⟩
abbrev S256x64 : Shape := ⟨2, ![256, 64]⟩
abbrev S1x128x256 : Shape := ⟨3, ![1, 128, 256]⟩
abbrev S128 : Shape := ⟨1, ![128]⟩
abbrev S128x1 : Shape := ⟨2, ![128, 1]⟩

abbrev nBuf : Space → Nat
  | .hbm => 15
  | .vmem => 11
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S16x8x512, .f32⟩
  | .hbm, ⟨4, _⟩ => ⟨S16x8x8x64, .f32⟩
  | .hbm, ⟨5, _⟩ => ⟨S16x8x8x64, .f32⟩
  | .hbm, ⟨6, _⟩ => ⟨S16x2048x8x64, .f32⟩
  | .hbm, ⟨7, _⟩ => ⟨S16x8x2048x64, .f32⟩
  | .hbm, ⟨8, _⟩ => ⟨S16x2048x8x64, .f32⟩
  | .hbm, ⟨9, _⟩ => ⟨S16x8x2048x64, .f32⟩
  | .hbm, ⟨10, _⟩ => ⟨S16x8x2048x64, .bf16⟩
  | .hbm, ⟨11, _⟩ => ⟨S16x2048x8x64, .f32⟩
  | .hbm, ⟨12, _⟩ => ⟨S16x8x2048x64, .f32⟩
  | .hbm, ⟨13, _⟩ => ⟨S16x8x2048x64, .bf16⟩
  | .hbm, ⟨14, _⟩ => ⟨S16x8x2048x64, .f32⟩
  | .local _ .vmem, ⟨0, _⟩ => ⟨S1x8x128x64, .f32⟩
  | .local _ .vmem, ⟨1, _⟩ => ⟨S1x8x128x64, .f32⟩
  | .local _ .vmem, ⟨2, _⟩ => ⟨S1x8x2048x64, .bf16⟩
  | .local _ .vmem, ⟨3, _⟩ => ⟨S1x8x2048x64, .bf16⟩
  | .local _ .vmem, ⟨4, _⟩ => ⟨S1x8x2048x64, .bf16⟩
  | .local _ .vmem, ⟨5, _⟩ => ⟨S1x8x2048x64, .bf16⟩
  | .local _ .vmem, ⟨6, _⟩ => ⟨S1x8x8x64, .f32⟩
  | .local _ .vmem, ⟨7, _⟩ => ⟨S1x8x8x64, .f32⟩
  | .local _ .vmem, ⟨8, _⟩ => ⟨S1x8x128x64, .f32⟩
  | .local _ .vmem, ⟨9, _⟩ => ⟨S1x8x128x64, .f32⟩
  | .local _ .vmem, ⟨10, _⟩ => ⟨S8x128x256, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

@[reducible] def k0_t1_loop : Scf.Loop 32 :=
  let c0_i32_4 : BitVec 32 := 0#32
  let c8_i32 : BitVec 32 := 8#32
  let v24 : BitVec 32 := Scalar.addi c0_i32_4 c8_i32
  let c1_i32_5 : BitVec 32 := 1#32
  ⟨c0_i32_4, v24, c1_i32_5⟩
def k0_off1 (k0_t1 : Fin k0_t1_loop.trips) : Fin 4 → Nat :=
  let c0 : Index := 0#32
  let c0_i32_4 : BitVec 32 := 0#32
  let c1_i32_5 : BitVec 32 := 1#32
  let arg8 : BitVec 32 := Scf.iv c0_i32_4 c1_i32_5 k0_t1
  let v25 : Index := Scalar.indexCast arg8
  let c0_7 : Index := 0#32
  let c0_8 : Index := 0#32
  ![0, v25.toNat, 0, 0]
def k0_off2 (k0_t1 : Fin k0_t1_loop.trips) : Fin 4 → Nat :=
  let c0_9 : Index := 0#32
  let c0_i32_4 : BitVec 32 := 0#32
  let c1_i32_5 : BitVec 32 := 1#32
  let arg8 : BitVec 32 := Scf.iv c0_i32_4 c1_i32_5 k0_t1
  let v31 : Index := Scalar.indexCast arg8
  let c0_10 : Index := 0#32
  let c0_11 : Index := 0#32
  ![0, v31.toNat, 0, 0]
@[reducible] def k0_t2_loop (i : grid0.Coords) : Scf.Loop 32 :=
  let c0_i32_56 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c1_i32_54 : BitVec 32 := 1#32
  let v174 : BitVec 32 := Scalar.addi v17 c1_i32_54
  let v176 : BitVec 32 := Scalar.subi v174 c0_i32_56
  let c1_i32_57 : BitVec 32 := 1#32
  let v178 : BitVec 32 := Scalar.divsi v176 c1_i32_57
  let v179 : BitVec 32 := Scalar.muli v178 c1_i32_57
  let v180 : BitVec 32 := Scalar.addi c0_i32_56 v179
  let c1_i32_58 : BitVec 32 := 1#32
  ⟨c0_i32_56, v180, c1_i32_58⟩
def k0_mult1 (i : grid0.Coords) (k0_t2 : Fin (k0_t2_loop i).trips) : BitVec 32 :=
  let c0_i32_56 : BitVec 32 := 0#32
  let c1_i32_58 : BitVec 32 := 1#32
  let arg9 : BitVec 32 := Scf.iv c0_i32_56 c1_i32_58 k0_t2
  let c256_i32_72 : BitVec 32 := 256#32
  let v203 : BitVec 32 := Scalar.muli arg9 c256_i32_72
  v203
def k0_off3 (i : grid0.Coords) (k0_t1 : Fin k0_t1_loop.trips) (k0_t2 : Fin (k0_t2_loop i).trips) : Fin 4 → Nat :=
  let c0_73 : Index := 0#32
  let c0_i32_4 : BitVec 32 := 0#32
  let c1_i32_5 : BitVec 32 := 1#32
  let arg8 : BitVec 32 := Scf.iv c0_i32_4 c1_i32_5 k0_t1
  let v205 : Index := Scalar.indexCast arg8
  let c0_i32_56 : BitVec 32 := 0#32
  let c1_i32_58 : BitVec 32 := 1#32
  let arg9 : BitVec 32 := Scf.iv c0_i32_56 c1_i32_58 k0_t2
  let c256_i32_72 : BitVec 32 := 256#32
  let v203 : BitVec 32 := Scalar.muli arg9 c256_i32_72
  let v204 : BitVec 32 := v203
  let v206 : Index := Scalar.indexCast v204
  let c0_74 : Index := 0#32
  ![0, v205.toNat, v206.toNat, 0]
def k0_off4 (i : grid0.Coords) (k0_t2 : Fin (k0_t2_loop i).trips) : Fin 3 → Nat :=
  let c0_i32_56 : BitVec 32 := 0#32
  let c1_i32_58 : BitVec 32 := 1#32
  let arg9 : BitVec 32 := Scf.iv c0_i32_56 c1_i32_58 k0_t2
  let v229 : Index := Scalar.indexCast arg9
  let c0_83 : Index := 0#32
  let c0_84 : Index := 0#32
  ![v229.toNat, 0, 0]
@[reducible] def k0_t3_loop (i : grid0.Coords) : Scf.Loop 32 :=
  let c0_i32_56 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c1_i32_54 : BitVec 32 := 1#32
  let v174 : BitVec 32 := Scalar.addi v17 c1_i32_54
  let v176 : BitVec 32 := Scalar.subi v174 c0_i32_56
  let c1_i32_57 : BitVec 32 := 1#32
  let v178 : BitVec 32 := Scalar.divsi v176 c1_i32_57
  let v179 : BitVec 32 := Scalar.muli v178 c1_i32_57
  let v180 : BitVec 32 := Scalar.addi c0_i32_56 v179
  let v177 : BitVec 32 := Scalar.addi c0_i32_56 v176
  let c1_i32_59 : BitVec 32 := 1#32
  ⟨v180, v177, c1_i32_59⟩
def k0_mult2 (i : grid0.Coords) (k0_t3 : Fin (k0_t3_loop i).trips) : BitVec 32 :=
  let c0_i32_56 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c1_i32_54 : BitVec 32 := 1#32
  let v174 : BitVec 32 := Scalar.addi v17 c1_i32_54
  let v176 : BitVec 32 := Scalar.subi v174 c0_i32_56
  let c1_i32_57 : BitVec 32 := 1#32
  let v178 : BitVec 32 := Scalar.divsi v176 c1_i32_57
  let v179 : BitVec 32 := Scalar.muli v178 c1_i32_57
  let v180 : BitVec 32 := Scalar.addi c0_i32_56 v179
  let c1_i32_59 : BitVec 32 := 1#32
  let arg9 : BitVec 32 := Scf.iv v180 c1_i32_59 k0_t3
  let c256_i32_72 : BitVec 32 := 256#32
  let v203 : BitVec 32 := Scalar.muli arg9 c256_i32_72
  v203
def k0_off5 (i : grid0.Coords) (k0_t1 : Fin k0_t1_loop.trips) (k0_t3 : Fin (k0_t3_loop i).trips) : Fin 4 → Nat :=
  let c0_73 : Index := 0#32
  let c0_i32_4 : BitVec 32 := 0#32
  let c1_i32_5 : BitVec 32 := 1#32
  let arg8 : BitVec 32 := Scf.iv c0_i32_4 c1_i32_5 k0_t1
  let v205 : Index := Scalar.indexCast arg8
  let c0_i32_56 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c1_i32_54 : BitVec 32 := 1#32
  let v174 : BitVec 32 := Scalar.addi v17 c1_i32_54
  let v176 : BitVec 32 := Scalar.subi v174 c0_i32_56
  let c1_i32_57 : BitVec 32 := 1#32
  let v178 : BitVec 32 := Scalar.divsi v176 c1_i32_57
  let v179 : BitVec 32 := Scalar.muli v178 c1_i32_57
  let v180 : BitVec 32 := Scalar.addi c0_i32_56 v179
  let c1_i32_59 : BitVec 32 := 1#32
  let arg9 : BitVec 32 := Scf.iv v180 c1_i32_59 k0_t3
  let c256_i32_72 : BitVec 32 := 256#32
  let v203 : BitVec 32 := Scalar.muli arg9 c256_i32_72
  let v204 : BitVec 32 := v203
  let v206 : Index := Scalar.indexCast v204
  let c0_74 : Index := 0#32
  ![0, v205.toNat, v206.toNat, 0]
def k0_off6 (i : grid0.Coords) (k0_t3 : Fin (k0_t3_loop i).trips) : Fin 3 → Nat :=
  let c0_i32_56 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c1_i32_54 : BitVec 32 := 1#32
  let v174 : BitVec 32 := Scalar.addi v17 c1_i32_54
  let v176 : BitVec 32 := Scalar.subi v174 c0_i32_56
  let c1_i32_57 : BitVec 32 := 1#32
  let v178 : BitVec 32 := Scalar.divsi v176 c1_i32_57
  let v179 : BitVec 32 := Scalar.muli v178 c1_i32_57
  let v180 : BitVec 32 := Scalar.addi c0_i32_56 v179
  let c1_i32_59 : BitVec 32 := 1#32
  let arg9 : BitVec 32 := Scf.iv v180 c1_i32_59 k0_t3
  let v229 : Index := Scalar.indexCast arg9
  let c0_83 : Index := 0#32
  let c0_84 : Index := 0#32
  ![v229.toNat, 0, 0]
@[reducible] def k0_t4_loop (i : grid0.Coords) : Scf.Loop 32 :=
  let c0_i32_64 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c1_i32_61 : BitVec 32 := 1#32
  let v185 : BitVec 32 := Scalar.addi v17 c1_i32_61
  let v188 : BitVec 32 := Scalar.subi v185 c0_i32_64
  let c1_i32_65 : BitVec 32 := 1#32
  let v190 : BitVec 32 := Scalar.divsi v188 c1_i32_65
  let v191 : BitVec 32 := Scalar.muli v190 c1_i32_65
  let v192 : BitVec 32 := Scalar.addi c0_i32_64 v191
  let c1_i32_66 : BitVec 32 := 1#32
  ⟨c0_i32_64, v192, c1_i32_66⟩
def k0_mult3 (i : grid0.Coords) (k0_t4 : Fin (k0_t4_loop i).trips) : BitVec 32 :=
  let c0_i32_64 : BitVec 32 := 0#32
  let c1_i32_66 : BitVec 32 := 1#32
  let arg9 : BitVec 32 := Scf.iv c0_i32_64 c1_i32_66 k0_t4
  let c256_i32_72 : BitVec 32 := 256#32
  let v203 : BitVec 32 := Scalar.muli arg9 c256_i32_72
  v203
def k0_off7 (i : grid0.Coords) (k0_t4 : Fin (k0_t4_loop i).trips) : Fin 3 → Nat :=
  let c0_i32_64 : BitVec 32 := 0#32
  let c1_i32_66 : BitVec 32 := 1#32
  let arg9 : BitVec 32 := Scf.iv c0_i32_64 c1_i32_66 k0_t4
  let v205 : Index := Scalar.indexCast arg9
  let c0_73 : Index := 0#32
  let c0_74 : Index := 0#32
  ![v205.toNat, 0, 0]
def k0_off8 (i : grid0.Coords) (k0_t1 : Fin k0_t1_loop.trips) (k0_t4 : Fin (k0_t4_loop i).trips) : Fin 4 → Nat :=
  let c0_75 : Index := 0#32
  let c0_i32_4 : BitVec 32 := 0#32
  let c1_i32_5 : BitVec 32 := 1#32
  let arg8 : BitVec 32 := Scf.iv c0_i32_4 c1_i32_5 k0_t1
  let v212 : Index := Scalar.indexCast arg8
  let c0_i32_64 : BitVec 32 := 0#32
  let c1_i32_66 : BitVec 32 := 1#32
  let arg9 : BitVec 32 := Scf.iv c0_i32_64 c1_i32_66 k0_t4
  let c256_i32_72 : BitVec 32 := 256#32
  let v203 : BitVec 32 := Scalar.muli arg9 c256_i32_72
  let v204 : BitVec 32 := v203
  let v213 : Index := Scalar.indexCast v204
  let c0_76 : Index := 0#32
  ![0, v212.toNat, v213.toNat, 0]
@[reducible] def k0_t5_loop (i : grid0.Coords) : Scf.Loop 32 :=
  let c0_i32_64 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c1_i32_61 : BitVec 32 := 1#32
  let v185 : BitVec 32 := Scalar.addi v17 c1_i32_61
  let v188 : BitVec 32 := Scalar.subi v185 c0_i32_64
  let c1_i32_65 : BitVec 32 := 1#32
  let v190 : BitVec 32 := Scalar.divsi v188 c1_i32_65
  let v191 : BitVec 32 := Scalar.muli v190 c1_i32_65
  let v192 : BitVec 32 := Scalar.addi c0_i32_64 v191
  let v189 : BitVec 32 := Scalar.addi c0_i32_64 v188
  let c1_i32_67 : BitVec 32 := 1#32
  ⟨v192, v189, c1_i32_67⟩
def k0_mult4 (i : grid0.Coords) (k0_t5 : Fin (k0_t5_loop i).trips) : BitVec 32 :=
  let c0_i32_64 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c1_i32_61 : BitVec 32 := 1#32
  let v185 : BitVec 32 := Scalar.addi v17 c1_i32_61
  let v188 : BitVec 32 := Scalar.subi v185 c0_i32_64
  let c1_i32_65 : BitVec 32 := 1#32
  let v190 : BitVec 32 := Scalar.divsi v188 c1_i32_65
  let v191 : BitVec 32 := Scalar.muli v190 c1_i32_65
  let v192 : BitVec 32 := Scalar.addi c0_i32_64 v191
  let c1_i32_67 : BitVec 32 := 1#32
  let arg9 : BitVec 32 := Scf.iv v192 c1_i32_67 k0_t5
  let c256_i32_72 : BitVec 32 := 256#32
  let v203 : BitVec 32 := Scalar.muli arg9 c256_i32_72
  v203
def k0_off9 (i : grid0.Coords) (k0_t5 : Fin (k0_t5_loop i).trips) : Fin 3 → Nat :=
  let c0_i32_64 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c1_i32_61 : BitVec 32 := 1#32
  let v185 : BitVec 32 := Scalar.addi v17 c1_i32_61
  let v188 : BitVec 32 := Scalar.subi v185 c0_i32_64
  let c1_i32_65 : BitVec 32 := 1#32
  let v190 : BitVec 32 := Scalar.divsi v188 c1_i32_65
  let v191 : BitVec 32 := Scalar.muli v190 c1_i32_65
  let v192 : BitVec 32 := Scalar.addi c0_i32_64 v191
  let c1_i32_67 : BitVec 32 := 1#32
  let arg9 : BitVec 32 := Scf.iv v192 c1_i32_67 k0_t5
  let v205 : Index := Scalar.indexCast arg9
  let c0_73 : Index := 0#32
  let c0_74 : Index := 0#32
  ![v205.toNat, 0, 0]
def k0_off10 (i : grid0.Coords) (k0_t1 : Fin k0_t1_loop.trips) (k0_t5 : Fin (k0_t5_loop i).trips) : Fin 4 → Nat :=
  let c0_75 : Index := 0#32
  let c0_i32_4 : BitVec 32 := 0#32
  let c1_i32_5 : BitVec 32 := 1#32
  let arg8 : BitVec 32 := Scf.iv c0_i32_4 c1_i32_5 k0_t1
  let v212 : Index := Scalar.indexCast arg8
  let c0_i32_64 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let c1_i32_61 : BitVec 32 := 1#32
  let v185 : BitVec 32 := Scalar.addi v17 c1_i32_61
  let v188 : BitVec 32 := Scalar.subi v185 c0_i32_64
  let c1_i32_65 : BitVec 32 := 1#32
  let v190 : BitVec 32 := Scalar.divsi v188 c1_i32_65
  let v191 : BitVec 32 := Scalar.muli v190 c1_i32_65
  let v192 : BitVec 32 := Scalar.addi c0_i32_64 v191
  let c1_i32_67 : BitVec 32 := 1#32
  let arg9 : BitVec 32 := Scf.iv v192 c1_i32_67 k0_t5
  let c256_i32_72 : BitVec 32 := 256#32
  let v203 : BitVec 32 := Scalar.muli arg9 c256_i32_72
  let v204 : BitVec 32 := v203
  let v213 : Index := Scalar.indexCast v204
  let c0_76 : Index := 0#32
  ![0, v212.toNat, v213.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MobaIdeal.lean ====
variable {F : FTy → Type} [FloatOps F] [Named F]
def κ : String → Option EReal := fun
  | "mask" => some ⊥
  | _ => none
-- ==== MobaRef.lean ====
abbrev S16x2048x512 : Shape := ⟨3, ![16, 2048, 512]⟩
abbrev S16x8x512 : Shape := ⟨3, ![16, 8, 512]⟩
abbrev S16x2048x8x64 : Shape := ⟨4, ![16, 2048, 8, 64]⟩
abbrev S16x8x2048x64 : Shape := ⟨4, ![16, 8, 2048, 64]⟩
abbrev S16x8x8x64 : Shape := ⟨4, ![16, 8, 8, 64]⟩
abbrev S2048 : Shape := ⟨1, ![2048]⟩
abbrev S8 : Shape := ⟨1, ![8]⟩
abbrev S8x256 : Shape := ⟨2, ![8, 256]⟩
abbrev S16x8x2048x8 : Shape := ⟨4, ![16, 8, 2048, 8]⟩
abbrev S2048x1 : Shape := ⟨2, ![2048, 1]⟩
abbrev S1x8 : Shape := ⟨2, ![1, 8]⟩
abbrev S2048x8 : Shape := ⟨2, ![2048, 8]⟩
abbrev S_ : Shape := ⟨0, ![]⟩
abbrev S16x8x2048x3 : Shape := ⟨4, ![16, 8, 2048, 3]⟩
abbrev S16x8x2048x1 : Shape := ⟨4, ![16, 8, 2048, 1]⟩
abbrev S1x1x1x8 : Shape := ⟨4, ![1, 1, 1, 8]⟩
abbrev S1x1x2048x8 : Shape := ⟨4, ![1, 1, 2048, 8]⟩
abbrev S16x8x2048x8x256 : Shape := ⟨5, ![16, 8, 2048, 8, 256]⟩
abbrev S16x8x2048x2048 : Shape := ⟨4, ![16, 8, 2048, 2048]⟩
abbrev S1x2048 : Shape := ⟨2, ![1, 2048]⟩
abbrev S2048x2048 : Shape := ⟨2, ![2048, 2048]⟩
abbrev S1x1x2048x2048 : Shape := ⟨4, ![1, 1, 2048, 2048]⟩
abbrev S16x8x2048 : Shape := ⟨3, ![16, 8, 2048]⟩

abbrev nBuf : Space → Nat
  | .hbm => 97
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S16x8x512, .f32⟩
  | .hbm, ⟨4, _⟩ => ⟨S16x2048x8x64, .f32⟩
  | .hbm, ⟨5, _⟩ => ⟨S16x8x2048x64, .f32⟩
  | .hbm, ⟨6, _⟩ => ⟨S16x2048x8x64, .f32⟩
  | .hbm, ⟨7, _⟩ => ⟨S16x8x2048x64, .f32⟩
  | .hbm, ⟨8, _⟩ => ⟨S16x2048x8x64, .f32⟩
  | .hbm, ⟨9, _⟩ => ⟨S16x8x2048x64, .f32⟩
  | .hbm, ⟨10, _⟩ => ⟨S16x8x8x64, .f32⟩
  | .hbm, ⟨11, _⟩ => ⟨S16x8x8x64, .f32⟩
  | .hbm, ⟨12, _⟩ => ⟨S2048, .i32⟩
  | .hbm, ⟨13, _⟩ => ⟨S8, .i32⟩
  | .hbm, ⟨14, _⟩ => ⟨S8x256, .i32⟩
  | .hbm, ⟨15, _⟩ => ⟨S2048, .i32⟩
  | .hbm, ⟨16, _⟩ => ⟨S16x8x2048x8, .f32⟩
  | .hbm, ⟨17, _⟩ => ⟨S2048x1, .i32⟩
  | .hbm, ⟨18, _⟩ => ⟨S1x8, .i32⟩
  | .hbm, ⟨19, _⟩ => ⟨S2048x8, .i32⟩
  | .hbm, ⟨20, _⟩ => ⟨S2048x8, .i32⟩
  | .hbm, ⟨21, _⟩ => ⟨S2048x8, .i1⟩
  | .hbm, ⟨22, _⟩ => ⟨S_, .f32⟩
  | .hbm, ⟨23, _⟩ => ⟨S_, .f32⟩
  | .hbm, ⟨24, _⟩ => ⟨S16x8x2048x8, .i1⟩
  | .hbm, ⟨25, _⟩ => ⟨S16x8x2048x8, .f32⟩
  | .hbm, ⟨26, _⟩ => ⟨S16x8x2048x8, .f32⟩
  | .hbm, ⟨27, _⟩ => ⟨S16x8x2048x3, .f32⟩
  | .hbm, ⟨28, _⟩ => ⟨S16x8x2048x3, .i32⟩
  | .hbm, ⟨29, _⟩ => ⟨S16x8x2048x1, .i32⟩
  | .hbm, ⟨30, _⟩ => ⟨S1x1x1x8, .i32⟩
  | .hbm, ⟨31, _⟩ => ⟨S16x8x2048x8, .i32⟩
  | .hbm, ⟨32, _⟩ => ⟨S16x8x2048x8, .i32⟩
  | .hbm, ⟨33, _⟩ => ⟨S16x8x2048x8, .i1⟩
  | .hbm, ⟨34, _⟩ => ⟨S16x8x2048x1, .i32⟩
  | .hbm, ⟨35, _⟩ => ⟨S1x1x1x8, .i32⟩
  | .hbm, ⟨36, _⟩ => ⟨S16x8x2048x8, .i32⟩
  | .hbm, ⟨37, _⟩ => ⟨S16x8x2048x8, .i32⟩
  | .hbm, ⟨38, _⟩ => ⟨S16x8x2048x8, .i1⟩
  | .hbm, ⟨39, _⟩ => ⟨S16x8x2048x8, .i1⟩
  | .hbm, ⟨40, _⟩ => ⟨S16x8x2048x1, .i32⟩
  | .hbm, ⟨41, _⟩ => ⟨S1x1x1x8, .i32⟩
  | .hbm, ⟨42, _⟩ => ⟨S16x8x2048x8, .i32⟩
  | .hbm, ⟨43, _⟩ => ⟨S16x8x2048x8, .i32⟩
  | .hbm, ⟨44, _⟩ => ⟨S16x8x2048x8, .i1⟩
  | .hbm, ⟨45, _⟩ => ⟨S16x8x2048x8, .i1⟩
  | .hbm, ⟨46, _⟩ => ⟨S2048x1, .i32⟩
  | .hbm, ⟨47, _⟩ => ⟨S1x8, .i32⟩
  | .hbm, ⟨48, _⟩ => ⟨S2048x8, .i32⟩
  | .hbm, ⟨49, _⟩ => ⟨S2048x8, .i32⟩
  | .hbm, ⟨50, _⟩ => ⟨S2048x8, .i1⟩
  | .hbm, ⟨51, _⟩ => ⟨S1x1x2048x8, .i1⟩
  | .hbm, ⟨52, _⟩ => ⟨S16x8x2048x8, .i1⟩
  | .hbm, ⟨53, _⟩ => ⟨S16x8x2048x8, .i1⟩
  | .hbm, ⟨54, _⟩ => ⟨S16x8x2048x8x256, .i1⟩
  | .hbm, ⟨55, _⟩ => ⟨S16x8x2048x2048, .i1⟩
  | .hbm, ⟨56, _⟩ => ⟨S2048x1, .i32⟩
  | .hbm, ⟨57, _⟩ => ⟨S1x2048, .i32⟩
  | .hbm, ⟨58, _⟩ => ⟨S2048x2048, .i32⟩
  | .hbm, ⟨59, _⟩ => ⟨S2048x2048, .i32⟩
  | .hbm, ⟨60, _⟩ => ⟨S2048x2048, .i1⟩
  | .hbm, ⟨61, _⟩ => ⟨S2048x1, .i32⟩
  | .hbm, ⟨62, _⟩ => ⟨S1x2048, .i32⟩
  | .hbm, ⟨63, _⟩ => ⟨S2048x2048, .i32⟩
  | .hbm, ⟨64, _⟩ => ⟨S2048x2048, .i32⟩
  | .hbm, ⟨65, _⟩ => ⟨S2048x2048, .i1⟩
  | .hbm, ⟨66, _⟩ => ⟨S2048x2048, .i1⟩
  | .hbm, ⟨67, _⟩ => ⟨S16x8x2048x2048, .f32⟩
  | .hbm, ⟨68, _⟩ => ⟨S_, .f32⟩
  | .hbm, ⟨69, _⟩ => ⟨S16x8x2048x2048, .f32⟩
  | .hbm, ⟨70, _⟩ => ⟨S16x8x2048x2048, .f32⟩
  | .hbm, ⟨71, _⟩ => ⟨S1x1x2048x2048, .i1⟩
  | .hbm, ⟨72, _⟩ => ⟨S16x8x2048x2048, .i1⟩
  | .hbm, ⟨73, _⟩ => ⟨S16x8x2048x2048, .i1⟩
  | .hbm, ⟨74, _⟩ => ⟨S_, .f32⟩
  | .hbm, ⟨75, _⟩ => ⟨S_, .f32⟩
  | .hbm, ⟨76, _⟩ => ⟨S16x8x2048x2048, .f32⟩
  | .hbm, ⟨77, _⟩ => ⟨S16x8x2048x2048, .f32⟩
  | .hbm, ⟨78, _⟩ => ⟨S_, .f32⟩
  | .hbm, ⟨79, _⟩ => ⟨S16x8x2048, .f32⟩
  | .hbm, ⟨80, _⟩ => ⟨S_, .f32⟩
  | .hbm, ⟨81, _⟩ => ⟨S16x8x2048, .f32⟩
  | .hbm, ⟨82, _⟩ => ⟨S16x8x2048, .f32⟩
  | .hbm, ⟨83, _⟩ => ⟨S16x8x2048x1, .f32⟩
  | .hbm, ⟨84, _⟩ => ⟨S16x8x2048x2048, .f32⟩
  | .hbm, ⟨85, _⟩ => ⟨S16x8x2048x2048, .f32⟩
  | .hbm, ⟨86, _⟩ => ⟨S16x8x2048x2048, .f32⟩
  | .hbm, ⟨87, _⟩ => ⟨S_, .f32⟩
  | .hbm, ⟨88, _⟩ => ⟨S16x8x2048, .f32⟩
  | .hbm, ⟨89, _⟩ => ⟨S16x8x2048x1, .f32⟩
  | .hbm, ⟨90, _⟩ => ⟨S16x8x2048x2048, .f32⟩
  | .hbm, ⟨91, _⟩ => ⟨S16x8x2048x2048, .f32⟩
  | .hbm, ⟨92, _⟩ => ⟨S_, .f32⟩
  | .hbm, ⟨93, _⟩ => ⟨S_, .f32⟩
  | .hbm, ⟨94, _⟩ => ⟨S16x8x2048x2048, .f32⟩
  | .hbm, ⟨95, _⟩ => ⟨S16x8x2048x2048, .f32⟩
  | .hbm, ⟨96, _⟩ => ⟨S16x8x2048x64, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v18 : Ref sig .tc := ⟨.hbm, 26, rfl⟩
abbrev main_values : Ref sig .tc := ⟨.hbm, 27, rfl⟩
abbrev main_indices : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_0 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_1 : Ref sig .tc := ⟨.hbm, 74, rfl⟩
abbrev main_call1_v0 : Ref sig .tc := ⟨.hbm, 75, rfl⟩
abbrev main_call1_v1 : Ref sig .tc := ⟨.hbm, 76, rfl⟩
abbrev main_v63 : Ref sig .tc := ⟨.hbm, 77, rfl⟩
abbrev main_cst_2 : Ref sig .tc := ⟨.hbm, 78, rfl⟩
abbrev main_v64 : Ref sig .tc := ⟨.hbm, 79, rfl⟩
abbrev main_cst_3 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_4 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_5 : Ref sig .tc := ⟨.hbm, 92, rfl⟩
abbrev main_call2_v0 : Ref sig .tc := ⟨.hbm, 93, rfl⟩
abbrev main_call2_v1 : Ref sig .tc := ⟨.hbm, 94, rfl⟩
abbrev main_v75 : Ref sig .tc := ⟨.hbm, 95, rfl⟩
abbrev main_v76 : Ref sig .tc := ⟨.hbm, 96, rfl⟩

abbrev nD : Nat := 1
abbrev τ : Topo := Topo.v7x

variable {F : FTy → Type} [FloatOps F]
-- ==== Ffn.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 10
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRef.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S_, .f32⟩
  | .hbm, ⟨25, _⟩ => ⟨S32768x2816, .f32⟩
  | .hbm, ⟨26, _⟩ => ⟨S32768x2816, .f32⟩
  | .hbm, ⟨27, _⟩ => ⟨S_, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S_, .f32⟩
  | .hbm, ⟨35, _⟩ => ⟨S32768x1024, .f32⟩
  | .hbm, ⟨36, _⟩ => ⟨S32768x1024, .f32⟩
  | .hbm, ⟨37, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== FfnLast.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 12
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnLastRef.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== OutEven.lean ====
abbrev S32768x1024 : Shape := ⟨2, ![32768, 1024]⟩
abbrev S32768x256 : Shape := ⟨2, ![32768, 256]⟩
abbrev S32768x768 : Shape := ⟨2, ![32768, 768]⟩
abbrev S1024x1024 : Shape := ⟨2, ![1024, 1024]⟩
abbrev S256x1024 : Shape := ⟨2, ![256, 1024]⟩
abbrev S768x1024 : Shape := ⟨2, ![768, 1024]⟩
abbrev S512x1024 : Shape := ⟨2, ![512, 1024]⟩
abbrev S512x256 : Shape := ⟨2, ![512, 256]⟩
abbrev S512x768 : Shape := ⟨2, ![512, 768]⟩

abbrev nBuf : Space → Nat
  | .hbm => 9
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x768, .f32⟩
  | .hbm, ⟨3, _⟩ => ⟨S1024x1024, .f32⟩
  | .hbm, ⟨4, _⟩ => ⟨S256x1024, .f32⟩
  | .hbm, ⟨5, _⟩ => ⟨S256x1024, .bf16⟩
  | .hbm, ⟨6, _⟩ => ⟨S768x1024, .f32⟩
  | .hbm, ⟨7, _⟩ => ⟨S768x1024, .bf16⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x768, .f32⟩
  | .local _ .vmem, ⟨5, _⟩ => ⟨S512x768, .f32⟩
  | .local _ .vmem, ⟨6, _⟩ => ⟨S256x1024, .bf16⟩
  | .local _ .vmem, ⟨7, _⟩ => ⟨S768x1024, .bf16⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutEvenIdeal.lean ====
abbrev S32768x1024 : Shape := ⟨2, ![32768, 1024]⟩
abbrev S32768x256 : Shape := ⟨2, ![32768, 256]⟩
abbrev S32768x768 : Shape := ⟨2, ![32768, 768]⟩
abbrev S1024x1024 : Shape := ⟨2, ![1024, 1024]⟩
abbrev S256x1024 : Shape := ⟨2, ![256, 1024]⟩
abbrev S768x1024 : Shape := ⟨2, ![768, 1024]⟩
abbrev S512x1024 : Shape := ⟨2, ![512, 1024]⟩
abbrev S512x256 : Shape := ⟨2, ![512, 256]⟩
abbrev S512x768 : Shape := ⟨2, ![512, 768]⟩

abbrev nBuf : Space → Nat
  | .hbm => 9
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x768, .f32⟩
  | .hbm, ⟨3, _⟩ => ⟨S1024x1024, .f32⟩
  | .hbm, ⟨4, _⟩ => ⟨S256x1024, .f32⟩
  | .hbm, ⟨5, _⟩ => ⟨S256x1024, .bf16⟩
  | .hbm, ⟨6, _⟩ => ⟨S768x1024, .f32⟩
  | .hbm, ⟨7, _⟩ => ⟨S768x1024, .bf16⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x768, .f32⟩
  | .local _ .vmem, ⟨5, _⟩ => ⟨S512x768, .f32⟩
  | .local _ .vmem, ⟨6, _⟩ => ⟨S256x1024, .bf16⟩
  | .local _ .vmem, ⟨7, _⟩ => ⟨S768x1024, .bf16⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutEvenRefIdeal.lean ====
abbrev S32768x256 : Shape := ⟨2, ![32768, 256]⟩
abbrev S32768x768 : Shape := ⟨2, ![32768, 768]⟩
  | .hbm, ⟨1, _⟩ => ⟨S32768x256, .f32⟩
  | .hbm, ⟨2, _⟩ => ⟨S32768x768, .f32⟩
-- ==== OutEvenRef.lean ====
abbrev S32768x1024 : Shape := ⟨2, ![32768, 1024]⟩
abbrev S32768x256 : Shape := ⟨2, ![32768, 256]⟩
abbrev S32768x768 : Shape := ⟨2, ![32768, 768]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x768, .f32⟩
  | .hbm, ⟨3, _⟩ => ⟨S1024x1024, .f32⟩
  | .hbm, ⟨4, _⟩ => ⟨S32768x1024, .f32⟩
  | .hbm, ⟨5, _⟩ => ⟨S32768x1024, .f32⟩
  | .hbm, ⟨6, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== OutOdd.lean ====
abbrev S32768x1024 : Shape := ⟨2, ![32768, 1024]⟩
abbrev S32768x512 : Shape := ⟨2, ![32768, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 9
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S1024x1024, .f32⟩
  | .hbm, ⟨4, _⟩ => ⟨S512x1024, .f32⟩
  | .hbm, ⟨5, _⟩ => ⟨S512x1024, .bf16⟩
  | .hbm, ⟨6, _⟩ => ⟨S512x1024, .f32⟩
  | .hbm, ⟨7, _⟩ => ⟨S512x1024, .bf16⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutOddRef.lean ====
abbrev S32768x1024 : Shape := ⟨2, ![32768, 1024]⟩
abbrev S32768x512 : Shape := ⟨2, ![32768, 512]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S1024x1024, .f32⟩
  | .hbm, ⟨4, _⟩ => ⟨S32768x1024, .f32⟩
  | .hbm, ⟨5, _⟩ => ⟨S32768x1024, .f32⟩
  | .hbm, ⟨6, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== InEven.lean ====
abbrev S32768x1024 : Shape := ⟨2, ![32768, 1024]⟩
abbrev S16x2048 : Shape := ⟨2, ![16, 2048]⟩
abbrev S1024 : Shape := ⟨1, ![1024]⟩
abbrev S1024x2468 : Shape := ⟨2, ![1024, 2468]⟩
abbrev S8 : Shape := ⟨1, ![8]⟩
abbrev S_ : Shape := ⟨0, ![]⟩
abbrev S32768x1 : Shape := ⟨2, ![32768, 1]⟩
abbrev S1x8 : Shape := ⟨2, ![1, 8]⟩
abbrev S32768x8 : Shape := ⟨2, ![32768, 8]⟩
abbrev S32768x48 : Shape := ⟨2, ![32768, 48]⟩
abbrev S32768x64 : Shape := ⟨2, ![32768, 64]⟩
abbrev S1x32768x1x64 : Shape := ⟨4, ![1, 32768, 1, 64]⟩
abbrev S1x32768x2x64 : Shape := ⟨4, ![1, 32768, 2, 64]⟩
abbrev S32768x128 : Shape := ⟨2, ![32768, 128]⟩
abbrev S1x32768x128 : Shape := ⟨3, ![1, 32768, 128]⟩
abbrev S3x32768x128 : Shape := ⟨3, ![3, 32768, 128]⟩
abbrev S4 : Shape := ⟨1, ![4]⟩
abbrev S1x4 : Shape := ⟨2, ![1, 4]⟩
abbrev S32768x4 : Shape := ⟨2, ![32768, 4]⟩
abbrev S32768x24 : Shape := ⟨2, ![32768, 24]⟩
abbrev S32768x32 : Shape := ⟨2, ![32768, 32]⟩
abbrev S1x32768x1x32 : Shape := ⟨4, ![1, 32768, 1, 32]⟩
abbrev S1x32768x4x32 : Shape := ⟨4, ![1, 32768, 4, 32]⟩
abbrev S1024x512 : Shape := ⟨2, ![1024, 512]⟩
abbrev S1024x768 : Shape := ⟨2, ![1024, 768]⟩
abbrev S1024x192 : Shape := ⟨2, ![1024, 192]⟩
abbrev S1024x384 : Shape := ⟨2, ![1024, 384]⟩
abbrev S1024x36 : Shape := ⟨2, ![1024, 36]⟩
abbrev S1024x128 : Shape := ⟨2, ![1024, 128]⟩
abbrev S1x1024 : Shape := ⟨2, ![1, 1024]⟩
abbrev S32768x512 : Shape := ⟨2, ![32768, 512]⟩
abbrev S32768x768 : Shape := ⟨2, ![32768, 768]⟩
abbrev S32768x384 : Shape := ⟨2, ![32768, 384]⟩
abbrev S512x1024 : Shape := ⟨2, ![512, 1024]⟩
abbrev S3x512x128 : Shape := ⟨3, ![3, 512, 128]⟩
abbrev S512x512 : Shape := ⟨2, ![512, 512]⟩
abbrev S512x768 : Shape := ⟨2, ![512, 768]⟩
abbrev S512x384 : Shape := ⟨2, ![512, 384]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩

abbrev nBuf : Space → Nat
  | .hbm => 120
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S16x2048, .i32⟩
  | .hbm, ⟨2, _⟩ => ⟨S1024, .f32⟩
  | .hbm, ⟨3, _⟩ => ⟨S1024x2468, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S16x2048, .f32⟩
  | .hbm, ⟨19, _⟩ => ⟨S32768x1, .f32⟩
  | .hbm, ⟨20, _⟩ => ⟨S1x8, .f32⟩
  | .hbm, ⟨21, _⟩ => ⟨S32768x8, .f32⟩
  | .hbm, ⟨22, _⟩ => ⟨S32768x8, .f32⟩
  | .hbm, ⟨23, _⟩ => ⟨S32768x8, .f32⟩
  | .hbm, ⟨24, _⟩ => ⟨S32768x8, .f32⟩
  | .hbm, ⟨25, _⟩ => ⟨S32768x8, .f32⟩
  | .hbm, ⟨26, _⟩ => ⟨S_, .f32⟩
  | .hbm, ⟨27, _⟩ => ⟨S32768x48, .f32⟩
  | .hbm, ⟨28, _⟩ => ⟨S_, .f32⟩
  | .hbm, ⟨29, _⟩ => ⟨S32768x48, .f32⟩
  | .hbm, ⟨30, _⟩ => ⟨S_, .f32⟩
  | .hbm, ⟨31, _⟩ => ⟨S32768x8, .f32⟩
  | .hbm, ⟨32, _⟩ => ⟨S32768x64, .f32⟩
  | .hbm, ⟨33, _⟩ => ⟨S32768x8, .f32⟩
  | .hbm, ⟨34, _⟩ => ⟨S32768x64, .f32⟩
  | .hbm, ⟨35, _⟩ => ⟨S32768x64, .f32⟩
  | .hbm, ⟨36, _⟩ => ⟨S1x32768x1x64, .f32⟩
  | .hbm, ⟨37, _⟩ => ⟨S1x32768x2x64, .f32⟩
  | .hbm, ⟨38, _⟩ => ⟨S32768x128, .f32⟩
  | .hbm, ⟨39, _⟩ => ⟨S1x32768x1x64, .f32⟩
  | .hbm, ⟨40, _⟩ => ⟨S1x32768x2x64, .f32⟩
  | .hbm, ⟨41, _⟩ => ⟨S32768x128, .f32⟩
  | .hbm, ⟨42, _⟩ => ⟨S1x32768x1x64, .f32⟩
  | .hbm, ⟨43, _⟩ => ⟨S1x32768x2x64, .f32⟩
  | .hbm, ⟨44, _⟩ => ⟨S32768x128, .f32⟩
  | .hbm, ⟨45, _⟩ => ⟨S1x32768x128, .f32⟩
  | .hbm, ⟨46, _⟩ => ⟨S1x32768x128, .f32⟩
  | .hbm, ⟨47, _⟩ => ⟨S1x32768x128, .f32⟩
  | .hbm, ⟨48, _⟩ => ⟨S3x32768x128, .f32⟩
  | .hbm, ⟨49, _⟩ => ⟨S4, .f32⟩
  | .hbm, ⟨50, _⟩ => ⟨S_, .f32⟩
  | .hbm, ⟨51, _⟩ => ⟨S4, .f32⟩
  | .hbm, ⟨52, _⟩ => ⟨S4, .f32⟩
  | .hbm, ⟨53, _⟩ => ⟨S_, .f32⟩
  | .hbm, ⟨54, _⟩ => ⟨S4, .f32⟩
  | .hbm, ⟨55, _⟩ => ⟨S4, .f32⟩
  | .hbm, ⟨56, _⟩ => ⟨S4, .f32⟩
  | .hbm, ⟨57, _⟩ => ⟨S_, .f32⟩
  | .hbm, ⟨58, _⟩ => ⟨S4, .f32⟩
  | .hbm, ⟨59, _⟩ => ⟨S4, .f32⟩
  | .hbm, ⟨60, _⟩ => ⟨S_, .f32⟩
  | .hbm, ⟨61, _⟩ => ⟨S4, .f32⟩
  | .hbm, ⟨62, _⟩ => ⟨S4, .f32⟩
  | .hbm, ⟨63, _⟩ => ⟨S16x2048, .f32⟩
  | .hbm, ⟨64, _⟩ => ⟨S32768x1, .f32⟩
  | .hbm, ⟨65, _⟩ => ⟨S1x4, .f32⟩
  | .hbm, ⟨66, _⟩ => ⟨S32768x4, .f32⟩
  | .hbm, ⟨67, _⟩ => ⟨S32768x4, .f32⟩
  | .hbm, ⟨68, _⟩ => ⟨S32768x4, .f32⟩
  | .hbm, ⟨69, _⟩ => ⟨S32768x4, .f32⟩
  | .hbm, ⟨70, _⟩ => ⟨S32768x4, .f32⟩
  | .hbm, ⟨71, _⟩ => ⟨S_, .f32⟩
  | .hbm, ⟨72, _⟩ => ⟨S32768x24, .f32⟩
  | .hbm, ⟨73, _⟩ => ⟨S_, .f32⟩
  | .hbm, ⟨74, _⟩ => ⟨S32768x24, .f32⟩
  | .hbm, ⟨75, _⟩ => ⟨S_, .f32⟩
  | .hbm, ⟨76, _⟩ => ⟨S32768x4, .f32⟩
  | .hbm, ⟨77, _⟩ => ⟨S32768x32, .f32⟩
  | .hbm, ⟨78, _⟩ => ⟨S32768x4, .f32⟩
  | .hbm, ⟨79, _⟩ => ⟨S32768x32, .f32⟩
  | .hbm, ⟨80, _⟩ => ⟨S32768x32, .f32⟩
  | .hbm, ⟨81, _⟩ => ⟨S1x32768x1x32, .f32⟩
  | .hbm, ⟨82, _⟩ => ⟨S1x32768x4x32, .f32⟩
  | .hbm, ⟨83, _⟩ => ⟨S32768x128, .f32⟩
  | .hbm, ⟨84, _⟩ => ⟨S1x32768x1x32, .f32⟩
  | .hbm, ⟨85, _⟩ => ⟨S1x32768x4x32, .f32⟩
  | .hbm, ⟨86, _⟩ => ⟨S32768x128, .f32⟩
  | .hbm, ⟨87, _⟩ => ⟨S1x32768x1x32, .f32⟩
  | .hbm, ⟨88, _⟩ => ⟨S1x32768x4x32, .f32⟩
  | .hbm, ⟨89, _⟩ => ⟨S32768x128, .f32⟩
  | .hbm, ⟨90, _⟩ => ⟨S1x32768x128, .f32⟩
  | .hbm, ⟨91, _⟩ => ⟨S1x32768x128, .f32⟩
  | .hbm, ⟨92, _⟩ => ⟨S1x32768x128, .f32⟩
  | .hbm, ⟨93, _⟩ => ⟨S3x32768x128, .f32⟩
  | .hbm, ⟨94, _⟩ => ⟨S1024x512, .f32⟩
  | .hbm, ⟨95, _⟩ => ⟨S1024x768, .f32⟩
  | .hbm, ⟨96, _⟩ => ⟨S1024x192, .f32⟩
  | .hbm, ⟨97, _⟩ => ⟨S1024x192, .f32⟩
  | .hbm, ⟨98, _⟩ => ⟨S1024x192, .f32⟩
  | .hbm, ⟨99, _⟩ => ⟨S1024x192, .f32⟩
  | .hbm, ⟨100, _⟩ => ⟨S1024x768, .f32⟩
  | .hbm, ⟨101, _⟩ => ⟨S1024x192, .f32⟩
  | .hbm, ⟨102, _⟩ => ⟨S1024x192, .f32⟩
  | .hbm, ⟨103, _⟩ => ⟨S1024x384, .f32⟩
  | .hbm, ⟨104, _⟩ => ⟨S1024x36, .f32⟩
  | .hbm, ⟨105, _⟩ => ⟨S_, .i32⟩
  | .hbm, ⟨106, _⟩ => ⟨S_, .f32⟩
  | .hbm, ⟨107, _⟩ => ⟨S1024x128, .f32⟩
  | .hbm, ⟨108, _⟩ => ⟨S1x1024, .f32⟩
  | .hbm, ⟨109, _⟩ => ⟨S1024x512, .bf16⟩
  | .hbm, ⟨110, _⟩ => ⟨S1024x768, .bf16⟩
  | .hbm, ⟨111, _⟩ => ⟨S1024x768, .bf16⟩
  | .hbm, ⟨112, _⟩ => ⟨S1024x384, .bf16⟩
  | .hbm, ⟨113, _⟩ => ⟨S1024x128, .bf16⟩
  | .hbm, ⟨114, _⟩ => ⟨S32768x512, .f32⟩
  | .hbm, ⟨115, _⟩ => ⟨S32768x768, .f32⟩
  | .hbm, ⟨116, _⟩ => ⟨S32768x768, .f32⟩
  | .hbm, ⟨117, _⟩ => ⟨S32768x768, .f32⟩
  | .hbm, ⟨118, _⟩ => ⟨S32768x384, .f32⟩
  | .hbm, ⟨119, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3x512x128, .f32⟩
  | .local _ .vmem, ⟨4, _⟩ => ⟨S3x512x128, .f32⟩
  | .local _ .vmem, ⟨5, _⟩ => ⟨S3x512x128, .f32⟩
  | .local _ .vmem, ⟨6, _⟩ => ⟨S3x512x128, .f32⟩
  | .local _ .vmem, ⟨7, _⟩ => ⟨S1024x512, .bf16⟩
  | .local _ .vmem, ⟨8, _⟩ => ⟨S1024x768, .bf16⟩
  | .local _ .vmem, ⟨9, _⟩ => ⟨S1024x768, .bf16⟩
  | .local _ .vmem, ⟨10, _⟩ => ⟨S1024x384, .bf16⟩
  | .local _ .vmem, ⟨11, _⟩ => ⟨S1024x128, .bf16⟩
  | .local _ .vmem, ⟨12, _⟩ => ⟨S512x512, .f32⟩
  | .local _ .vmem, ⟨13, _⟩ => ⟨S512x512, .f32⟩
  | .local _ .vmem, ⟨14, _⟩ => ⟨S512x768, .f32⟩
  | .local _ .vmem, ⟨15, _⟩ => ⟨S512x768, .f32⟩
  | .local _ .vmem, ⟨16, _⟩ => ⟨S512x768, .f32⟩
  | .local _ .vmem, ⟨17, _⟩ => ⟨S512x768, .f32⟩
  | .local _ .vmem, ⟨18, _⟩ => ⟨S512x768, .f32⟩
  | .local _ .vmem, ⟨19, _⟩ => ⟨S512x768, .f32⟩
  | .local _ .vmem, ⟨20, _⟩ => ⟨S512x384, .f32⟩
  | .local _ .vmem, ⟨21, _⟩ => ⟨S512x384, .f32⟩
  | .local _ .vmem, ⟨22, _⟩ => ⟨S512x128, .f32⟩
  | .local _ .vmem, ⟨23, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_c : Ref sig .tc := ⟨.hbm, 105, rfl⟩
abbrev main_call0_v0 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94_0 : Ref sig .tc := ⟨.hbm, 114, rfl⟩
abbrev main_v94_1 : Ref sig .tc := ⟨.hbm, 115, rfl⟩
abbrev main_v94_2 : Ref sig .tc := ⟨.hbm, 116, rfl⟩
abbrev main_v94_3 : Ref sig .tc := ⟨.hbm, 117, rfl⟩
abbrev main_v94_4 : Ref sig .tc := ⟨.hbm, 118, rfl⟩
abbrev main_v94_5 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== InEvenRef.lean ====
abbrev S32768x1024 : Shape := ⟨2, ![32768, 1024]⟩
abbrev S16x2048 : Shape := ⟨2, ![16, 2048]⟩
abbrev S1024 : Shape := ⟨1, ![1024]⟩
abbrev S1024x2468 : Shape := ⟨2, ![1024, 2468]⟩
abbrev S8 : Shape := ⟨1, ![8]⟩
abbrev S_ : Shape := ⟨0, ![]⟩
abbrev S32768x1 : Shape := ⟨2, ![32768, 1]⟩
abbrev S1x8 : Shape := ⟨2, ![1, 8]⟩
abbrev S32768x8 : Shape := ⟨2, ![32768, 8]⟩
abbrev S32768 : Shape := ⟨1, ![32768]⟩
abbrev S1x1024 : Shape := ⟨2, ![1, 1024]⟩
abbrev S32768x2468 : Shape := ⟨2, ![32768, 2468]⟩
abbrev S32768x512 : Shape := ⟨2, ![32768, 512]⟩
abbrev S32768x768 : Shape := ⟨2, ![32768, 768]⟩
abbrev S32768x192 : Shape := ⟨2, ![32768, 192]⟩
abbrev S32768x36 : Shape := ⟨2, ![32768, 36]⟩
abbrev S32768x128 : Shape := ⟨2, ![32768, 128]⟩
abbrev S32768x12x64 : Shape := ⟨3, ![32768, 12, 64]⟩
abbrev S32768x1x8 : Shape := ⟨3, ![32768, 1, 8]⟩
abbrev S32768x12x8 : Shape := ⟨3, ![32768, 12, 8]⟩
abbrev S32768x12x48 : Shape := ⟨3, ![32768, 12, 48]⟩
abbrev S32768x384 : Shape := ⟨2, ![32768, 384]⟩
abbrev S32768x6x64 : Shape := ⟨3, ![32768, 6, 64]⟩
abbrev S32768x6x8 : Shape := ⟨3, ![32768, 6, 8]⟩
abbrev S32768x6x48 : Shape := ⟨3, ![32768, 6, 48]⟩

abbrev nBuf : Space → Nat
  | .hbm => 101
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x2048, .i32⟩
  | .hbm, ⟨2, _⟩ => ⟨S1024, .f32⟩
  | .hbm, ⟨3, _⟩ => ⟨S1024x2468, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S16x2048, .f32⟩
  | .hbm, ⟨19, _⟩ => ⟨S32768x1, .f32⟩
  | .hbm, ⟨20, _⟩ => ⟨S1x8, .f32⟩
  | .hbm, ⟨21, _⟩ => ⟨S32768x8, .f32⟩
  | .hbm, ⟨22, _⟩ => ⟨S32768x8, .f32⟩
  | .hbm, ⟨23, _⟩ => ⟨S32768x8, .f32⟩
  | .hbm, ⟨24, _⟩ => ⟨S32768x8, .f32⟩
  | .hbm, ⟨25, _⟩ => ⟨S32768x8, .f32⟩
  | .hbm, ⟨26, _⟩ => ⟨S32768x1024, .f32⟩
  | .hbm, ⟨27, _⟩ => ⟨S_, .f32⟩
  | .hbm, ⟨28, _⟩ => ⟨S32768, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S32768x1, .f32⟩
  | .hbm, ⟨37, _⟩ => ⟨S32768x1024, .f32⟩
  | .hbm, ⟨38, _⟩ => ⟨S32768x1024, .f32⟩
  | .hbm, ⟨39, _⟩ => ⟨S1x1024, .f32⟩
  | .hbm, ⟨40, _⟩ => ⟨S32768x1024, .f32⟩
  | .hbm, ⟨41, _⟩ => ⟨S32768x1024, .f32⟩
  | .hbm, ⟨42, _⟩ => ⟨S32768x2468, .f32⟩
  | .hbm, ⟨43, _⟩ => ⟨S32768x512, .f32⟩
  | .hbm, ⟨44, _⟩ => ⟨S32768x768, .f32⟩
  | .hbm, ⟨45, _⟩ => ⟨S32768x192, .f32⟩
  | .hbm, ⟨46, _⟩ => ⟨S32768x192, .f32⟩
  | .hbm, ⟨47, _⟩ => ⟨S32768x192, .f32⟩
  | .hbm, ⟨48, _⟩ => ⟨S32768x192, .f32⟩
  | .hbm, ⟨49, _⟩ => ⟨S32768x192, .f32⟩
  | .hbm, ⟨50, _⟩ => ⟨S32768x192, .f32⟩
  | .hbm, ⟨51, _⟩ => ⟨S32768x36, .f32⟩
  | .hbm, ⟨52, _⟩ => ⟨S_, .i32⟩
  | .hbm, ⟨53, _⟩ => ⟨S_, .f32⟩
  | .hbm, ⟨54, _⟩ => ⟨S32768x128, .f32⟩
  | .hbm, ⟨55, _⟩ => ⟨S32768x128, .f32⟩
  | .hbm, ⟨56, _⟩ => ⟨S32768x128, .f32⟩
  | .hbm, ⟨57, _⟩ => ⟨S_, .f32⟩
  | .hbm, ⟨58, _⟩ => ⟨S32768x128, .f32⟩
  | .hbm, ⟨59, _⟩ => ⟨S32768x128, .f32⟩
  | .hbm, ⟨60, _⟩ => ⟨S_, .f32⟩
  | .hbm, ⟨61, _⟩ => ⟨S32768x128, .f32⟩
  | .hbm, ⟨62, _⟩ => ⟨S32768x128, .f32⟩
  | .hbm, ⟨63, _⟩ => ⟨S32768x12x64, .f32⟩
  | .hbm, ⟨64, _⟩ => ⟨S32768x1x8, .f32⟩
  | .hbm, ⟨65, _⟩ => ⟨S32768x1x8, .f32⟩
  | .hbm, ⟨66, _⟩ => ⟨S32768x12x8, .f32⟩
  | .hbm, ⟨67, _⟩ => ⟨S32768x12x8, .f32⟩
  | .hbm, ⟨68, _⟩ => ⟨S32768x12x48, .f32⟩
  | .hbm, ⟨69, _⟩ => ⟨S32768x12x8, .f32⟩
  | .hbm, ⟨70, _⟩ => ⟨S32768x12x8, .f32⟩
  | .hbm, ⟨71, _⟩ => ⟨S32768x12x8, .f32⟩
  | .hbm, ⟨72, _⟩ => ⟨S32768x12x8, .f32⟩
  | .hbm, ⟨73, _⟩ => ⟨S32768x12x8, .f32⟩
  | .hbm, ⟨74, _⟩ => ⟨S32768x12x8, .f32⟩
  | .hbm, ⟨75, _⟩ => ⟨S32768x12x8, .f32⟩
  | .hbm, ⟨76, _⟩ => ⟨S32768x12x8, .f32⟩
  | .hbm, ⟨77, _⟩ => ⟨S32768x12x8, .f32⟩
  | .hbm, ⟨78, _⟩ => ⟨S32768x12x8, .f32⟩
  | .hbm, ⟨79, _⟩ => ⟨S32768x12x64, .f32⟩
  | .hbm, ⟨80, _⟩ => ⟨S32768x768, .f32⟩
  | .hbm, ⟨81, _⟩ => ⟨S32768x768, .f32⟩
  | .hbm, ⟨82, _⟩ => ⟨S32768x384, .f32⟩
  | .hbm, ⟨83, _⟩ => ⟨S32768x6x64, .f32⟩
  | .hbm, ⟨84, _⟩ => ⟨S32768x1x8, .f32⟩
  | .hbm, ⟨85, _⟩ => ⟨S32768x1x8, .f32⟩
  | .hbm, ⟨86, _⟩ => ⟨S32768x6x8, .f32⟩
  | .hbm, ⟨87, _⟩ => ⟨S32768x6x8, .f32⟩
  | .hbm, ⟨88, _⟩ => ⟨S32768x6x48, .f32⟩
  | .hbm, ⟨89, _⟩ => ⟨S32768x6x8, .f32⟩
  | .hbm, ⟨90, _⟩ => ⟨S32768x6x8, .f32⟩
  | .hbm, ⟨91, _⟩ => ⟨S32768x6x8, .f32⟩
  | .hbm, ⟨92, _⟩ => ⟨S32768x6x8, .f32⟩
  | .hbm, ⟨93, _⟩ => ⟨S32768x6x8, .f32⟩
  | .hbm, ⟨94, _⟩ => ⟨S32768x6x8, .f32⟩
  | .hbm, ⟨95, _⟩ => ⟨S32768x6x8, .f32⟩
  | .hbm, ⟨96, _⟩ => ⟨S32768x6x8, .f32⟩
  | .hbm, ⟨97, _⟩ => ⟨S32768x6x8, .f32⟩
  | .hbm, ⟨98, _⟩ => ⟨S32768x6x8, .f32⟩
  | .hbm, ⟨99, _⟩ => ⟨S32768x6x64, .f32⟩
  | .hbm, ⟨100, _⟩ => ⟨S32768x384, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c : Ref sig .tc := ⟨.hbm, 52, rfl⟩
abbrev main_call0_v0 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩

abbrev nD : Nat := 1
abbrev τ : Topo := Topo.v7x

variable {F : FTy → Type} [FloatOps F]
-- ==== InOdd.lean ====
abbrev S32768x1024 : Shape := ⟨2, ![32768, 1024]⟩
abbrev S16x2048 : Shape := ⟨2, ![16, 2048]⟩
abbrev S1024 : Shape := ⟨1, ![1024]⟩
abbrev S1024x2340 : Shape := ⟨2, ![1024, 2340]⟩
abbrev S8 : Shape := ⟨1, ![8]⟩
abbrev S_ : Shape := ⟨0, ![]⟩
abbrev S32768x1 : Shape := ⟨2, ![32768, 1]⟩
abbrev S1x8 : Shape := ⟨2, ![1, 8]⟩
abbrev S32768x8 : Shape := ⟨2, ![32768, 8]⟩
abbrev S32768x48 : Shape := ⟨2, ![32768, 48]⟩
abbrev S32768x64 : Shape := ⟨2, ![32768, 64]⟩
abbrev S1x32768x1x64 : Shape := ⟨4, ![1, 32768, 1, 64]⟩
abbrev S1x32768x2x64 : Shape := ⟨4, ![1, 32768, 2, 64]⟩
abbrev S32768x128 : Shape := ⟨2, ![32768, 128]⟩
abbrev S1x32768x128 : Shape := ⟨3, ![1, 32768, 128]⟩
abbrev S3x32768x128 : Shape := ⟨3, ![3, 32768, 128]⟩
abbrev S4 : Shape := ⟨1, ![4]⟩
abbrev S1x4 : Shape := ⟨2, ![1, 4]⟩
abbrev S32768x4 : Shape := ⟨2, ![32768, 4]⟩
abbrev S32768x24 : Shape := ⟨2, ![32768, 24]⟩
abbrev S32768x32 : Shape := ⟨2, ![32768, 32]⟩
abbrev S1x32768x1x32 : Shape := ⟨4, ![1, 32768, 1, 32]⟩
abbrev S1x32768x4x32 : Shape := ⟨4, ![1, 32768, 4, 32]⟩
abbrev S1024x512 : Shape := ⟨2, ![1024, 512]⟩
abbrev S1024x64 : Shape := ⟨2, ![1024, 64]⟩
abbrev S1024x128 : Shape := ⟨2, ![1024, 128]⟩
abbrev S1024x32 : Shape := ⟨2, ![1024, 32]⟩
abbrev S1024x4 : Shape := ⟨2, ![1024, 4]⟩
abbrev S1024x1664 : Shape := ⟨2, ![1024, 1664]⟩
abbrev S1024x96 : Shape := ⟨2, ![1024, 96]⟩
abbrev S1024x256 : Shape := ⟨2, ![1024, 256]⟩
abbrev S1024x60 : Shape := ⟨2, ![1024, 60]⟩
abbrev S1024x640 : Shape := ⟨2, ![1024, 640]⟩
abbrev S1x1024 : Shape := ⟨2, ![1, 1024]⟩
abbrev S32768x1664 : Shape := ⟨2, ![32768, 1664]⟩
abbrev S32768x256 : Shape := ⟨2, ![32768, 256]⟩
abbrev S32768x640 : Shape := ⟨2, ![32768, 640]⟩
abbrev S512x1024 : Shape := ⟨2, ![512, 1024]⟩
abbrev S3x512x128 : Shape := ⟨3, ![3, 512, 128]⟩
abbrev S512x1664 : Shape := ⟨2, ![512, 1664]⟩
abbrev S512x256 : Shape := ⟨2, ![512, 256]⟩
abbrev S512x640 : Shape := ⟨2, ![512, 640]⟩
abbrev S512 : Shape := ⟨1, ![512]⟩
abbrev S512x1 : Shape := ⟨2, ![512, 1]⟩
abbrev S1x512x128 : Shape := ⟨3, ![1, 512, 128]⟩
abbrev S512x128 : Shape := ⟨2, ![512, 128]⟩

abbrev nBuf : Space → Nat
  | .hbm => 119
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S16x2048, .i32⟩
  | .hbm, ⟨2, _⟩ => ⟨S1024, .f32⟩
  | .hbm, ⟨3, _⟩ => ⟨S1024x2340, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S16x2048, .f32⟩
  | .hbm, ⟨19, _⟩ => ⟨S32768x1, .f32⟩
  | .hbm, ⟨20, _⟩ => ⟨S1x8, .f32⟩
  | .hbm, ⟨21, _⟩ => ⟨S32768x8, .f32⟩
  | .hbm, ⟨22, _⟩ => ⟨S32768x8, .f32⟩
  | .hbm, ⟨23, _⟩ => ⟨S32768x8, .f32⟩
  | .hbm, ⟨24, _⟩ => ⟨S32768x8, .f32⟩
  | .hbm, ⟨25, _⟩ => ⟨S32768x8, .f32⟩
  | .hbm, ⟨26, _⟩ => ⟨S_, .f32⟩
  | .hbm, ⟨27, _⟩ => ⟨S32768x48, .f32⟩
  | .hbm, ⟨28, _⟩ => ⟨S_, .f32⟩
  | .hbm, ⟨29, _⟩ => ⟨S32768x48, .f32⟩
  | .hbm, ⟨30, _⟩ => ⟨S_, .f32⟩
  | .hbm, ⟨31, _⟩ => ⟨S32768x8, .f32⟩
  | .hbm, ⟨32, _⟩ => ⟨S32768x64, .f32⟩
  | .hbm, ⟨33, _⟩ => ⟨S32768x8, .f32⟩
  | .hbm, ⟨34, _⟩ => ⟨S32768x64, .f32⟩
  | .hbm, ⟨35, _⟩ => ⟨S32768x64, .f32⟩
  | .hbm, ⟨36, _⟩ => ⟨S1x32768x1x64, .f32⟩
  | .hbm, ⟨37, _⟩ => ⟨S1x32768x2x64, .f32⟩
  | .hbm, ⟨38, _⟩ => ⟨S32768x128, .f32⟩
  | .hbm, ⟨39, _⟩ => ⟨S1x32768x1x64, .f32⟩
  | .hbm, ⟨40, _⟩ => ⟨S1x32768x2x64, .f32⟩
  | .hbm, ⟨41, _⟩ => ⟨S32768x128, .f32⟩
  | .hbm, ⟨42, _⟩ => ⟨S1x32768x1x64, .f32⟩
  | .hbm, ⟨43, _⟩ => ⟨S1x32768x2x64, .f32⟩
  | .hbm, ⟨44, _⟩ => ⟨S32768x128, .f32⟩
  | .hbm, ⟨45, _⟩ => ⟨S1x32768x128, .f32⟩
  | .hbm, ⟨46, _⟩ => ⟨S1x32768x128, .f32⟩
  | .hbm, ⟨47, _⟩ => ⟨S1x32768x128, .f32⟩
  | .hbm, ⟨48, _⟩ => ⟨S3x32768x128, .f32⟩
  | .hbm, ⟨49, _⟩ => ⟨S4, .f32⟩
  | .hbm, ⟨50, _⟩ => ⟨S_, .f32⟩
  | .hbm, ⟨51, _⟩ => ⟨S4, .f32⟩
  | .hbm, ⟨52, _⟩ => ⟨S4, .f32⟩
  | .hbm, ⟨53, _⟩ => ⟨S_, .f32⟩
  | .hbm, ⟨54, _⟩ => ⟨S4, .f32⟩
  | .hbm, ⟨55, _⟩ => ⟨S4, .f32⟩
  | .hbm, ⟨56, _⟩ => ⟨S4, .f32⟩
  | .hbm, ⟨57, _⟩ => ⟨S_, .f32⟩
  | .hbm, ⟨58, _⟩ => ⟨S4, .f32⟩
  | .hbm, ⟨59, _⟩ => ⟨S4, .f32⟩
  | .hbm, ⟨60, _⟩ => ⟨S_, .f32⟩
  | .hbm, ⟨61, _⟩ => ⟨S4, .f32⟩
  | .hbm, ⟨62, _⟩ => ⟨S4, .f32⟩
  | .hbm, ⟨63, _⟩ => ⟨S16x2048, .f32⟩
  | .hbm, ⟨64, _⟩ => ⟨S32768x1, .f32⟩
  | .hbm, ⟨65, _⟩ => ⟨S1x4, .f32⟩
  | .hbm, ⟨66, _⟩ => ⟨S32768x4, .f32⟩
  | .hbm, ⟨67, _⟩ => ⟨S32768x4, .f32⟩
  | .hbm, ⟨68, _⟩ => ⟨S32768x4, .f32⟩
  | .hbm, ⟨69, _⟩ => ⟨S32768x4, .f32⟩
  | .hbm, ⟨70, _⟩ => ⟨S32768x4, .f32⟩
  | .hbm, ⟨71, _⟩ => ⟨S_, .f32⟩
  | .hbm, ⟨72, _⟩ => ⟨S32768x24, .f32⟩
  | .hbm, ⟨73, _⟩ => ⟨S_, .f32⟩
  | .hbm, ⟨74, _⟩ => ⟨S32768x24, .f32⟩
  | .hbm, ⟨75, _⟩ => ⟨S_, .f32⟩
  | .hbm, ⟨76, _⟩ => ⟨S32768x4, .f32⟩
  | .hbm, ⟨77, _⟩ => ⟨S32768x32, .f32⟩
  | .hbm, ⟨78, _⟩ => ⟨S32768x4, .f32⟩
  | .hbm, ⟨79, _⟩ => ⟨S32768x32, .f32⟩
  | .hbm, ⟨80, _⟩ => ⟨S32768x32, .f32⟩
  | .hbm, ⟨81, _⟩ => ⟨S1x32768x1x32, .f32⟩
  | .hbm, ⟨82, _⟩ => ⟨S1x32768x4x32, .f32⟩
  | .hbm, ⟨83, _⟩ => ⟨S32768x128, .f32⟩
  | .hbm, ⟨84, _⟩ => ⟨S1x32768x1x32, .f32⟩
  | .hbm, ⟨85, _⟩ => ⟨S1x32768x4x32, .f32⟩
  | .hbm, ⟨86, _⟩ => ⟨S32768x128, .f32⟩
  | .hbm, ⟨87, _⟩ => ⟨S1x32768x1x32, .f32⟩
  | .hbm, ⟨88, _⟩ => ⟨S1x32768x4x32, .f32⟩
  | .hbm, ⟨89, _⟩ => ⟨S32768x128, .f32⟩
  | .hbm, ⟨90, _⟩ => ⟨S1x32768x128, .f32⟩
  | .hbm, ⟨91, _⟩ => ⟨S1x32768x128, .f32⟩
  | .hbm, ⟨92, _⟩ => ⟨S1x32768x128, .f32⟩
  | .hbm, ⟨93, _⟩ => ⟨S3x32768x128, .f32⟩
  | .hbm, ⟨94, _⟩ => ⟨S1024x512, .f32⟩
  | .hbm, ⟨95, _⟩ => ⟨S1024x64, .f32⟩
  | .hbm, ⟨96, _⟩ => ⟨S1024x64, .f32⟩
  | .hbm, ⟨97, _⟩ => ⟨S1024x128, .f32⟩
  | .hbm, ⟨98, _⟩ => ⟨S1024x32, .f32⟩
  | .hbm, ⟨99, _⟩ => ⟨S1024x4, .f32⟩
  | .hbm, ⟨100, _⟩ => ⟨S1024x512, .f32⟩
  | .hbm, ⟨101, _⟩ => ⟨S1024x512, .f32⟩
  | .hbm, ⟨102, _⟩ => ⟨S1024x512, .f32⟩
  | .hbm, ⟨103, _⟩ => ⟨S_, .f32⟩
  | .hbm, ⟨104, _⟩ => ⟨S1024x64, .f32⟩
  | .hbm, ⟨105, _⟩ => ⟨S1024x1664, .f32⟩
  | .hbm, ⟨106, _⟩ => ⟨S_, .f32⟩
  | .hbm, ⟨107, _⟩ => ⟨S1024x96, .f32⟩
  | .hbm, ⟨108, _⟩ => ⟨S1024x256, .f32⟩
  | .hbm, ⟨109, _⟩ => ⟨S_, .f32⟩
  | .hbm, ⟨110, _⟩ => ⟨S1024x60, .f32⟩
  | .hbm, ⟨111, _⟩ => ⟨S1024x640, .f32⟩
  | .hbm, ⟨112, _⟩ => ⟨S1x1024, .f32⟩
  | .hbm, ⟨113, _⟩ => ⟨S1024x1664, .bf16⟩
  | .hbm, ⟨114, _⟩ => ⟨S1024x256, .bf16⟩
  | .hbm, ⟨115, _⟩ => ⟨S1024x640, .bf16⟩
  | .hbm, ⟨116, _⟩ => ⟨S32768x1664, .f32⟩
  | .hbm, ⟨117, _⟩ => ⟨S32768x256, .f32⟩
  | .hbm, ⟨118, _⟩ => ⟨S32768x640, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3x512x128, .f32⟩
  | .local _ .vmem, ⟨4, _⟩ => ⟨S3x512x128, .f32⟩
  | .local _ .vmem, ⟨5, _⟩ => ⟨S3x512x128, .f32⟩
  | .local _ .vmem, ⟨6, _⟩ => ⟨S3x512x128, .f32⟩
  | .local _ .vmem, ⟨7, _⟩ => ⟨S1024x1664, .bf16⟩
  | .local _ .vmem, ⟨8, _⟩ => ⟨S1024x256, .bf16⟩
  | .local _ .vmem, ⟨9, _⟩ => ⟨S1024x640, .bf16⟩
  | .local _ .vmem, ⟨10, _⟩ => ⟨S512x1664, .f32⟩
  | .local _ .vmem, ⟨11, _⟩ => ⟨S512x1664, .f32⟩
  | .local _ .vmem, ⟨12, _⟩ => ⟨S512x256, .f32⟩
  | .local _ .vmem, ⟨13, _⟩ => ⟨S512x256, .f32⟩
  | .local _ .vmem, ⟨14, _⟩ => ⟨S512x640, .f32⟩
  | .local _ .vmem, ⟨15, _⟩ => ⟨S512x640, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_13 : Ref sig .tc := ⟨.hbm, 103, rfl⟩
abbrev main_v85 : Ref sig .tc := ⟨.hbm, 104, rfl⟩
abbrev main_v86 : Ref sig .tc := ⟨.hbm, 105, rfl⟩
abbrev main_cst_14 : Ref sig .tc := ⟨.hbm, 106, rfl⟩
abbrev main_v87 : Ref sig .tc := ⟨.hbm, 107, rfl⟩
abbrev main_v88 : Ref sig .tc := ⟨.hbm, 108, rfl⟩
abbrev main_cst_15 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95_0 : Ref sig .tc := ⟨.hbm, 116, rfl⟩
abbrev main_v95_1 : Ref sig .tc := ⟨.hbm, 117, rfl⟩
abbrev main_v95_2 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1664 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x640 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1664 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InOddRef.lean ====
abbrev S32768x1024 : Shape := ⟨2, ![32768, 1024]⟩
abbrev S16x2048 : Shape := ⟨2, ![16, 2048]⟩
abbrev S1024 : Shape := ⟨1, ![1024]⟩
abbrev S1024x2340 : Shape := ⟨2, ![1024, 2340]⟩
abbrev S8 : Shape := ⟨1, ![8]⟩
abbrev S_ : Shape := ⟨0, ![]⟩
abbrev S32768x1 : Shape := ⟨2, ![32768, 1]⟩
abbrev S1x8 : Shape := ⟨2, ![1, 8]⟩
abbrev S32768x8 : Shape := ⟨2, ![32768, 8]⟩
abbrev S4 : Shape := ⟨1, ![4]⟩
abbrev S1x4 : Shape := ⟨2, ![1, 4]⟩
abbrev S32768x4 : Shape := ⟨2, ![32768, 4]⟩
abbrev S32768 : Shape := ⟨1, ![32768]⟩
abbrev S1x1024 : Shape := ⟨2, ![1, 1024]⟩
abbrev S32768x2340 : Shape := ⟨2, ![32768, 2340]⟩
abbrev S32768x512 : Shape := ⟨2, ![32768, 512]⟩
abbrev S32768x64 : Shape := ⟨2, ![32768, 64]⟩
abbrev S32768x128 : Shape := ⟨2, ![32768, 128]⟩
abbrev S32768x32 : Shape := ⟨2, ![32768, 32]⟩
abbrev S32768x1664 : Shape := ⟨2, ![32768, 1664]⟩
abbrev S32768x26x64 : Shape := ⟨3, ![32768, 26, 64]⟩
abbrev S32768x1x8 : Shape := ⟨3, ![32768, 1, 8]⟩
abbrev S32768x26x8 : Shape := ⟨3, ![32768, 26, 8]⟩
abbrev S32768x26x48 : Shape := ⟨3, ![32768, 26, 48]⟩
abbrev S32768x96 : Shape := ⟨2, ![32768, 96]⟩
abbrev S32768x256 : Shape := ⟨2, ![32768, 256]⟩
abbrev S32768x8x32 : Shape := ⟨3, ![32768, 8, 32]⟩
abbrev S32768x1x4 : Shape := ⟨3, ![32768, 1, 4]⟩
abbrev S32768x8x4 : Shape := ⟨3, ![32768, 8, 4]⟩
abbrev S32768x8x24 : Shape := ⟨3, ![32768, 8, 24]⟩
abbrev S32768x60 : Shape := ⟨2, ![32768, 60]⟩
abbrev S32768x640 : Shape := ⟨2, ![32768, 640]⟩

abbrev nBuf : Space → Nat
  | .hbm => 119
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x2048, .i32⟩
  | .hbm, ⟨2, _⟩ => ⟨S1024, .f32⟩
  | .hbm, ⟨3, _⟩ => ⟨S1024x2340, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S16x2048, .f32⟩
  | .hbm, ⟨19, _⟩ => ⟨S32768x1, .f32⟩
  | .hbm, ⟨20, _⟩ => ⟨S1x8, .f32⟩
  | .hbm, ⟨21, _⟩ => ⟨S32768x8, .f32⟩
  | .hbm, ⟨22, _⟩ => ⟨S32768x8, .f32⟩
  | .hbm, ⟨23, _⟩ => ⟨S32768x8, .f32⟩
  | .hbm, ⟨24, _⟩ => ⟨S32768x8, .f32⟩
  | .hbm, ⟨25, _⟩ => ⟨S32768x8, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S4, .f32⟩
  | .hbm, ⟨33, _⟩ => ⟨S4, .f32⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S4, .f32⟩
  | .hbm, ⟨39, _⟩ => ⟨S4, .f32⟩
  | .hbm, ⟨40, _⟩ => ⟨S16x2048, .f32⟩
  | .hbm, ⟨41, _⟩ => ⟨S32768x1, .f32⟩
  | .hbm, ⟨42, _⟩ => ⟨S1x4, .f32⟩
  | .hbm, ⟨43, _⟩ => ⟨S32768x4, .f32⟩
  | .hbm, ⟨44, _⟩ => ⟨S32768x4, .f32⟩
  | .hbm, ⟨45, _⟩ => ⟨S32768x4, .f32⟩
  | .hbm, ⟨46, _⟩ => ⟨S32768x4, .f32⟩
  | .hbm, ⟨47, _⟩ => ⟨S32768x4, .f32⟩
  | .hbm, ⟨48, _⟩ => ⟨S32768x1024, .f32⟩
  | .hbm, ⟨49, _⟩ => ⟨S_, .f32⟩
  | .hbm, ⟨50, _⟩ => ⟨S32768, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S_, .f32⟩
  | .hbm, ⟨56, _⟩ => ⟨S32768x1, .f32⟩
  | .hbm, ⟨57, _⟩ => ⟨S32768x1, .f32⟩
  | .hbm, ⟨58, _⟩ => ⟨S32768x1, .f32⟩
  | .hbm, ⟨59, _⟩ => ⟨S32768x1024, .f32⟩
  | .hbm, ⟨60, _⟩ => ⟨S32768x1024, .f32⟩
  | .hbm, ⟨61, _⟩ => ⟨S1x1024, .f32⟩
  | .hbm, ⟨62, _⟩ => ⟨S32768x1024, .f32⟩
  | .hbm, ⟨63, _⟩ => ⟨S32768x1024, .f32⟩
  | .hbm, ⟨64, _⟩ => ⟨S32768x2340, .f32⟩
  | .hbm, ⟨65, _⟩ => ⟨S32768x512, .f32⟩
  | .hbm, ⟨66, _⟩ => ⟨S32768x64, .f32⟩
  | .hbm, ⟨67, _⟩ => ⟨S32768x64, .f32⟩
  | .hbm, ⟨68, _⟩ => ⟨S32768x128, .f32⟩
  | .hbm, ⟨69, _⟩ => ⟨S32768x32, .f32⟩
  | .hbm, ⟨70, _⟩ => ⟨S32768x4, .f32⟩
  | .hbm, ⟨71, _⟩ => ⟨S32768x512, .f32⟩
  | .hbm, ⟨72, _⟩ => ⟨S32768x512, .f32⟩
  | .hbm, ⟨73, _⟩ => ⟨S32768x512, .f32⟩
  | .hbm, ⟨74, _⟩ => ⟨S_, .f32⟩
  | .hbm, ⟨75, _⟩ => ⟨S32768x64, .f32⟩
  | .hbm, ⟨76, _⟩ => ⟨S32768x1664, .f32⟩
  | .hbm, ⟨77, _⟩ => ⟨S32768x26x64, .f32⟩
  | .hbm, ⟨78, _⟩ => ⟨S32768x1x8, .f32⟩
  | .hbm, ⟨79, _⟩ => ⟨S32768x1x8, .f32⟩
  | .hbm, ⟨80, _⟩ => ⟨S32768x26x8, .f32⟩
  | .hbm, ⟨81, _⟩ => ⟨S32768x26x8, .f32⟩
  | .hbm, ⟨82, _⟩ => ⟨S32768x26x48, .f32⟩
  | .hbm, ⟨83, _⟩ => ⟨S32768x26x8, .f32⟩
  | .hbm, ⟨84, _⟩ => ⟨S32768x26x8, .f32⟩
  | .hbm, ⟨85, _⟩ => ⟨S32768x26x8, .f32⟩
  | .hbm, ⟨86, _⟩ => ⟨S32768x26x8, .f32⟩
  | .hbm, ⟨87, _⟩ => ⟨S32768x26x8, .f32⟩
  | .hbm, ⟨88, _⟩ => ⟨S32768x26x8, .f32⟩
  | .hbm, ⟨89, _⟩ => ⟨S32768x26x8, .f32⟩
  | .hbm, ⟨90, _⟩ => ⟨S32768x26x8, .f32⟩
  | .hbm, ⟨91, _⟩ => ⟨S32768x26x8, .f32⟩
  | .hbm, ⟨92, _⟩ => ⟨S32768x26x8, .f32⟩
  | .hbm, ⟨93, _⟩ => ⟨S32768x26x64, .f32⟩
  | .hbm, ⟨94, _⟩ => ⟨S32768x1664, .f32⟩
  | .hbm, ⟨95, _⟩ => ⟨S_, .f32⟩
  | .hbm, ⟨96, _⟩ => ⟨S32768x96, .f32⟩
  | .hbm, ⟨97, _⟩ => ⟨S32768x256, .f32⟩
  | .hbm, ⟨98, _⟩ => ⟨S32768x8x32, .f32⟩
  | .hbm, ⟨99, _⟩ => ⟨S32768x1x4, .f32⟩
  | .hbm, ⟨100, _⟩ => ⟨S32768x1x4, .f32⟩
  | .hbm, ⟨101, _⟩ => ⟨S32768x8x4, .f32⟩
  | .hbm, ⟨102, _⟩ => ⟨S32768x8x4, .f32⟩
  | .hbm, ⟨103, _⟩ => ⟨S32768x8x24, .f32⟩
  | .hbm, ⟨104, _⟩ => ⟨S32768x8x4, .f32⟩
  | .hbm, ⟨105, _⟩ => ⟨S32768x8x4, .f32⟩
  | .hbm, ⟨106, _⟩ => ⟨S32768x8x4, .f32⟩
  | .hbm, ⟨107, _⟩ => ⟨S32768x8x4, .f32⟩
  | .hbm, ⟨108, _⟩ => ⟨S32768x8x4, .f32⟩
  | .hbm, ⟨109, _⟩ => ⟨S32768x8x4, .f32⟩
  | .hbm, ⟨110, _⟩ => ⟨S32768x8x4, .f32⟩
  | .hbm, ⟨111, _⟩ => ⟨S32768x8x4, .f32⟩
  | .hbm, ⟨112, _⟩ => ⟨S32768x8x4, .f32⟩
  | .hbm, ⟨113, _⟩ => ⟨S32768x8x4, .f32⟩
  | .hbm, ⟨114, _⟩ => ⟨S32768x8x32, .f32⟩
  | .hbm, ⟨115, _⟩ => ⟨S32768x256, .f32⟩
  | .hbm, ⟨116, _⟩ => ⟨S_, .f32⟩
  | .hbm, ⟨117, _⟩ => ⟨S32768x60, .f32⟩
  | .hbm, ⟨118, _⟩ => ⟨S32768x640, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_10 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_cst_11 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_cst_12 : Ref sig .tc := ⟨.hbm, 116, rfl⟩
abbrev main_v99 : Ref sig .tc := ⟨.hbm, 117, rfl⟩
abbrev main_v100 : Ref sig .tc := ⟨.hbm, 118, rfl⟩

abbrev nD : Nat := 1
abbrev τ : Topo := Topo.v7x

variable {F : FTy → Type} [FloatOps F]
-- ==== Proof.MobaWords.lean ====
module

public import proofs.«01_k».proof.Proof.Gen.MobaIdeal.Frame
public import proofs.«01_k».proof.Proof.Gen.MobaIdeal.Skeleton
public import Idealize.ShloMosaic.Lib.Affine

/-! The attention kernel's loops: how many trips each runs and where each trip reads and writes. -/

@[expose] public section

noncomputable section

namespace Cert.MobaIdeal.Words

open Cert.MobaIdeal Cert.MobaIdeal.Gen
open Idealize.ShloMosaic Idealize.SL.Sem Affine

/-- The block of keys that holds the queries of a grid point. -/
abbrev own (i : grid0.Coords) : ℕ := (i 1).val / 2

theorem own_lt (i : grid0.Coords) : own i < 8 := by
  have h : (i 1).val < 16 := (i 1).isLt
  unfold own; omega

/-- The grid point of batch 0 and query block `b`: the loops' bounds read no other coordinate. -/
abbrev pt0 (b : Fin 16) : grid0.Coords := fun a => match a with | ⟨0, _⟩ => (0 : Fin 16) | ⟨1, _⟩ => b

theorem trips1 : k0_t1_loop.trips = 8 := by decide +kernel
theorem trips2 (i : grid0.Coords) : (k0_t2_loop i).trips = own i + 1 := by
  have h : ∀ n : Fin 16, (k0_t2_loop (pt0 n)).trips = n.val / 2 + 1 := by decide +kernel
  exact h (i 1)
theorem trips3 (i : grid0.Coords) : (k0_t3_loop i).trips = 0 := by
  have h : ∀ n : Fin 16, (k0_t3_loop (pt0 n)).trips = 0 := by decide +kernel
  exact h (i 1)
theorem trips4 (i : grid0.Coords) : (k0_t4_loop i).trips = own i + 1 := by
  have h : ∀ n : Fin 16, (k0_t4_loop (pt0 n)).trips = n.val / 2 + 1 := by decide +kernel
  exact h (i 1)
theorem trips5 (i : grid0.Coords) : (k0_t5_loop i).trips = 0 := by
  have h : ∀ n : Fin 16, (k0_t5_loop (pt0 n)).trips = 0 := by decide +kernel
  exact h (i 1)

theorem isInt_iv (k : ℕ) (hk : k < 8) : IsInt (Scf.iv 0#32 1#32 k) k :=
  iv (e := k) (ofNat (e := 0) 0 ⟨rfl, by decide⟩) (ofNat (e := 1) 1 ⟨rfl, by decide⟩) k ⟨by omega, by omega, by omega⟩

theorem iv_eq (k : ℕ) (hk : k < 8) : Scf.iv 0#32 1#32 k = BitVec.ofNat 32 k := by
  have h : ∀ k : Fin 8, Scf.iv 0#32 1#32 k.val = BitVec.ofNat 32 k.val := by decide +kernel
  exact h ⟨k, hk⟩

theorem lt2 {i : grid0.Coords} (k : Fin (k0_t2_loop i).trips) : k.val < 8 := by
  have := k.isLt; have := trips2 i; have := own_lt i; omega
theorem lt4 {i : grid0.Coords} (k : Fin (k0_t4_loop i).trips) : k.val < 8 := by
  have := k.isLt; have := trips4 i; have := own_lt i; omega
theorem lt1 (k : Fin k0_t1_loop.trips) : k.val < 8 := Nat.lt_of_lt_of_eq k.isLt trips1

theorem off1_eq (k : Fin k0_t1_loop.trips) : k0_off1 k = ![0, k.val, 0, 0] := by
  have h : ∀ k : Fin 8, ![(0#32 : BitVec 32).toNat, (Scalar.indexCast (Scf.iv 0#32 1#32 k.val) : Index).toNat, 0, 0] = ![0, k.val, 0, 0] := by decide +kernel
  exact h ⟨k.val, lt1 k⟩
theorem off2_eq (k : Fin k0_t1_loop.trips) : k0_off2 k = ![0, k.val, 0, 0] := off1_eq k
theorem off4_eq (i : grid0.Coords) (k : Fin (k0_t2_loop i).trips) : k0_off4 i k = ![k.val, 0, 0] := by
  have h : ∀ k : Fin 8, ![(Scalar.indexCast (Scf.iv 0#32 1#32 k.val) : Index).toNat, 0, 0] = ![k.val, 0, 0] := by decide +kernel
  exact h ⟨k.val, lt2 k⟩
theorem off7_eq (i : grid0.Coords) (k : Fin (k0_t4_loop i).trips) : k0_off7 i k = ![k.val, 0, 0] := by
  have h : ∀ k : Fin 8, ![(Scalar.indexCast (Scf.iv 0#32 1#32 k.val) : Index).toNat, 0, 0] = ![k.val, 0, 0] := by decide +kernel
  exact h ⟨k.val, lt4 k⟩
theorem off3_eq (i : grid0.Coords) (k1 : Fin k0_t1_loop.trips) (k : Fin (k0_t2_loop i).trips) :
    k0_off3 i k1 k = ![0, k1.val, 256 * k.val, 0] := by
  have h : ∀ k1 k : Fin 8, ![(0#32 : BitVec 32).toNat, (Scalar.indexCast (Scf.iv 0#32 1#32 k1.val) : Index).toNat,
      (Scalar.indexCast (Scalar.muli (Scf.iv 0#32 1#32 k.val) 256#32) : Index).toNat, 0] = ![0, k1.val, 256 * k.val, 0] := by decide +kernel
  exact h ⟨k1.val, lt1 k1⟩ ⟨k.val, lt2 k⟩
theorem off8_eq (i : grid0.Coords) (k1 : Fin k0_t1_loop.trips) (k : Fin (k0_t4_loop i).trips) :
    k0_off8 i k1 k = ![0, k1.val, 256 * k.val, 0] := by
  have h : ∀ k1 k : Fin 8, ![(0#32 : BitVec 32).toNat, (Scalar.indexCast (Scf.iv 0#32 1#32 k1.val) : Index).toNat,
      (Scalar.indexCast (Scalar.muli (Scf.iv 0#32 1#32 k.val) 256#32) : Index).toNat, 0] = ![0, k1.val, 256 * k.val, 0] := by decide +kernel
  exact h ⟨k1.val, lt1 k1⟩ ⟨k.val, lt4 k⟩

end Cert.MobaIdeal.Words
-- ==== Proof.MobaLoops.lean ====
module

public import proofs.«01_k».proof.Proof.MobaWords
public import Idealize.ShloMosaic.Lib.Exec
public import Idealize.ShloMosaic.Lib.Tactic
public import Idealize.ShloMosaic.Lib.WritesUnit
public import Idealize.ShloMosaic.Lib.Pipeline.Kit

/-! The attention kernel's loops by their invariants: the first pass leaves the scores of each block of
    keys in the scratch buffer and carries the running maximum, the second carries the weighted values and
    the weights' sum, and the loop over the heads fills the output block head by head. -/

@[expose] public section

noncomputable section

namespace Cert.MobaIdeal.Att

open Cert.MobaIdeal Cert.MobaIdeal.Gen Cert.MobaIdeal.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## What the loops compute, from the blocks' contents -/

section Pure
variable (i : grid0.Coords)

/-- A head's rows of the query block, the keys, the values and the keys' means. -/
abbrev qAt (X : Vec F S1x8x128x64 .f32) (h : Fin k0_t1_loop.trips) : Vec F S1x1x128x64 .f32 :=
  View.ld X (Rect.unit (s := S1x8x128x64) (k0_off1 h) S1x1x128x64.size (k0_off1_inb h))
abbrev meanAt (X : Vec F S1x8x8x64 .f32) (h : Fin k0_t1_loop.trips) : Vec F S1x1x8x64 .f32 :=
  View.ld X (Rect.unit (s := S1x8x8x64) (k0_off2 h) S1x1x8x64.size (k0_off2_inb h))
abbrev keyAt (X : Vec F S1x8x2048x64 .bf16) (h : Fin k0_t1_loop.trips) (j : Fin (k0_t2_loop i).trips) : Vec F S1x1x256x64 .bf16 :=
  View.ld X (Rect.unit (s := S1x8x2048x64) (k0_off3 i h j) S1x1x256x64.size (k0_off3_inb i h j))
abbrev valAt (X : Vec F S1x8x2048x64 .bf16) (h : Fin k0_t1_loop.trips) (j : Fin (k0_t4_loop i).trips) : Vec F S1x1x256x64 .bf16 :=
  View.ld X (Rect.unit (s := S1x8x2048x64) (k0_off8 i h j) S1x1x256x64.size (k0_off8_inb i h j))

variable (v17 : BitVec 32) (v19 v22 v23 : IVec S128x256 32) (v30 : FVec F S128x64 .bf16) (v38 : IVec S8x128 1)
  (v147 : FVec F S8x128 .f32) (v150 v152 v154 : IVec S8x128 1) (cst_46 : F .f32) (v155 : FVec F S8x128 .f32)
  (h : Fin k0_t1_loop.trips)

/-- The masked scores of one block of keys, as the first pass stores them. -/
abbrev scoreAt (X3 : Vec F S1x8x2048x64 .bf16) (j : Fin (k0_t2_loop i).trips) : FVec F S1x128x256 .f32 :=
  k0_pay28 i v17 v19 v22 v23 v30 v38 v147 v150 v152 v154 cst_46 v155 j (keyAt i X3 h j)

/-- The running maximum before block `k`. -/
def maxAt (X3 : Vec F S1x8x2048x64 .bf16) (init : FVec F S128x128 .f32) : ℕ → FVec F S128x128 .f32
  | 0 => init
  | k + 1 => if hk : k < (k0_t2_loop i).trips then
      k0_pay29 i v17 v19 v22 v23 v30 v38 v147 v150 v152 v154 cst_46 v155 ⟨k, hk⟩ (maxAt X3 init k) (keyAt i X3 h ⟨k, hk⟩)
    else maxAt X3 init k

theorem maxAt_succ (X3 : Vec F S1x8x2048x64 .bf16) (init : FVec F S128x128 .f32) (k : Fin (k0_t2_loop i).trips) :
    maxAt i v17 v19 v22 v23 v30 v38 v147 v150 v152 v154 cst_46 v155 h X3 init (k.val + 1)
      = k0_pay29 i v17 v19 v22 v23 v30 v38 v147 v150 v152 v154 cst_46 v155 k
          (maxAt i v17 v19 v22 v23 v30 v38 v147 v150 v152 v154 cst_46 v155 h X3 init k.val) (keyAt i X3 h k) := by
  rw [maxAt, dif_pos k.isLt]

/-- A trip of the second pass is a trip of the first. -/
def back (j : Fin (k0_t4_loop i).trips) : Fin (k0_t2_loop i).trips :=
  ⟨j.val, Nat.lt_of_lt_of_eq j.isLt ((trips4 i).trans (trips2 i).symm)⟩

variable (v182 : FVec F S128x128 .f32)

/-- The weighted values and the weights' sum before block `k`, of the stored scores `S`. -/
def accAt (S : Fin (k0_t4_loop i).trips → Vec F S1x128x256 .f32) (X4 : Vec F S1x8x2048x64 .bf16)
    (init : FVec F S128x64 .f32 × FVec F S128x128 .f32) : ℕ → FVec F S128x64 .f32 × FVec F S128x128 .f32
  | 0 => init
  | k + 1 => if hk : k < (k0_t4_loop i).trips then
      (k0_pay37 v182 (accAt S X4 init k).1 (S ⟨k, hk⟩) (valAt i X4 h ⟨k, hk⟩), k0_pay38 v182 (accAt S X4 init k).2 (S ⟨k, hk⟩))
    else accAt S X4 init k

theorem accAt_succ (S : Fin (k0_t4_loop i).trips → Vec F S1x128x256 .f32) (X4 : Vec F S1x8x2048x64 .bf16)
    (init : FVec F S128x64 .f32 × FVec F S128x128 .f32) (k : Fin (k0_t4_loop i).trips) :
    accAt i h v182 S X4 init (k.val + 1)
      = (k0_pay37 v182 (accAt i h v182 S X4 init k.val).1 (S k) (valAt i X4 h k), k0_pay38 v182 (accAt i h v182 S X4 init k.val).2 (S k)) := by
  rw [accAt, dif_pos k.isLt]

end Pure

/-! ## Reading back a block of a buffer written block by block -/

theorem read_same {s : Shape} {sp : Space} {e : EltTy} (v : Memref sig .tc sp s e) (f : BufTy.Contents (Elt F) v.view.ty)
    {off size : Fin s.rank → ℕ} (inb inb' : ∀ a, off a + size a ≤ s.size a) (w : (Rect.unit off size inb).shape.Idx → Elt F e) :
    v.view.readAt (Elt F) (Rect.unit (s := s) off size inb').toLoadRect
      (v.view.writes (Elt F) f [⟨Rect.unit (s := s) off size inb, w⟩]) = w := by
  rw [View.readAt_eq_ld]
  funext x
  exact View.read_writes_cons_unit_of_mem v.view f inb w [] _ x rfl fun a => congrArg (off a + ·) (Nat.one_mul _)

theorem read_other {s : Shape} {sp : Space} {e : EltTy} (v : Memref sig .tc sp s e) (f : BufTy.Contents (Elt F) v.view.ty)
    {off off' size : Fin s.rank → ℕ} (inb : ∀ a, off a + size a ≤ s.size a) (inb' : ∀ a, off' a + size a ≤ s.size a)
    (w : (Rect.unit off size inb).shape.Idx → Elt F e) (a : Fin s.rank) (ha : off' a + size a ≤ off a) :
    v.view.readAt (Elt F) (Rect.unit (s := s) off' size inb').toLoadRect
      (v.view.writes (Elt F) f [⟨Rect.unit (s := s) off size inb, w⟩])
      = v.view.readAt (Elt F) (Rect.unit (s := s) off' size inb').toLoadRect f := by
  rw [View.readAt_eq_ld, View.readAt_eq_ld]
  funext x
  refine View.read_writes_cons_unit_of_not_mem v.view f inb w [] _ rfl a (Or.inl ?_)
  have hx : (x a).val < size a := (x a).isLt
  show off' a + 1 * (x a).val < off a
  omega

/-! ## The first pass -/

set_option warn.classDefReducibility false in
/-- Before trip `k` the scratch buffer's first `k` blocks hold the scores of the first `k` blocks of keys. -/
@[sl_loop] def pass1 (𝒱 : Variants) (c : Dev nD) (bd : Option 𝒱.V) (E : Set ℕ) (i : grid0.Coords) (arg2 : Memref sig .tc .vmem S1x8x128x64 .f32) (harg2 : arg2.IsWhole) (arg3 : Memref sig .tc .vmem S1x8x2048x64 .bf16) (harg3 : arg3.IsWhole) (arg4 : Memref sig .tc .vmem S1x8x2048x64 .bf16) (harg4 : arg4.IsWhole) (arg5 : Memref sig .tc .vmem S1x8x8x64 .f32) (harg5 : arg5.IsWhole) (arg6 : Memref sig .tc .vmem S1x8x128x64 .f32) (harg6 : arg6.IsWhole) (arg7 : Memref sig .tc .vmem S8x128x256 .f32) (harg7 : arg7.IsWhole) (v17 : BitVec 32) (v19 : IVec S128x256 32) (v22 : IVec S128x256 32) (v23 : IVec S128x256 32) (k0_t1 : Fin k0_t1_loop.trips) (arg8 : BitVec 32) (v30 : FVec F S128x64 .bf16) (v38 : IVec S8x128 1) (v147 : FVec F S8x128 .f32) (v150 : IVec S8x128 1) (v152 : IVec S8x128 1) (v154 : IVec S8x128 1) (cst_46 : F .f32) (v155 : FVec F S8x128 .f32)
    (X3 : BufTy.Contents (Elt F) arg3.view.ty) (init : FVec F S128x128 .f32) :
    Idealize.ShloMosaic.LoopInv (M := 𝕄) Idealize.ShloMosaic.frame (wpE defs₀ 𝒱 (c : Thread nD τ) bd) E
      (k0_t2_loop i).lb (k0_t2_loop i).ub (k0_t2_loop i).st (k0_t2_ok i) init (k0_t2_body (F := F) i arg2 harg2 arg3 harg3 arg4 harg4 arg5 harg5 arg6 harg6 arg7 harg7 v17 v19 v22 v23 k0_t1 arg8 v30 v38 v147 v150 v152 v154 cst_46 v155) where
  inv k acc := iprop((arg3.view.loc (c : Thread nD τ) ↦[arg3.view.set]{fullShare} X3)
    ∗ (∃ f, (arg7.view.loc (c : Thread nD τ) ↦[arg7.view.set]{fullShare} f)
        ∗ ⌜∀ j : Fin (k0_t2_loop i).trips, j.val < k →
            arg7.view.readAt (Elt F) (Rect.unit (s := S8x128x256) (k0_off4 i j) S1x128x256.size (k0_off4_inb i j)).toLoadRect f
              = scoreAt i v17 v19 v22 v23 v30 v38 v147 v150 v152 v154 cst_46 v155 k0_t1 (arg3.view.read (Elt F) X3) j⌝)
    ∗ ⌜acc = maxAt i v17 v19 v22 v23 v30 v38 v147 v150 v152 v154 cst_46 v155 k0_t1 (arg3.view.read (Elt F) X3) init k⌝)
  step k acc := by
    unfold k0_t2_body
    iintro ⟨H3, ⟨%f, H7, %hf⟩, %hacc⟩
    subst hacc
    sl_exec
    sl_step
    isplitl [H3]; · iexact H3
    isplitl [H7]
    · iexists _; isplitl [H7]; · iexact H7
      ipureintro
      intro j hj
      rcases Nat.lt_succ_iff_lt_or_eq.mp hj with hlt | heq
      · rw [read_other (a := (0 : Fin 3))]
        · exact hf j hlt
        · rw [off4_eq, off4_eq]; exact hlt
      · obtain rfl : j = k := Fin.ext heq
        exact read_same arg7 f _ _ _
    ipureintro
    rw [maxAt_succ]; rfl

set_option warn.classDefReducibility false in
/-- The first pass's remainder runs no trip. -/
@[sl_loop] def rest1 (𝒱 : Variants) (c : Dev nD) (bd : Option 𝒱.V) (E : Set ℕ) (i : grid0.Coords) (arg2 : Memref sig .tc .vmem S1x8x128x64 .f32) (harg2 : arg2.IsWhole) (arg3 : Memref sig .tc .vmem S1x8x2048x64 .bf16) (harg3 : arg3.IsWhole) (arg4 : Memref sig .tc .vmem S1x8x2048x64 .bf16) (harg4 : arg4.IsWhole) (arg5 : Memref sig .tc .vmem S1x8x8x64 .f32) (harg5 : arg5.IsWhole) (arg6 : Memref sig .tc .vmem S1x8x128x64 .f32) (harg6 : arg6.IsWhole) (arg7 : Memref sig .tc .vmem S8x128x256 .f32) (harg7 : arg7.IsWhole) (v17 : BitVec 32) (v19 : IVec S128x256 32) (v22 : IVec S128x256 32) (v23 : IVec S128x256 32) (k0_t1 : Fin k0_t1_loop.trips) (arg8 : BitVec 32) (v30 : FVec F S128x64 .bf16) (v38 : IVec S8x128 1) (v147 : FVec F S8x128 .f32) (v150 : IVec S8x128 1) (v152 : IVec S8x128 1) (v154 : IVec S8x128 1) (cst_46 : F .f32) (v155 : FVec F S8x128 .f32)
    (init : FVec F S128x128 .f32) :
    Idealize.ShloMosaic.LoopInv (M := 𝕄) Idealize.ShloMosaic.frame (wpE defs₀ 𝒱 (c : Thread nD τ) bd) E
      (k0_t3_loop i).lb (k0_t3_loop i).ub (k0_t3_loop i).st (k0_t3_ok i) init (k0_t3_body (F := F) i arg2 harg2 arg3 harg3 arg4 harg4 arg5 harg5 arg6 harg6 arg7 harg7 v17 v19 v22 v23 k0_t1 arg8 v30 v38 v147 v150 v152 v154 cst_46 v155) where
  inv _ acc := iprop(⌜acc = init⌝)
  step k acc := absurd k.isLt (by have := trips3 i; show ¬ k.val < (k0_t3_loop i).trips; omega)

set_option warn.classDefReducibility false in
/-- The second pass reads the scratch buffer and the values. -/
@[sl_loop] def pass2 (𝒱 : Variants) (c : Dev nD) (bd : Option 𝒱.V) (E : Set ℕ) (i : grid0.Coords) (arg2 : Memref sig .tc .vmem S1x8x128x64 .f32) (harg2 : arg2.IsWhole) (arg3 : Memref sig .tc .vmem S1x8x2048x64 .bf16) (harg3 : arg3.IsWhole) (arg4 : Memref sig .tc .vmem S1x8x2048x64 .bf16) (harg4 : arg4.IsWhole) (arg5 : Memref sig .tc .vmem S1x8x8x64 .f32) (harg5 : arg5.IsWhole) (arg6 : Memref sig .tc .vmem S1x8x128x64 .f32) (harg6 : arg6.IsWhole) (arg7 : Memref sig .tc .vmem S8x128x256 .f32) (harg7 : arg7.IsWhole) (v17 : BitVec 32) (v19 : IVec S128x256 32) (v22 : IVec S128x256 32) (v23 : IVec S128x256 32) (k0_t1 : Fin k0_t1_loop.trips) (arg8 : BitVec 32) (v30 : FVec F S128x64 .bf16) (v38 : IVec S8x128 1) (v147 : FVec F S8x128 .f32) (v150 : IVec S8x128 1) (v152 : IVec S8x128 1) (v154 : IVec S8x128 1) (cst_46 : F .f32) (v155 : FVec F S8x128 .f32) (v182 : FVec F S128x128 .f32)
    (X4 : BufTy.Contents (Elt F) arg4.view.ty) (f : BufTy.Contents (Elt F) arg7.view.ty) (init : FVec F S128x64 .f32 × FVec F S128x128 .f32) :
    Idealize.ShloMosaic.LoopInv (M := 𝕄) Idealize.ShloMosaic.frame (wpE defs₀ 𝒱 (c : Thread nD τ) bd) E
      (k0_t4_loop i).lb (k0_t4_loop i).ub (k0_t4_loop i).st (k0_t4_ok i) init (k0_t4_body (F := F) i arg2 harg2 arg3 harg3 arg4 harg4 arg5 harg5 arg6 harg6 arg7 harg7 v17 v19 v22 v23 k0_t1 arg8 v30 v38 v147 v150 v152 v154 cst_46 v155 v182) where
  inv k acc := iprop((arg4.view.loc (c : Thread nD τ) ↦[arg4.view.set]{fullShare} X4)
    ∗ (arg7.view.loc (c : Thread nD τ) ↦[arg7.view.set]{fullShare} f)
    ∗ ⌜acc = accAt i k0_t1 v182 (fun j => arg7.view.readAt (Elt F) (Rect.unit (s := S8x128x256) (k0_off7 i j) S1x128x256.size (k0_off7_inb i j)).toLoadRect f)
        (arg4.view.read (Elt F) X4) init k⌝)
  step k acc := by
    unfold k0_t4_body
    iintro ⟨H4, H7, %hacc⟩
    subst hacc
    sl_exec
    sl_step
    isplitl [H4]; · iexact H4
    isplitl [H7]; · iexact H7
    ipureintro
    rw [accAt_succ]; rfl

set_option warn.classDefReducibility false in
/-- The second pass's remainder runs no trip. -/
@[sl_loop] def rest2 (𝒱 : Variants) (c : Dev nD) (bd : Option 𝒱.V) (E : Set ℕ) (i : grid0.Coords) (arg2 : Memref sig .tc .vmem S1x8x128x64 .f32) (harg2 : arg2.IsWhole) (arg3 : Memref sig .tc .vmem S1x8x2048x64 .bf16) (harg3 : arg3.IsWhole) (arg4 : Memref sig .tc .vmem S1x8x2048x64 .bf16) (harg4 : arg4.IsWhole) (arg5 : Memref sig .tc .vmem S1x8x8x64 .f32) (harg5 : arg5.IsWhole) (arg6 : Memref sig .tc .vmem S1x8x128x64 .f32) (harg6 : arg6.IsWhole) (arg7 : Memref sig .tc .vmem S8x128x256 .f32) (harg7 : arg7.IsWhole) (v17 : BitVec 32) (v19 : IVec S128x256 32) (v22 : IVec S128x256 32) (v23 : IVec S128x256 32) (k0_t1 : Fin k0_t1_loop.trips) (arg8 : BitVec 32) (v30 : FVec F S128x64 .bf16) (v38 : IVec S8x128 1) (v147 : FVec F S8x128 .f32) (v150 : IVec S8x128 1) (v152 : IVec S8x128 1) (v154 : IVec S8x128 1) (cst_46 : F .f32) (v155 : FVec F S8x128 .f32) (v182 : FVec F S128x128 .f32)
    (init : FVec F S128x64 .f32 × FVec F S128x128 .f32) :
    Idealize.ShloMosaic.LoopInv (M := 𝕄) Idealize.ShloMosaic.frame (wpE defs₀ 𝒱 (c : Thread nD τ) bd) E
      (k0_t5_loop i).lb (k0_t5_loop i).ub (k0_t5_loop i).st (k0_t5_ok i) init (k0_t5_body (F := F) i arg2 harg2 arg3 harg3 arg4 harg4 arg5 harg5 arg6 harg6 arg7 harg7 v17 v19 v22 v23 k0_t1 arg8 v30 v38 v147 v150 v152 v154 cst_46 v155 v182) where
  inv _ acc := iprop(⌜acc = init⌝)
  step k acc := absurd k.isLt (by have := trips5 i; show ¬ k.val < (k0_t5_loop i).trips; omega)

end Cert.MobaIdeal.Att
-- ==== Proof.MobaRun.lean ====
module

public import proofs.«01_k».proof.Proof.MobaLoops
public import Idealize.ShloMosaic.Lib.Pipeline.FrameBody
public import Idealize.ShloMosaic.Lib.Pipeline.Value
public import Idealize.ShloMosaic.Lib.Claim
public import Idealize.ShloMosaic.Lib.Pointwise

/-! The attention kernel's run: the loop over the heads, the body of a grid point, the pipeline over the
    grid, and the frame. -/

@[expose] public section

noncomputable section

namespace Cert.MobaIdeal.Att

open Cert.MobaIdeal Cert.MobaIdeal.Gen Cert.MobaIdeal.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-! ## What one head computes -/

section Head
variable (i : grid0.Coords) (v17 : BitVec 32) (v18 : IVec S8x128 32) (v19 v23 : IVec S128x256 32)
  (X2 : Vec F S1x8x128x64 .f32) (X3 X4 : Vec F S1x8x2048x64 .bf16) (X5 : Vec F S1x8x8x64 .f32) (h : Fin k0_t1_loop.trips)

abbrev rowIota : IVec S8x128 32 := iota .tc S8x128 32 [0] iota_S8x128_d0_w32
abbrev zeroF : F .f32 := Scalar.ofBits .f32 0x00000000#32

/-- The head's masked gates, and its rank counts after the first, the first four and the first six blocks. -/
def gates : FVec F S8x128 .f32 := k0_pay6 v17 v18 (qAt X2 h) (meanAt X5 h)
def ranks1 : FVec F S8x128 .f32 :=
  k0_pay13 (gates v17 v18 X2 X5 h) rowIota (k0_pay7 v17 v18 (qAt X2 h) (meanAt X5 h)) (k0_pay9 v17 v18 (qAt X2 h) (meanAt X5 h))
    (k0_pay10 v17 v18 (qAt X2 h) (meanAt X5 h)) k0_pay11 zeroF k0_pay12
def ranks2 : FVec F S8x128 .f32 :=
  k0_pay19 (gates v17 v18 X2 X5 h) rowIota (ranks1 v17 v18 X2 X5 h) (k0_pay15 (gates v17 v18 X2 X5 h)) (k0_pay16 (gates v17 v18 X2 X5 h))
    (k0_pay17 rowIota) zeroF k0_pay18

/-- The head's masked scores against the block of keys `j`. -/
def headScore (j : Fin (k0_t2_loop i).trips) : FVec F S1x128x256 .f32 :=
  scoreAt i v17 v19 (k0_pay1 i) v23 (k0_pay4 (qAt X2 h)) (k0_pay5 v17 v18) (ranks2 v17 v18 X2 X5 h) (k0_pay21 (gates v17 v18 X2 X5 h))
    (k0_pay22 (gates v17 v18 X2 X5 h)) (k0_pay23 rowIota) zeroF k0_pay24 h X3 j

/-- The head's running maximum over the blocks before `k`. -/
def headMax (k : ℕ) : FVec F S128x128 .f32 :=
  maxAt i v17 v19 (k0_pay1 i) v23 (k0_pay4 (qAt X2 h)) (k0_pay5 v17 v18) (ranks2 v17 v18 X2 X5 h) (k0_pay21 (gates v17 v18 X2 X5 h))
    (k0_pay22 (gates v17 v18 X2 X5 h)) (k0_pay23 rowIota) zeroF k0_pay24 h X3 k0_pay26 k

/-- The head's weighted values and weights' sum over the blocks before `k`. -/
def headAcc (k : ℕ) : FVec F S128x64 .f32 × FVec F S128x128 .f32 :=
  accAt i h (headMax i v17 v18 v19 v23 X2 X3 X5 h (k0_t2_loop i).trips) (fun j => headScore i v17 v18 v19 v23 X2 X3 X5 h (back i j)) X4 (k0_pay34, k0_pay35) k

/-- The head's output. -/
def headOut : FVec F S1x1x128x64 .f32 :=
  k0_pay2 (headAcc i v17 v18 v19 v23 X2 X3 X4 X5 h (k0_t4_loop i).trips).1 (headAcc i v17 v18 v19 v23 X2 X3 X4 X5 h (k0_t4_loop i).trips).2

theorem headOut_eq (S : Fin (k0_t4_loop i).trips → Vec F S1x128x256 .f32) (hS : ∀ j, S j = headScore i v17 v18 v19 v23 X2 X3 X5 h (back i j)) :
    k0_pay2 (accAt i h (headMax i v17 v18 v19 v23 X2 X3 X5 h (k0_t2_loop i).trips) S X4 (k0_pay34, k0_pay35) (k0_t4_loop i).trips).1
      (accAt i h (headMax i v17 v18 v19 v23 X2 X3 X5 h (k0_t2_loop i).trips) S X4 (k0_pay34, k0_pay35) (k0_t4_loop i).trips).2
      = headOut i v17 v18 v19 v23 X2 X3 X4 X5 h := by
  rw [show S = _ from funext hS]; rfl

end Head

/-! ## The loop over the heads -/

set_option maxHeartbeats 4000000 in
set_option warn.classDefReducibility false in
/-- Before head `k` the output block's first `k` heads are done. -/
@[sl_loop] def heads (𝒱 : Variants) (c : Dev nD) (bd : Option 𝒱.V) (E : Set ℕ) (i : grid0.Coords) (arg2 : Memref sig .tc .vmem S1x8x128x64 .f32) (harg2 : arg2.IsWhole) (arg3 : Memref sig .tc .vmem S1x8x2048x64 .bf16) (harg3 : arg3.IsWhole) (arg4 : Memref sig .tc .vmem S1x8x2048x64 .bf16) (harg4 : arg4.IsWhole) (arg5 : Memref sig .tc .vmem S1x8x8x64 .f32) (harg5 : arg5.IsWhole) (arg6 : Memref sig .tc .vmem S1x8x128x64 .f32) (harg6 : arg6.IsWhole) (arg7 : Memref sig .tc .vmem S8x128x256 .f32) (harg7 : arg7.IsWhole) (v17 : BitVec 32) (v18 : IVec S8x128 32) (v19 : IVec S128x256 32) (v23 : IVec S128x256 32)
    (X2 : BufTy.Contents (Elt F) arg2.view.ty) (X3 : BufTy.Contents (Elt F) arg3.view.ty)
    (X4 : BufTy.Contents (Elt F) arg4.view.ty) (X5 : BufTy.Contents (Elt F) arg5.view.ty) :
    Idealize.ShloMosaic.LoopInv (M := 𝕄) Idealize.ShloMosaic.frame (wpE defs₀ 𝒱 (c : Thread nD τ) bd) E
      k0_t1_loop.lb k0_t1_loop.ub k0_t1_loop.st k0_t1_ok () (k0_t1_body (F := F) i arg2 harg2 arg3 harg3 arg4 harg4 arg5 harg5 arg6 harg6 arg7 harg7 v17 v18 v19 v23) where
  inv k _ := iprop((arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (∃ f, (arg6.view.loc (c : Thread nD τ) ↦[arg6.view.set]{fullShare} f)
        ∗ ⌜∀ h : Fin k0_t1_loop.trips, h.val < k →
            arg6.view.readAt (Elt F) (Rect.unit (s := S1x8x128x64) (k0_off1 h) S1x1x128x64.size (k0_off1_inb h)).toLoadRect f
              = headOut i v17 v18 v19 v23 (arg2.view.read (Elt F) X2) (arg3.view.read (Elt F) X3) (arg4.view.read (Elt F) X4) (arg5.view.read (Elt F) X5) h⌝)
    ∗ (∃ f, arg7.view.loc (c : Thread nD τ) ↦[arg7.view.set]{fullShare} f))
  step k _ := by
    unfold k0_t1_body
    simp only [k0_part1_eq_skeleton, k0_part2_eq_skeleton, k0_part3_eq_skeleton, k0_part4_eq_skeleton]
    iintro ⟨H2, H3, H4, H5, ⟨%f6, H6, %h6⟩, ⟨%f7, H7⟩⟩
    sl_exec
    sl_step
    isplitl [H2]; · iexact H2
    isplitl [H3]; · iexact H3
    isplitl [H4]; · iexact H4
    isplitl [H5]; · iexact H5
    isplitl [H6]
    · iexists _; isplitl [H6]; · iexact H6
      ipureintro
      intro h hh
      rcases Nat.lt_succ_iff_lt_or_eq.mp hh with hlt | heq
      · refine (read_other (size := ![1, 1, 128, 64]) arg6 f6 _ _ _ (1 : Fin 4) ?_).trans (h6 h hlt)
        rw [off1_eq, off1_eq]; exact hlt
      · obtain rfl : h = k := Fin.ext heq
        exact (read_same (size := ![1, 1, 128, 64]) arg6 f6 _ _ _).trans
          (headOut_eq i v17 v18 v19 v23 _ _ _ _ h _ fun j => hL2 (back i j) (back i j).isLt)
    iexists _; iexact H7

/-! ## The body of a grid point -/

/-- The word of the grid point's own block, as the kernel computes it. -/
abbrev ownWord (i : grid0.Coords) : BitVec 32 :=
  let v0 : BitVec 32 := Scalar.muli (BitVec.ofNat 32 (i 1).val) 128#32
  let v1 : BitVec 32 := Scalar.divsi v0 256#32
  let v6 : BitVec 32 := Scalar.subi (Scalar.extui (Scalar.cmpi .sgt v0 0#32)) (Scalar.extui (Scalar.cmpi .slt v0 0#32))
  let v11 : BitVec 32 := Scalar.subi (Scalar.extui (Scalar.cmpi .sgt 256#32 0#32)) (Scalar.extui (Scalar.cmpi .slt 256#32 0#32))
  Scalar.select (Scalar.andi (Scalar.cmpi .ne v6 v11) (Scalar.cmpi .ne (Scalar.remsi v0 256#32) 0#32)) (Scalar.subi v1 1#32) v1

abbrev rowIota2 : IVec S128x256 32 := iota .tc S128x256 32 [0] iota_S128x256_d0_w32
abbrev colIota2 : IVec S128x256 32 := iota .tc S128x256 32 [1] iota_S128x256_d1_w32

/-- The output block of a grid point: its row of a head is the head's output. -/
def outBlock (i : grid0.Coords) (X2 : Vec F S1x8x128x64 .f32) (X3 X4 : Vec F S1x8x2048x64 .bf16) (X5 : Vec F S1x8x8x64 .f32) :
    Vec F S1x8x128x64 .f32 := fun y =>
  headOut i (ownWord i) rowIota rowIota2 colIota2 X2 X3 X4 X5 ⟨(y 1).val, Nat.lt_of_lt_of_eq (y 1).isLt trips1.symm⟩
    (ix4 ⟨0, Nat.zero_lt_one⟩ ⟨0, Nat.zero_lt_one⟩ (y 2) (y 3))

/-- A block read head by head is the output block. -/
theorem eq_outBlock (i : grid0.Coords) (X2 : Vec F S1x8x128x64 .f32) (X3 X4 : Vec F S1x8x2048x64 .bf16) (X5 : Vec F S1x8x8x64 .f32)
    (arg6 : Memref sig .tc .vmem S1x8x128x64 .f32) (f : BufTy.Contents (Elt F) arg6.view.ty)
    (hf : ∀ h : Fin k0_t1_loop.trips,
      arg6.view.readAt (Elt F) (Rect.unit (s := S1x8x128x64) (k0_off1 h) S1x1x128x64.size (k0_off1_inb h)).toLoadRect f
        = headOut i (ownWord i) rowIota rowIota2 colIota2 X2 X3 X4 X5 h) :
    arg6.view.read (Elt F) f = outBlock i X2 X3 X4 X5 := by
  funext y
  have hh := hf ⟨(y 1).val, Nat.lt_of_lt_of_eq (y 1).isLt trips1.symm⟩
  have e := congrFun hh (ix4 ⟨0, Nat.zero_lt_one⟩ ⟨0, Nat.zero_lt_one⟩ (y 2) (y 3))
  refine Eq.trans ?_ e
  rw [View.readAt_eq_ld]
  show arg6.view.read (Elt F) f y = arg6.view.read (Elt F) f _
  congr 1
  funext a
  apply Fin.ext
  refine Eq.trans ?_ (congrArg (· + 1 * (ix4 (⟨0, Nat.zero_lt_one⟩ : Fin 1) (⟨0, Nat.zero_lt_one⟩ : Fin 1) (y 2) (y 3) a).val) (congrFun (off1_eq _) a).symm)
  have h0 : (y 0).val = 0 := by have : (y 0).val < 1 := (y 0).isLt; omega
  match a with
  | ⟨0, _⟩ => exact h0
  | ⟨1, _⟩ => rfl
  | ⟨2, _⟩ => show (y 2).val = 0 + 1 * (y 2).val; omega
  | ⟨3, _⟩ => show (y 3).val = 0 + 1 * (y 3).val; omega

set_option maxHeartbeats 4000000 in
theorem body_triple (c : Dev nD) (E : Set ℕ) (i : grid0.Coords) (arg2 : Memref sig .tc .vmem S1x8x128x64 .f32) (harg2 : arg2.IsWhole) (arg3 : Memref sig .tc .vmem S1x8x2048x64 .bf16) (harg3 : arg3.IsWhole) (arg4 : Memref sig .tc .vmem S1x8x2048x64 .bf16) (harg4 : arg4.IsWhole) (arg5 : Memref sig .tc .vmem S1x8x8x64 .f32) (harg5 : arg5.IsWhole) (arg6 : Memref sig .tc .vmem S1x8x128x64 .f32) (harg6 : arg6.IsWhole) (arg7 : Memref sig .tc .vmem S8x128x256 .f32) (harg7 : arg7.IsWhole)
    (x2 : Vec F S1x8x128x64 .f32) (x3 x4 : Vec F S1x8x2048x64 .bf16) (x5 : Vec F S1x8x8x64 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d) ∗ (∃ d, owns (c : Thread nD τ) arg7 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (outBlock i x2 x3 x4 x5)
            ∗ (∃ d, owns (c : Thread nD τ) arg7 fullShare d)) -∗ K ⟨⟩))
      ⊢ wp frame (wpE (defs₀ (F := F)) Variants.none c none) E (cc0_moba_attention i arg2 harg2 arg3 harg3 arg4 harg4 arg5 harg5 arg6 harg6 arg7 harg7) K := by
  simp only [cc0_moba_attention_eq_skeleton]; unfold cc0_moba_attention_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact eq_outBlock i _ _ _ _ arg6 _ fun h => hL5 h h.isLt
  iexists _; iexists _; isplitr
  swap; · iexact H7
  ipureintro; rfl

/-! ## The pipeline over the grid -/

variable (m : (ℓ : Loc nD τ sig) → Buf (Elt F) ℓ) (ρ : Dev nD → PrngReg)

/-- The pipeline's data: each input's buffer at its block, the output's at the block the body computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (grid0.coords t) (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t
    = outBlock (grid0.coords t) (iblk m c 0 t) (iblk m c 1 t) (iblk m c 2 t) (iblk m c 3 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4]
  unfold Pipeline.ΦA
  rw [scopedRest0_eq]
  iintro ⟨⟨⟨%f7, H7⟩, Hr⟩, Ho, ⟨%d0, H0⟩, ⟨%d1, H1⟩, ⟨%d2, H2⟩, ⟨%d3, H3⟩, ⟨%d4, H4⟩⟩
  iapply (body_triple c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  rw [Memref.IsWhole.exists_owns_eq (Memref.isWhole_whole cc0_scratch0)]
  isplitl [H7]; · iexists f7; iexact H7
  iintro ⟨H0, H1, H2, H3, H4, ⟨%g7, H7⟩⟩
  isplitl [H7 Hr]
  · isplitl [H7]; · iexists g7; iexact H7
    iexact Hr
  isplitl [Ho]; · iexact Ho
  isplitl [H0]; · iexact H0
  isplitl [H1]; · iexact H1
  isplitl [H2]; · iexact H2
  isplitl [H3]; · iexact H3
  iexact H4

theorem row_at (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_at]
  exact triple_restated (body_at m c t) rfl .rfl fun _ => .rfl

set_option backward.isDefEq.respectTransparency.types false in
set_option maxHeartbeats 800000 in
/-- The launch: every final state has the pipeline's arrays at what the data say, the rest unchanged, the counters at zero. -/
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_arrays : θ_run defs (onTc (τ := τ) (main (F := F))) (s₀ m ρ) (Pipeline.FramePost cfgs (dats m) 0 (V m)) :=
  (θ_run defs _ _).mono (fun _ h => h.1) (run_all m ρ)

/-- The frame: the arguments end unchanged, every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_arrays m ρ)) ((θ_run defs _ _).mono (fun _ h => h.2) (run_all m ρ))

end Cert.MobaIdeal.Att
-- ==== Proof.MobaMath.lean ====
module

public import Idealize.ShloMosaic.Lib.SortFacts
public import Idealize.ShloMosaic.Lib.Pointwise

/-! Block attention on extended reals: which past blocks a query attends to, its softmax over the keys it sees, and the
   two ways of computing them. -/

@[expose] public section
noncomputable section
open Idealize.ShloMosaic
open scoped Classical

namespace Cert.MobaPair

/-! ## The three blocks of the greatest gates -/

/-- Block `i` comes before block `j`: its gate is greater, or the gates are equal and its index is lower. -/
def beats (g : Fin 8 → EReal) (i j : Fin 8) : Prop := g j < g i ∨ (g i = g j ∧ i < j)

/-- How many blocks come before block `j`. -/
def rank (g : Fin 8 → EReal) (j : Fin 8) : ℕ := (Finset.univ.filter fun i => beats g i j).card

theorem beats_asymm (g : Fin 8 → EReal) (i j : Fin 8) (h : beats g i j) : ¬ beats g j i := by
  rintro (h2 | ⟨h2, h3⟩) <;> rcases h with h | ⟨h, h'⟩
  · exact lt_asymm h h2
  · rw [h] at h2; exact lt_irrefl _ h2
  · rw [h2] at h; exact lt_irrefl _ h
  · exact lt_asymm h' h3

theorem beats_total (g : Fin 8 → EReal) (i j : Fin 8) (h : i ≠ j) : beats g i j ∨ beats g j i := by
  rcases lt_trichotomy (g i) (g j) with h1 | h1 | h1
  · exact .inr (.inl h1)
  · rcases lt_or_gt_of_ne h with h2 | h2
    · exact .inl (.inr ⟨h1, h2⟩)
    · exact .inr (.inr ⟨h1.symm, h2⟩)
  · exact .inl (.inl h1)

theorem beats_trans (g : Fin 8 → EReal) (i j k : Fin 8) (h : beats g i j) (h' : beats g j k) : beats g i k := by
  rcases h with h | ⟨h, h2⟩ <;> rcases h' with h' | ⟨h', h3⟩
  · exact .inl (h'.trans h)
  · exact .inl (h' ▸ h)
  · exact .inl (h ▸ h')
  · exact .inr ⟨h.trans h', h2.trans h3⟩

theorem beats_irrefl (g : Fin 8 → EReal) (i : Fin 8) : ¬ beats g i i := fun h => beats_asymm g i i h h

/-- The stable sort by greater gates is the sort by `beats`. -/
theorem stableSort_beats (R : Fin 8 → Fin 8 → Bool) (g : Fin 8 → EReal) (hR : ∀ i j, R i j = true ↔ g j < g i) (l : List (Fin 8))
    (hl : l.Pairwise (· < ·)) : stableSort R l = stableSort (fun i j => decide (beats g i j)) l := by
  induction l with
  | nil => rfl
  | cons a l ih =>
    rw [List.pairwise_cons] at hl
    unfold stableSort
    rw [ih hl.2]
    refine insertBefore_congr _ _ a _ fun b hb => ?_
    have hab := hl.1 b ((perm_stableSort _ l).mem_iff.mp hb)
    rw [Bool.eq_iff_iff, hR, decide_eq_true_iff]
    constructor
    · exact .inl
    · rintro (h | ⟨-, h⟩)
      · exact h
      · exact absurd hab (lt_asymm h)

theorem sortedFrom_beats (R : Fin 8 → Fin 8 → Bool) (g : Fin 8 → EReal) (hR : ∀ i j, R i j = true ↔ g j < g i) :
    sortedFrom R = sortedFrom (fun i j => decide (beats g i j)) := by
  have h : sortPositions 8 R = sortPositions 8 (fun i j => decide (beats g i j)) :=
    stableSort_beats R g hR _ (List.pairwise_lt_finRange 8)
  funext k
  unfold sortedFrom
  exact List.get_of_eq h _

theorem beats_sorted (R : Fin 8 → Fin 8 → Bool) (g : Fin 8 → EReal) (hR : ∀ i j, R i j = true ↔ g j < g i) (a b : Fin 8) :
    beats g (sortedFrom R a) (sortedFrom R b) ↔ a < b := by
  have key : ∀ a b : Fin 8, a < b → beats g (sortedFrom R a) (sortedFrom R b) := fun a b hab => by
    have h := sortedFrom_noInversion (fun i j => decide (beats g i j)) (fun i j => decide (beats g i j))
      (fun i j h => by simp only [decide_eq_true_iff, decide_eq_false_iff_not] at h ⊢; exact beats_asymm g i j h)
      (fun _ _ h => h)
      (fun i j k h h' => by
        simp only [decide_eq_false_iff_not] at h h' ⊢
        intro hik
        by_cases e : i = j
        · exact h' (e ▸ hik)
        · exact h' (beats_trans g j i k ((beats_total g i j e).resolve_left h) hik))
      a b hab
    rw [← sortedFrom_beats R g hR, decide_eq_false_iff_not] at h
    exact (beats_total g _ _ (fun e => (ne_of_lt hab) (sortedFrom_injective R e))).resolve_right h
  constructor
  · intro h
    by_contra hn
    rcases eq_or_lt_of_le (not_lt.mp hn) with e | e
    · rw [e] at h; exact beats_irrefl g _ h
    · exact beats_asymm g _ _ h (key b a e)
  · exact key a b

theorem rank_sorted (R : Fin 8 → Fin 8 → Bool) (g : Fin 8 → EReal) (hR : ∀ i j, R i j = true ↔ g j < g i) (b : Fin 8) :
    rank g (sortedFrom R b) = b.val := by
  have h : (Finset.univ.filter fun i => beats g i (sortedFrom R b)) = (Finset.Iio b).map ⟨sortedFrom R, sortedFrom_injective R⟩ := by
    ext i
    obtain ⟨a, rfl⟩ := sortedFrom_surjective R i
    simp only [Finset.mem_filter, Finset.mem_univ, true_and, beats_sorted R g hR, Finset.mem_map, Finset.mem_Iio, Function.Embedding.coeFn_mk]
    exact ⟨fun h => ⟨a, h, rfl⟩, fun ⟨a', h, e⟩ => sortedFrom_injective R e ▸ h⟩
  unfold rank
  rw [h, Finset.card_map, Fin.card_Iio]

/-- The first three positions of the sort are the blocks fewer than three come before. -/
theorem topk_iff (R : Fin 8 → Fin 8 → Bool) (g : Fin 8 → EReal) (hR : ∀ i j, R i j = true ↔ g j < g i) (j : Fin 8) :
    (sortedFrom R 0 = j ∨ sortedFrom R 1 = j ∨ sortedFrom R 2 = j) ↔ rank g j < 3 := by
  obtain ⟨a, rfl⟩ := sortedFrom_surjective R j
  rw [rank_sorted R g hR]
  simp only [(sortedFrom_injective R).eq_iff]
  constructor
  · rintro (h | h | h) <;> subst h <;> decide
  · revert a; decide

/-! ## The softmax over the seen keys -/

section Softmax
variable (s : Fin 8 → Fin 256 → EReal) (V : Fin 8 → Fin 256 → EReal)

/-- The greatest score. -/
def top : EReal := Finset.univ.sup fun p : Fin 8 × Fin 256 => s p.1 p.2

/-- A key's weight. -/
def wt (j : Fin 8) (k : Fin 256) : EReal := Ideal.exp (s j k - top s)

/-- The weights' sum. -/
def den : EReal := ∑ j : Fin 8, ∑ k : Fin 256, wt s j k

/-- The softmax's weighted sum of the values: the masked scores are `⊥`. -/
def attend : EReal := Ideal.div (∑ j : Fin 8, ∑ k : Fin 256, wt s j k * V j k) (den s)

theorem top_le_iff (x : EReal) : top s ≤ x ↔ ∀ j k, s j k ≤ x := by
  unfold top
  rw [Finset.sup_le_iff]
  exact ⟨fun h j k => h (j, k) (Finset.mem_univ _), fun h p _ => h p.1 p.2⟩

/-- The scores are real or masked, and some key is seen. -/
structure Proper : Prop where
  real : ∀ j k, s j k ≠ ⊤
  seen : ∃ j k, s j k ≠ ⊥

variable {s}

theorem Proper.top_real (h : Proper s) : ∃ r : ℝ, top s = r := by
  obtain ⟨j, k, hjk⟩ := h.seen
  have h1 : top s ≠ ⊤ := by
    have : top s < ⊤ := (Finset.sup_lt_iff (bot_lt_top (α := EReal))).mpr fun p _ => lt_top_iff_ne_top.mpr (h.real p.1 p.2)
    exact this.ne
  have h2 : top s ≠ ⊥ := fun e => hjk (le_bot_iff.mp ((top_le_iff s ⊥).mp e.le j k))
  exact ⟨(top s).toReal, (EReal.coe_toReal h1 h2).symm⟩

theorem wt_masked (h : Proper s) (j : Fin 8) (k : Fin 256) (hs : s j k = ⊥) : wt s j k = 0 := by
  unfold wt; rw [hs, EReal.bot_sub]; rfl

theorem wt_real (h : Proper s) (j : Fin 8) (k : Fin 256) : ∃ r : ℝ, 0 ≤ r ∧ wt s j k = r ∧ (s j k ≠ ⊥ → 0 < r) := by
  by_cases hs : s j k = ⊥
  · exact ⟨0, le_rfl, wt_masked h j k hs, fun h => absurd hs h⟩
  · obtain ⟨t, ht⟩ := h.top_real
    refine ⟨Real.exp ((s j k).toReal - t), (Real.exp_pos _).le, ?_, fun _ => Real.exp_pos _⟩
    unfold wt
    rw [ht]
    conv_lhs => rw [← EReal.coe_toReal (h.real j k) hs, ← EReal.coe_sub]
    rfl

theorem coe_sum {ι : Type} (t : Finset ι) (f : ι → ℝ) : ((∑ i ∈ t, f i : ℝ) : EReal) = ∑ i ∈ t, (f i : EReal) := by
  classical
  induction t using Finset.induction_on with
  | empty => rfl
  | insert a t ha ih => rw [Finset.sum_insert ha, Finset.sum_insert ha, EReal.coe_add, ih]

theorem den_real (h : Proper s) : ∃ r : ℝ, 0 < r ∧ den s = r := by
  choose w hw0 hw hwp using wt_real h
  refine ⟨∑ j, ∑ k, w j k, ?_, ?_⟩
  · obtain ⟨j, k, hjk⟩ := h.seen
    refine Finset.sum_pos' (fun i _ => Finset.sum_nonneg fun k _ => hw0 i k) ⟨j, Finset.mem_univ _, ?_⟩
    exact Finset.sum_pos' (fun k _ => hw0 j k) ⟨k, Finset.mem_univ _, hwp j k hjk⟩
  · unfold den
    rw [coe_sum]
    exact Finset.sum_congr rfl fun j _ => by rw [coe_sum]; exact Finset.sum_congr rfl fun k _ => hw j k

theorem sum_mul_const {ι : Type} (t : Finset ι) (f : ι → EReal) (c : ℝ) (hc : 0 ≤ c) :
    ∑ i ∈ t, f i * (c : EReal) = (∑ i ∈ t, f i) * (c : EReal) := by
  classical
  induction t using Finset.induction_on with
  | empty => simp
  | insert a t ha ih =>
    rw [Finset.sum_insert ha, Finset.sum_insert ha, ih]
    exact (EReal.right_distrib_of_nonneg_of_ne_top (EReal.coe_nonneg.mpr hc) (EReal.coe_ne_top c) _ _).symm

theorem attend_eq (h : Proper s) :
    attend s V = ∑ j : Fin 8, ∑ k : Fin 256, Ideal.div (wt s j k) (den s) * V j k := by
  obtain ⟨r, hr, hd⟩ := den_real h
  have hne : (r : EReal) ≠ 0 := by exact_mod_cast hr.ne'
  unfold attend
  rw [hd]
  simp only [Ideal.div, if_neg hne]
  rw [← EReal.coe_inv, ← sum_mul_const _ _ _ (inv_nonneg.mpr hr.le)]
  refine Finset.sum_congr rfl fun j _ => ?_
  rw [← sum_mul_const _ _ _ (inv_nonneg.mpr hr.le)]
  exact Finset.sum_congr rfl fun k _ => mul_right_comm _ _ _

/-! ### The keys in one row -/

/-- Key `k` of block `j` in the row of all keys. -/
def at2 (j : Fin 8) (k : Fin 256) : Fin 2048 := ⟨j.val * 256 + k.val, by omega⟩

theorem sum_row (f : Fin 2048 → EReal) : ∑ u : Fin 2048, f u = ∑ j : Fin 8, ∑ k : Fin 256, f (at2 j k) := by
  rw [← Fintype.sum_prod_type' (fun j k => f (at2 j k))]
  refine (Fintype.sum_equiv (finProdFinEquiv (m := 8) (n := 256)) _ _ fun p => ?_).symm
  congr 1
  apply Fin.ext
  show p.1.val * 256 + p.2.val = p.2.val + 256 * p.1.val
  omega

theorem fold_row (f : Fin 2048 → EReal) : Finset.fold max ⊥ f Finset.univ = top fun j k => f (at2 j k) := by
  refine eq_of_forall_ge_iff fun x => ?_
  rw [Finset.fold_max_le, top_le_iff]
  constructor
  · exact fun h j k => h.2 _ (Finset.mem_univ _)
  · refine fun h => ⟨bot_le, fun u _ => ?_⟩
    have e : u = at2 ⟨u.val / 256, by omega⟩ ⟨u.val % 256, by omega⟩ := Fin.ext (by show u.val = u.val / 256 * 256 + u.val % 256; omega)
    rw [e]; exact h _ _

/-- The softmax over a row of masked scores, entry by entry. -/
theorem row_eq (seen : Fin 2048 → Prop) (sc Vr : Fin 2048 → EReal) (s : Fin 8 → Fin 256 → EReal)
    (hs : ∀ j k, s j k = if seen (at2 j k) then sc (at2 j k) else ⊥) (h : Proper s) :
    (∑ u : Fin 2048, (if seen u then Ideal.div
        (Ideal.exp ((if seen u then sc u else ⊥) - max ⊥ (Finset.fold max ⊥ (fun u => if seen u then sc u else ⊥) Finset.univ)))
        (0 + ∑ u : Fin 2048, Ideal.exp ((if seen u then sc u else ⊥) - max ⊥ (Finset.fold max ⊥ (fun u => if seen u then sc u else ⊥) Finset.univ)))
        else 0) * Vr u) = attend s fun j k => Vr (at2 j k) := by
  rw [attend_eq _ h, fold_row, sum_row, sum_row, zero_add, max_eq_right bot_le]
  simp only [← hs]
  refine Finset.sum_congr rfl fun j _ => Finset.sum_congr rfl fun k _ => ?_
  congr 1
  by_cases hseen : seen (at2 j k)
  · rw [if_pos hseen]; rfl
  · rw [if_neg hseen]
    have : s j k = ⊥ := by rw [hs, if_neg hseen]
    rw [wt_masked h j k this]
    obtain ⟨r, hr, hd⟩ := den_real h
    have hne : (r : EReal) ≠ 0 := by exact_mod_cast hr.ne'
    rw [hd, Ideal.div, if_neg hne, zero_mul]

/-! ### Block by block -/

variable (n : Fin 8)

abbrev lo (l : Fin 128) : Fin 256 := ⟨l.val, by omega⟩
abbrev hi (l : Fin 128) : Fin 256 := ⟨128 + l.val, by omega⟩

theorem lo_or_hi (k : Fin 256) : (∃ l, k = lo l) ∨ ∃ l, k = hi l := by
  by_cases h : k.val < 128
  · exact .inl ⟨⟨k.val, h⟩, rfl⟩
  · exact .inr ⟨⟨k.val - 128, by omega⟩, Fin.ext (by show k.val = 128 + (k.val - 128); omega)⟩

theorem sum_lo_hi (f : Fin 256 → EReal) : ∑ k : Fin 256, f k = ∑ l : Fin 128, (f (lo l) + f (hi l)) := by
  rw [Finset.sum_add_distrib]
  exact Fin.sum_univ_add (a := 128) (b := 128) f

theorem run_max (hm : ∀ j k, n < j → s j k = ⊥) (mx : ℕ → Fin 128 → EReal) (h0 : ∀ l, mx 0 l = ⊥)
    (hstep : ∀ (j : Fin 8) (_ : j ≤ n) l, mx (j.val + 1) l = max (mx j.val l) (max (s j (lo l)) (s j (hi l)))) :
    Finset.fold max ⊥ (fun l => mx (n.val + 1) l) Finset.univ = top s := by
  have key : ∀ K : ℕ, K ≤ n.val + 1 → ∀ l x, mx K l ≤ x ↔ ∀ j : Fin 8, j.val < K → s j (lo l) ≤ x ∧ s j (hi l) ≤ x := by
    intro K
    induction K with
    | zero => intro _ l x; rw [h0]; exact ⟨fun _ j hj => absurd hj (Nat.not_lt_zero _), fun _ => bot_le⟩
    | succ K ih =>
      intro hK l x
      have hK8 : K < 8 := by omega
      rw [hstep ⟨K, hK8⟩ (Fin.le_def.mpr (by show K ≤ n.val; omega)) l, max_le_iff, max_le_iff, ih (by omega)]
      constructor
      · rintro ⟨h1, h2⟩ j hj
        rcases Nat.lt_succ_iff_lt_or_eq.mp hj with h | h
        · exact h1 j h
        · obtain rfl : j = ⟨K, hK8⟩ := Fin.ext h
          exact h2
      · exact fun h => ⟨fun j hj => h j (by omega), h ⟨K, hK8⟩ (by simp)⟩
  refine eq_of_forall_ge_iff fun x => ?_
  rw [Finset.fold_max_le, top_le_iff]
  constructor
  · rintro ⟨-, h⟩ j k
    by_cases hj : n < j
    · rw [hm j k hj]; exact bot_le
    · have hjn : j.val < n.val + 1 := by have := Fin.le_def.mp (not_lt.mp hj); omega
      rcases lo_or_hi k with ⟨l, rfl⟩ | ⟨l, rfl⟩
      · exact ((key _ le_rfl l x).mp (h l (Finset.mem_univ _)) j hjn).1
      · exact ((key _ le_rfl l x).mp (h l (Finset.mem_univ _)) j hjn).2
  · exact fun h => ⟨bot_le, fun l _ => (key _ le_rfl l x).mpr fun j _ => ⟨h _ _, h _ _⟩⟩

theorem run_sum (f : Fin 8 → EReal) (hf : ∀ j, n < j → f j = 0) (ac : ℕ → EReal) (h0 : ac 0 = 0)
    (hstep : ∀ (j : Fin 8) (_ : j ≤ n), ac (j.val + 1) = ac j.val + f j) : ac (n.val + 1) = ∑ j : Fin 8, f j := by
  have key : ∀ K : ℕ, K ≤ n.val + 1 → ac K = ∑ j ∈ Finset.range K, (if h : j < 8 then f ⟨j, h⟩ else 0) := by
    intro K
    induction K with
    | zero => intro _; rw [h0]; rfl
    | succ K ih =>
      intro hK
      have hK8 : K < 8 := by omega
      rw [hstep ⟨K, hK8⟩ (Fin.le_def.mpr (by show K ≤ n.val; omega)), Finset.sum_range_succ, dif_pos hK8, ← ih (by omega)]
  rw [key _ le_rfl, Finset.sum_fin_eq_sum_range]
  refine Finset.sum_subset (fun x hx => ?_) fun x hx hn => ?_
  · rw [Finset.mem_range] at hx ⊢; omega
  · rw [Finset.mem_range] at hx hn
    rw [dif_pos hx]
    exact hf _ (Fin.lt_def.mpr (by show n.val < x; omega))

/-- The softmax computed block by block: the values' sum and the weights' sum by lanes, the blocks after the own one left out. -/
theorem run_eq (hm : ∀ j k, n < j → s j k = ⊥) (h : Proper s) (acc : ℕ → EReal) (dn : ℕ → Fin 128 → EReal)
    (ha0 : acc 0 = 0) (hd0 : ∀ l, dn 0 l = 0)
    (ha : ∀ (j : Fin 8) (_ : j ≤ n), acc (j.val + 1) = acc j.val + ∑ k : Fin 256, wt s j k * V j k)
    (hd : ∀ (j : Fin 8) (_ : j ≤ n) l, dn (j.val + 1) l = dn j.val l + (wt s j (lo l) + wt s j (hi l))) :
    Ideal.div (acc (n.val + 1)) (∑ l : Fin 128, dn (n.val + 1) l) = attend s V := by
  have hw : ∀ j k, n < j → wt s j k = 0 := fun j k hj => wt_masked h j k (hm j k hj)
  have e1 : acc (n.val + 1) = ∑ j : Fin 8, ∑ k : Fin 256, wt s j k * V j k :=
    run_sum n _ (fun j hj => Finset.sum_eq_zero fun k _ => by rw [hw j k hj, zero_mul]) acc ha0 ha
  have e2 : ∀ l, dn (n.val + 1) l = ∑ j : Fin 8, (wt s j (lo l) + wt s j (hi l)) := fun l =>
    run_sum n _ (fun j hj => by rw [hw j _ hj, hw j _ hj, zero_add]) (fun k => dn k l) (hd0 l) (fun j hj => hd j hj l)
  unfold attend den
  rw [e1]
  congr 1
  simp only [e2]
  rw [Finset.sum_comm]
  exact Finset.sum_congr rfl fun j _ => (sum_lo_hi _).symm

end Softmax

/-! ## A query's scores -/

section Query
variable (q : Fin 64 → EReal) (km : Fin 8 → Fin 64 → EReal) (K : Fin 8 → Fin 256 → Fin 64 → EReal)
variable (n : Fin 8) (r : Fin 256)

/-- The gate of a past block: the query against the block's mean key. -/
def gate (j : Fin 8) : EReal := if j < n then ∑ d : Fin 64, q d * km j d else ⊥

/-- The query at row `r` of block `n` sees the keys of its own block up to itself and those of the chosen past blocks. -/
def sees (j : Fin 8) (k : Fin 256) : Prop := (j = n ∧ k ≤ r) ∨ (j < n ∧ rank (gate q km n) j < 3)

/-- The query's score against a key, `⊥` against the keys it does not see. -/
def score (j : Fin 8) (k : Fin 256) : EReal :=
  if sees q km n r j k then (∑ d : Fin 64, q d * K j k d) * ((1 / 8 : ℝ) : EReal) else ⊥

theorem score_after (j : Fin 8) (k : Fin 256) (h : n < j) : score q km K n r j k = ⊥ := by
  refine if_neg ?_
  rintro (⟨h1, -⟩ | ⟨h1, -⟩)
  · exact h.ne' h1
  · exact lt_asymm h h1

theorem sum_real (hq : ∀ d, ∃ x : ℝ, q d = x) (hK : ∀ j k d, ∃ x : ℝ, K j k d = x) (j : Fin 8) (k : Fin 256) :
    ∃ x : ℝ, ∑ d : Fin 64, q d * K j k d = x := by
  choose a ha using hq
  choose b hb using hK
  refine ⟨∑ d, a d * b j k d, ?_⟩
  rw [coe_sum]
  exact Finset.sum_congr rfl fun d _ => by rw [ha, hb, EReal.coe_mul]

theorem score_proper (hq : ∀ d, ∃ x : ℝ, q d = x) (hK : ∀ j k d, ∃ x : ℝ, K j k d = x) : Proper (score q km K n r) where
  real j k := by
    unfold score
    split
    · obtain ⟨x, hx⟩ := sum_real q K hq hK j k
      rw [hx, ← EReal.coe_mul]; exact EReal.coe_ne_top _
    · exact bot_ne_top
  seen := by
    refine ⟨n, r, ?_⟩
    unfold score
    rw [if_pos (.inl ⟨rfl, le_rfl⟩)]
    obtain ⟨x, hx⟩ := sum_real q K hq hK n r
    rw [hx, ← EReal.coe_mul]; exact EReal.coe_ne_bot _

/-- The scale may be put on the query's entries. -/
theorem scale_in (hq : ∀ d, ∃ x : ℝ, q d = x) (hK : ∀ j k d, ∃ x : ℝ, K j k d = x) (j : Fin 8) (k : Fin 256) :
    ∑ d : Fin 64, q d * ((1 / 8 : ℝ) : EReal) * K j k d = (∑ d : Fin 64, q d * K j k d) * ((1 / 8 : ℝ) : EReal) := by
  rw [← sum_mul_const _ _ _ (by norm_num)]
  exact Finset.sum_congr rfl fun d _ => mul_right_comm _ _ _

/-- The output of the query at one lane of the values. -/
def out (V : Fin 8 → Fin 256 → EReal) : EReal := attend (score q km K n r) V

end Query

/-! ## Counting in extended reals -/

theorem count_eq (g : Fin 8 → EReal) (j : Fin 8) : ∑ i : Fin 8, (if beats g i j then (1 : EReal) else 0) = ((rank g j : ℕ) : EReal) := by
  unfold rank
  rw [Finset.card_filter]
  simp only [Fin.sum_univ_succ, Fin.sum_univ_zero]
  push_cast
  rfl

theorem count_lt (g : Fin 8 → EReal) (j : Fin 8) :
    (∑ i : Fin 8, (if beats g i j then (1 : EReal) else 0)) < 3 ↔ rank g j < 3 := by
  rw [count_eq]
  have : ((3 : ℕ) : EReal) = 3 := rfl
  rw [← this]
  exact EReal.natCast_lt_iff

/-! ## Constants and words -/

theorem eighth : Ideal.ofBits .f32 0x3E000000#32 = ((1 / 8 : ℝ) : EReal) := by
  simp [Ideal.ofBits, Ideal.ieee, -EReal.coe_mul]; norm_num
theorem half : Ideal.ofBits .f32 0x3F000000#32 = ((1 / 2 : ℝ) : EReal) := by
  simp [Ideal.ofBits, Ideal.ieee, -EReal.coe_mul]; norm_num
theorem three : Ideal.ofBits .f32 0x40400000#32 = 3 := by
  rw [show (3 : EReal) = ((3 : ℝ) : EReal) by norm_cast]
  simp [Ideal.ofBits, Ideal.ieee, -EReal.coe_mul]; norm_num
theorem lowest : Ideal.ofBits .f32 0xFF800000#32 = ⊥ := by
  simp [Ideal.ofBits, Ideal.ieee]

theorem half_lt_one : ((1 / 2 : ℝ) : EReal) < 1 := by
  rw [← EReal.coe_one, EReal.coe_lt_coe_iff]; norm_num
theorem not_half_lt_zero : ¬ ((1 / 2 : ℝ) : EReal) < 0 := by
  rw [← EReal.coe_zero, EReal.coe_lt_coe_iff]; norm_num
theorem half_lt_ite (p : Prop) [Decidable p] : ((1 / 2 : ℝ) : EReal) < (if p then 1 else 0) ↔ p := by
  by_cases h : p
  · rw [if_pos h]; exact ⟨fun _ => h, fun _ => half_lt_one⟩
  · rw [if_neg h]; exact ⟨fun h' => absurd h' not_half_lt_zero, fun h' => absurd h' h⟩

theorem pick_ofBool {α : Type} (p : Prop) [Decidable p] (x y : α) : Scalar.select (BitVec.ofBool (decide p)) x y = if p then x else y := by
  by_cases h : p
  · rw [if_pos h, decide_eq_true h]; rfl
  · rw [if_neg h, decide_eq_false h]; rfl

end Cert.MobaPair

end
-- ==== Proof.MobaHead.lean ====
module

public import proofs.«01_k».proof.Proof.MobaRun
public import proofs.«01_k».proof.Proof.MobaMath
public import Idealize.ShloMosaic.Lib.WordCmp

/-! The attention kernel's head, entry by entry: its gates, its ranks, its masked scores, and its output. -/

@[expose] public section
noncomputable section
open Idealize.ShloMosaic Idealize.ShloMosaic.TcCoe Idealize.SL.Sem
open scoped Classical

namespace Cert.MobaIdeal.Att
open Cert.MobaIdeal Cert.MobaIdeal.Gen Cert.MobaIdeal.Words Cert.MobaPair Idealize.ShloMosaic.WordCmp

theorem mask_eq : Named.named (F := Ideal) κ "mask" (φ := .f32) 0xF149F2CA#32 = (⊥ : EReal) :=
  IdealRules.named_const.ideal_named_scalar _ _ _ _ rfl

theorem ownWord_eq (i : grid0.Coords) : ownWord i = BitVec.ofNat 32 (own i) := by
  have h : ∀ b : Fin 16, ownWord (pt0 b) = BitVec.ofNat 32 (b.val / 2) := by decide +kernel
  exact h (i 1)

/-- The comparison of two blocks as the kernel counts it. -/
theorem beat_term (g : Fin 8 → EReal) (i j : Fin 8) :
    (if g j < g i then (1 : EReal) else if g i = g j then Scalar.select (IntOp.cmpi .sgt (BitVec.ofNat 32 j.val) (BitVec.ofNat 32 i.val)) 1 0 else 0)
      = if beats g i j then 1 else 0 := by
  rw [cmpi_sgt_ofNat (by have := j.isLt; omega) (by have := i.isLt; omega), pick_ofBool]
  unfold beats
  by_cases h1 : g j < g i
  · rw [if_pos h1, if_pos (.inl h1)]
  · rw [if_neg h1]
    by_cases h2 : g i = g j
    · rw [if_pos h2]
      by_cases h3 : i.val < j.val
      · rw [if_pos h3, if_pos (.inr ⟨h2, h3⟩)]
      · rw [if_neg h3, if_neg]
        rintro (h | h)
        · exact h1 h
        · exact h3 h.2
    · rw [if_neg h2, if_neg]
      rintro (h | h)
      · exact h1 h
      · exact h2 h.1

section Head
variable (i : grid0.Coords) (X2 : Vec Ideal S1x8x128x64 .f32) (X3 X4 : Vec Ideal S1x8x2048x64 .bf16) (X5 : Vec Ideal S1x8x8x64 .f32)
  (h : Fin k0_t1_loop.trips)

abbrev hd : Fin 8 := ⟨h.val, lt1 h⟩
/-- The query's block and its row there. -/
abbrev nb : Fin 8 := ⟨own i, own_lt i⟩
abbrev rb (r : Fin 128) : Fin 256 := ⟨(i 1).val % 2 * 128 + r.val, by omega⟩

abbrev Qr (r : Fin 128) : Fin 64 → EReal := fun d => X2 (ix4 0 (hd h) r d)
abbrev Mr : Fin 8 → Fin 64 → EReal := fun j d => X5 (ix4 0 (hd h) j d)
abbrev Kr : Fin 8 → Fin 256 → Fin 64 → EReal := fun j k d => X3 (ix4 0 (hd h) (at2 j k) d)
abbrev Vr (d : Fin 64) : Fin 8 → Fin 256 → EReal := fun j k => X4 (ix4 0 (hd h) (at2 j k) d)

theorem qAt_apply (r : Fin 128) (d : Fin 64) : qAt X2 h (ix4 0 0 r d) = X2 (ix4 0 (hd h) r d) := by
  show X2 _ = X2 _
  congr 1
  funext a
  apply Fin.ext
  refine (congrArg (· + 1 * (ix4 (0 : Fin 1) (0 : Fin 1) r d a).val) (congrFun (off1_eq h) a)).trans ?_
  match a with
  | ⟨0, _⟩ => rfl
  | ⟨1, _⟩ => rfl
  | ⟨2, _⟩ => show 0 + 1 * r.val = r.val; omega
  | ⟨3, _⟩ => show 0 + 1 * d.val = d.val; omega

theorem meanAt_apply (j : Fin 8) (d : Fin 64) : meanAt X5 h (ix4 0 0 j d) = X5 (ix4 0 (hd h) j d) := by
  show X5 _ = X5 _
  congr 1
  funext a
  apply Fin.ext
  refine (congrArg (· + 1 * (ix4 (0 : Fin 1) (0 : Fin 1) j d a).val) (congrFun (off2_eq h) a)).trans ?_
  match a with
  | ⟨0, _⟩ => rfl
  | ⟨1, _⟩ => rfl
  | ⟨2, _⟩ => show 0 + 1 * j.val = j.val; omega
  | ⟨3, _⟩ => show 0 + 1 * d.val = d.val; omega

theorem keyAt_apply (j : Fin (k0_t2_loop i).trips) (k : Fin 256) (d : Fin 64) :
    keyAt i X3 h j (ix4 0 0 k d) = X3 (ix4 0 (hd h) (at2 ⟨j.val, lt2 j⟩ k) d) := by
  show X3 _ = X3 _
  congr 1
  funext a
  apply Fin.ext
  refine (congrArg (· + 1 * (ix4 (0 : Fin 1) (0 : Fin 1) k d a).val) (congrFun (off3_eq i h j) a)).trans ?_
  match a with
  | ⟨0, _⟩ => rfl
  | ⟨1, _⟩ => rfl
  | ⟨2, _⟩ => show 256 * j.val + 1 * k.val = j.val * 256 + k.val; omega
  | ⟨3, _⟩ => show 0 + 1 * d.val = d.val; omega

theorem valAt_apply (j : Fin (k0_t4_loop i).trips) (k : Fin 256) (d : Fin 64) :
    valAt i X4 h j (ix4 0 0 k d) = X4 (ix4 0 (hd h) (at2 ⟨j.val, lt4 j⟩ k) d) := by
  show X4 _ = X4 _
  congr 1
  funext a
  apply Fin.ext
  refine (congrArg (· + 1 * (ix4 (0 : Fin 1) (0 : Fin 1) k d a).val) (congrFun (off8_eq i h j) a)).trans ?_
  match a with
  | ⟨0, _⟩ => rfl
  | ⟨1, _⟩ => rfl
  | ⟨2, _⟩ => show 256 * j.val + 1 * k.val = j.val * 256 + k.val; omega
  | ⟨3, _⟩ => show 0 + 1 * d.val = d.val; omega

theorem past_apply (j : Fin 8) (r : Fin 128) :
    k0_pay5 (ownWord i) rowIota (ix2 j r) = BitVec.ofBool (decide (j.val < own i)) := by
  have e : k0_pay5 (ownWord i) rowIota (ix2 j r) = IntOp.cmpi .slt (BitVec.ofNat 32 j.val) (ownWord i) := by
    pointwise [k0_pay5, rowIota]
  rw [e, ownWord_eq, cmpi_slt_ofNat (by have := j.isLt; omega) (by have := own_lt i; omega)]

theorem gates_apply (j : Fin 8) (r : Fin 128) :
    gates (ownWord i) rowIota X2 X5 h (ix2 j r) = gate (Qr X2 h r) (Mr X5 h) (nb i) j := by
  have e : gates (ownWord i) rowIota X2 X5 h (ix2 j r)
      = Scalar.select (k0_pay5 (ownWord i) rowIota (ix2 j r)) (∑ x : Fin 64, (meanAt X5 h (ix4 0 0 j x) : EReal) * qAt X2 h (ix4 0 0 r x))
          (Named.named (F := Ideal) κ "mask" (φ := .f32) 0xF149F2CA#32) := by
    unfold gates
    pointwise [k0_pay6, k0_pay3]
  rw [e, past_apply, pick_ofBool, mask_eq]
  unfold gate
  refine if_congr Iff.rfl (Finset.sum_congr rfl fun d _ => ?_) rfl
  rw [meanAt_apply, qAt_apply]
  exact mul_comm _ _

abbrev bt (r : Fin 128) (i' j : Fin 8) : EReal :=
  if beats (fun j => gates (ownWord i) rowIota X2 X5 h (ix2 j r)) i' j then 1 else 0

theorem ranks1_apply (j : Fin 8) (r : Fin 128) :
    ranks1 (ownWord i) rowIota X2 X5 h (ix2 j r) = bt i X2 X5 h r 0 j + bt i X2 X5 h r 1 j + bt i X2 X5 h r 2 j + bt i X2 X5 h r 3 j := by
  unfold bt
  rw [← beat_term _ 0 j, ← beat_term _ 1 j, ← beat_term _ 2 j, ← beat_term _ 3 j]
  unfold ranks1 gates
  generalize qAt X2 h = Q
  generalize meanAt X5 h = M
  pointwise [k0_pay13, k0_pay7, k0_pay8, k0_pay9, k0_pay10, k0_pay11, k0_pay12, rowIota]

theorem ranks2_apply (j : Fin 8) (r : Fin 128) :
    ranks2 (ownWord i) rowIota X2 X5 h (ix2 j r)
      = ranks1 (ownWord i) rowIota X2 X5 h (ix2 j r) + bt i X2 X5 h r 4 j + bt i X2 X5 h r 5 j + bt i X2 X5 h r 6 j := by
  unfold bt
  rw [← beat_term _ 4 j, ← beat_term _ 5 j, ← beat_term _ 6 j]
  unfold ranks2
  generalize gates (ownWord i) rowIota X2 X5 h = G
  generalize ranks1 (ownWord i) rowIota X2 X5 h = R
  pointwise [k0_pay19, k0_pay14, k0_pay15, k0_pay16, k0_pay17, k0_pay18, rowIota]

/-- The table of chosen blocks. -/
abbrev members : FVec Ideal S128x128 .bf16 :=
  k0_pay25 (k0_pay5 (ownWord i) rowIota) (ranks2 (ownWord i) rowIota X2 X5 h) (k0_pay21 (gates (ownWord i) rowIota X2 X5 h))
    (k0_pay22 (gates (ownWord i) rowIota X2 X5 h)) (k0_pay23 rowIota) zeroF k0_pay24

theorem members_apply (r : Fin 128) (j : Fin 8) :
    members i X2 X5 h (ix2 r ⟨j.val, by omega⟩)
      = if j < nb i ∧ rank (gate (Qr X2 h r) (Mr X5 h) (nb i)) j < 3 then 1 else 0 := by
  have e : members i X2 X5 h (ix2 r ⟨j.val, by omega⟩)
      = Scalar.select (k0_pay5 (ownWord i) rowIota (ix2 j r))
          (if ranks2 (ownWord i) rowIota X2 X5 h (ix2 j r) + bt i X2 X5 h r 7 j < Ideal.ofBits .f32 0x40400000#32 then (1 : EReal) else 0) 0 := by
    unfold bt
    rw [← beat_term _ 7 j]
    unfold members
    generalize gates (ownWord i) rowIota X2 X5 h = G
    generalize ranks2 (ownWord i) rowIota X2 X5 h = R
    generalize k0_pay5 (ownWord i) rowIota = P
    pointwise [k0_pay25, k0_pay20, k0_pay21, k0_pay22, k0_pay23, k0_pay24, rowIota]
  rw [e, past_apply, pick_ofBool, three, ranks2_apply, ranks1_apply]
  have hg : (fun j => gates (ownWord i) rowIota X2 X5 h (ix2 j r)) = gate (Qr X2 h r) (Mr X5 h) (nb i) := funext fun j => gates_apply i X2 X5 h j r
  unfold bt
  rw [hg]
  have hc := count_lt (gate (Qr X2 h r) (Mr X5 h) (nb i)) j
  rw [Fin.sum_univ_eight] at hc
  by_cases h1 : j.val < own i
  · rw [if_pos h1]
    exact if_congr (hc.trans ⟨fun h => ⟨h1, h⟩, fun h => h.2⟩) rfl rfl
  · rw [if_neg h1, if_neg fun h => h1 h.1]

theorem word_mul_add (j : ℕ) (k : ℕ) : IntOp.addi (BitVec.ofNat 32 k) (Scalar.muli (BitVec.ofNat 32 j) 256#32) = BitVec.ofNat 32 (k + j * 256) := by
  show BitVec.ofNat 32 k + BitVec.ofNat 32 j * BitVec.ofNat 32 256 = _
  rw [BitVec.ofNat_add, BitVec.ofNat_mul]

theorem pos_apply (r : Fin 128) (k : Fin 256) : k0_pay1 i (ix2 r k) = BitVec.ofNat 32 ((i 1).val * 128 + r.val) := by
  have e : k0_pay1 i (ix2 r k) = BitVec.ofNat 32 (i 1).val * BitVec.ofNat 32 128 + BitVec.ofNat 32 r.val := by
    pointwise [k0_pay1]
    rfl
  rw [e, BitVec.ofNat_add, BitVec.ofNat_mul]

theorem row_apply (r : Fin 128) (k : Fin 256) : rowIota2 (ix2 r k) = BitVec.ofNat 32 r.val := by
  pointwise [rowIota2]
theorem col_apply (r : Fin 128) (k : Fin 256) : colIota2 (ix2 r k) = BitVec.ofNat 32 k.val := by
  pointwise [colIota2]

theorem headScore_apply (hq : ∀ r d, ∃ x : ℝ, Qr X2 h r d = x) (hK : ∀ j k d, ∃ x : ℝ, Kr X3 h j k d = x)
    (j : Fin (k0_t2_loop i).trips) (r : Fin 128) (k : Fin 256) :
    headScore i (ownWord i) rowIota rowIota2 colIota2 X2 X3 X5 h j (ix3 0 r k)
      = score (Qr X2 h r) (Mr X5 h) (Kr X3 h) (nb i) (rb i r) ⟨j.val, lt2 j⟩ k := by
  have hj8 := lt2 j
  have e : headScore i (ownWord i) rowIota rowIota2 colIota2 X2 X3 X5 h j (ix3 0 r k)
      = if Ideal.ofBits .f32 0x3F000000#32 <
          Scalar.select (Scalar.cmpi .eq (Scf.iv 0#32 1#32 j.val) (ownWord i))
            (Scalar.select (IntOp.cmpi .sle (IntOp.addi (colIota2 (ix2 r k)) (Scalar.muli (Scf.iv 0#32 1#32 j.val) 256#32)) (k0_pay1 i (ix2 r k))) (1 : EReal) 0)
            (∑ x : Fin 128, Scalar.select (IntOp.cmpi .eq (rowIota2 (ix2 ⟨x.val, x.isLt⟩ k)) (Scf.iv 0#32 1#32 j.val)) (members i X2 X5 h (ix2 r x) : EReal) 0)
        then ∑ x : Fin 64, ((qAt X2 h (ix4 0 0 r x) : EReal) * Ideal.ofBits .f32 0x3E000000#32) * keyAt i X3 h j (ix4 0 0 k x)
        else Named.named (F := Ideal) κ "mask" (φ := .f32) 0xF149F2CA#32 := by
    unfold headScore scoreAt members
    generalize keyAt i X3 h j = Z
    generalize qAt X2 h = Q
    generalize gates (ownWord i) rowIota X2 X5 h = G
    generalize ranks2 (ownWord i) rowIota X2 X5 h = R
    generalize k0_pay5 (ownWord i) rowIota = P
    generalize ownWord i = W
    generalize rowIota2 = I2
    generalize colIota2 = J2
    generalize k0_pay1 i = T
    pointwise [k0_pay28, k0_pay27, k0_pay4, k0_pay3]
  have hsum : (∑ x : Fin 128, Scalar.select (IntOp.cmpi .eq (rowIota2 (ix2 ⟨x.val, x.isLt⟩ k)) (Scf.iv 0#32 1#32 j.val)) (members i X2 X5 h (ix2 r x) : EReal) 0)
      = members i X2 X5 h (ix2 r ⟨j.val, by omega⟩) := by
    rw [Finset.sum_eq_single (⟨j.val, by omega⟩ : Fin 128)]
    · rw [row_apply, iv_eq _ hj8, cmpi_eq_ofNat (by omega) (by omega), pick_ofBool, if_pos rfl]
    · intro x _ hx
      rw [row_apply, iv_eq _ hj8, cmpi_eq_ofNat (by have := x.isLt; omega) (by omega), pick_ofBool, if_neg]
      exact fun h' => hx (Fin.ext h')
    · exact fun hn => absurd (Finset.mem_univ _) hn
  have hi1 : (i 1).val < 16 := (i 1).isLt
  rw [e, hsum, members_apply i X2 X5 h r ⟨j.val, hj8⟩, half, eighth, mask_eq, col_apply, pos_apply, iv_eq _ hj8, word_mul_add, ownWord_eq,
    scalar_cmpi_eq, cmpi_eq_ofNat (by omega) (by have := own_lt i; omega), cmpi_sle_ofNat (by have := k.isLt; omega) (by have := r.isLt; omega),
    pick_ofBool, pick_ofBool]
  unfold score
  refine if_congr ?_ ?_ rfl
  · unfold sees
    by_cases hown : j.val = own i
    · rw [if_pos hown, half_lt_ite]
      constructor
      · intro hle
        refine .inl ⟨Fin.ext hown, ?_⟩
        rw [Fin.le_def]
        show k.val ≤ (i 1).val % 2 * 128 + r.val
        have : own i = (i 1).val / 2 := rfl
        omega
      · rintro (⟨-, h2⟩ | ⟨h1, -⟩)
        · have h2 : k.val ≤ (i 1).val % 2 * 128 + r.val := h2
          have : own i = (i 1).val / 2 := rfl
          omega
        · have h1 : j.val < own i := h1
          omega
    · rw [if_neg hown, half_lt_ite]
      exact ⟨.inr, fun h' => h'.elim (fun h' => absurd (congrArg Fin.val h'.1) hown) id⟩
  · rw [← scale_in (Qr X2 h r) (Kr X3 h) (hq r) hK]
    exact Finset.sum_congr rfl fun d _ => by rw [qAt_apply, keyAt_apply]

/-- The head's output entry is the query's attention. -/
theorem headOut_apply (hq : ∀ r d, ∃ x : ℝ, Qr X2 h r d = x) (hK : ∀ j k d, ∃ x : ℝ, Kr X3 h j k d = x) (r : Fin 128) (d : Fin 64) :
    headOut i (ownWord i) rowIota rowIota2 colIota2 X2 X3 X4 X5 h (ix4 0 0 r d)
      = Cert.MobaPair.out (Qr X2 h r) (Mr X5 h) (Kr X3 h) (nb i) (rb i r) (Vr X4 h d) := by
  set S := score (Qr X2 h r) (Mr X5 h) (Kr X3 h) (nb i) (rb i r) with hS
  have hprop : Proper S := score_proper _ _ _ _ _ (hq r) hK
  have hafter : ∀ j k, nb i < j → S j k = ⊥ := fun j k hj => score_after _ _ _ _ _ j k hj
  have ht2 := trips2 i
  have ht4 := trips4 i
  -- the running maximum
  have hmax : Finset.fold max ⊥ (fun l => headMax i (ownWord i) rowIota rowIota2 colIota2 X2 X3 X5 h (own i + 1) (ix2 r l)) Finset.univ = top S := by
    refine run_max (n := nb i) hafter (fun K l => headMax i (ownWord i) rowIota rowIota2 colIota2 X2 X3 X5 h K (ix2 r l)) (fun l => ?_) fun j hj l => ?_
    · show k0_pay26 (F := Ideal) (ix2 r l) = ⊥
      exact (show k0_pay26 (F := Ideal) (ix2 r l) = Named.named (F := Ideal) κ "mask" (φ := .f32) 0xF149F2CA#32 by pointwise [k0_pay26]).trans mask_eq
    · have hj' : j.val < (k0_t2_loop i).trips := by have : j.val ≤ own i := hj; omega
      have e1 := headScore_apply i X2 X3 X5 h hq hK ⟨j.val, hj'⟩ r (lo l)
      have e2 := headScore_apply i X2 X3 X5 h hq hK ⟨j.val, hj'⟩ r (hi l)
      rw [hS, ← e1, ← e2]
      show headMax i (ownWord i) rowIota rowIota2 colIota2 X2 X3 X5 h (j.val + 1) (ix2 r l) = _
      unfold headMax
      refine (congrFun (maxAt_succ i (ownWord i) rowIota2 (k0_pay1 i) colIota2 (k0_pay4 (qAt X2 h)) (k0_pay5 (ownWord i) rowIota) (ranks2 (ownWord i) rowIota X2 X5 h)
        (k0_pay21 (gates (ownWord i) rowIota X2 X5 h)) (k0_pay22 (gates (ownWord i) rowIota X2 X5 h)) (k0_pay23 rowIota) zeroF k0_pay24 h X3 k0_pay26 ⟨j.val, hj'⟩) (ix2 r l)).trans ?_
      unfold headScore scoreAt
      generalize maxAt (F := Ideal) i _ _ _ _ _ _ _ _ _ _ _ _ _ _ _ _ = A
      generalize keyAt i X3 h _ = Z
      pointwise [k0_pay29, k0_pay28]
  have hwt : ∀ (j : Fin (k0_t4_loop i).trips) (k : Fin 256),
      k0_pay36 (headMax i (ownWord i) rowIota rowIota2 colIota2 X2 X3 X5 h (k0_t2_loop i).trips) (headScore i (ownWord i) rowIota rowIota2 colIota2 X2 X3 X5 h (back i j)) (ix2 r k)
        = wt S ⟨j.val, lt4 j⟩ k := by
    intro j k
    have e : S ⟨j.val, lt4 j⟩ k = _ := (headScore_apply i X2 X3 X5 h hq hK (back i j) r k).symm
    unfold wt
    rw [← hmax, e, ht2]
    generalize headMax (F := Ideal) i _ _ _ _ _ _ _ _ _ = A
    generalize headScore (F := Ideal) i _ _ _ _ _ _ _ _ _ = B
    pointwise [k0_pay36, k0_pay33]
    rw [lowest]
  unfold headOut
  set A := headAcc i (ownWord i) rowIota rowIota2 colIota2 X2 X3 X4 X5 h with hA
  have e : k0_pay2 (A (k0_t4_loop i).trips).1 (A (k0_t4_loop i).trips).2 (ix4 0 0 r d)
      = Ideal.div ((A (own i + 1)).1 (ix2 r d)) (∑ l : Fin 128, ((A (own i + 1)).2 (ix2 r l) : EReal)) := by
    rw [ht4]
    generalize A (own i + 1) = Z
    pointwise [k0_pay2]
  rw [e]
  refine run_eq (Vr X4 h d) (nb i) hafter hprop (fun K => (A K).1 (ix2 r d)) (fun K l => (A K).2 (ix2 r l)) ?_ (fun l => ?_) (fun j hj => ?_) fun j hj l => ?_
  · show k0_pay34 (F := Ideal) (ix2 r d) = 0
    pointwise [k0_pay34]
  · show k0_pay35 (F := Ideal) (ix2 r l) = 0
    pointwise [k0_pay35]
  · have hj' : j.val < (k0_t4_loop i).trips := by have : j.val ≤ own i := hj; omega
    show (A (j.val + 1)).1 (ix2 r d) = _
    rw [hA]
    unfold headAcc
    rw [accAt_succ _ _ _ _ _ _ ⟨j.val, hj'⟩]
    refine Eq.trans (b := ((headAcc i (ownWord i) rowIota rowIota2 colIota2 X2 X3 X4 X5 h j.val).1 (ix2 r d) : EReal) + ∑ k : Fin 256, (k0_pay36 (headMax i (ownWord i) rowIota rowIota2 colIota2 X2 X3 X5 h (k0_t2_loop i).trips) (headScore i (ownWord i) rowIota rowIota2 colIota2 X2 X3 X5 h (back i ⟨j.val, hj'⟩)) (ix2 r k) : EReal) * valAt i X4 h ⟨j.val, hj'⟩ (ix4 0 0 k d)) ?_ ?_
    rotate_left
    · refine congrArg (_ + ·) (Finset.sum_congr rfl fun k _ => ?_)
      rw [hwt, valAt_apply]
    · unfold headAcc
      dsimp only
      generalize accAt (F := Ideal) i _ _ _ _ _ _ = D
      generalize valAt i X4 h _ = Z
      generalize headScore (F := Ideal) i _ _ _ _ _ _ _ _ _ = B
      generalize headMax (F := Ideal) i _ _ _ _ _ _ _ _ _ = C
      pointwise [k0_pay37]
  · have hj' : j.val < (k0_t4_loop i).trips := by have : j.val ≤ own i := hj; omega
    show (A (j.val + 1)).2 (ix2 r l) = _
    rw [hA, ← hwt ⟨j.val, hj'⟩ (lo l), ← hwt ⟨j.val, hj'⟩ (hi l)]
    unfold headAcc
    rw [accAt_succ _ _ _ _ _ _ ⟨j.val, hj'⟩]
    dsimp only
    generalize accAt (F := Ideal) i _ _ _ _ _ _ = D
    generalize headScore (F := Ideal) i _ _ _ _ _ _ _ _ _ = B
    generalize headMax (F := Ideal) i _ _ _ _ _ _ _ _ _ = C
    pointwise [k0_pay38]

end Head
end Cert.MobaIdeal.Att
end
-- ==== Proof.MobaReference.lean ====
module

public import proofs.«01_k».proof.Defs
public import proofs.«01_k».proof.Proof.Gen.MobaRefIdeal.Run
public import Idealize.ShloMosaic.Lib.Pointwise
public import Idealize.ShloMosaic.Lib.Claim
public import Idealize.ShloMosaic.Lib.WordCmp
public import proofs.«01_k».proof.Proof.MobaMath

/-! Block attention's reference, entry by entry: its gates, the chosen blocks, its mask, its scores and its output. -/

@[expose] public section
noncomputable section
open Idealize.ShloMosaic Idealize.ShloMosaic.TcCoe Idealize.SL.Sem

open scoped Classical

namespace Cert.MobaRefIdeal.Att
open Cert.MobaRefIdeal Cert.MobaRefIdeal.Gen Cert.MobaPair Idealize.ShloMosaic.WordCmp

abbrev heads (x : FVec Ideal S16x2048x512 .f32) : FVec Ideal S16x8x2048x64 .f32 :=
  transpose S16x8x2048x64 [0, 2, 1, 3] (shapeCast _ x shapeCasts_S16x2048x512_S16x2048x8x64) transposes_S16x2048x8x64_S16x8x2048x64_0_2_1_3
abbrev meanHeads (x : FVec Ideal S16x8x512 .f32) : FVec Ideal S16x8x8x64 .f32 :=
  transpose S16x8x8x64 [0, 2, 1, 3] (shapeCast _ x shapeCasts_S16x8x512_S16x8x8x64) transposes_S16x8x8x64_S16x8x8x64_0_2_1_3
abbrev blk : IVec S8 32 := iotaInDim S8 32 0
abbrev own : IVec S2048 32 := shapeCast _ (broadcastInDim S8x256 ![0] bcast_S8_S8x256_0 (iotaInDim S8 32 0)) shapeCasts_S8x256_S2048
abbrev past : IVec S2048x8 1 := (cmpi .slt (broadcastInDim S2048x8 ![0, 1] bcast_S1x8_S2048x8_0_1 (broadcastInDim S1x8 ![1] bcast_S8_S1x8_1 blk)) (broadcastInDim S2048x8 ![0, 1] bcast_S2048x1_S2048x8_0_1 (broadcastInDim S2048x1 ![0] bcast_S2048_S2048x1_0 own)))
def gates (q : FVec Ideal S16x2048x512 .f32) (km : FVec Ideal S16x8x512 .f32) : FVec Ideal S16x8x2048x8 .f32 :=
  select (broadcastInDim S16x8x2048x8 ![2, 3] bcast_S2048x8_S16x8x2048x8_2_3 past) (Host.dotGeneral dot_S16x8x2048x64_S16x8x8x64_S16x8x2048x8_3_3_2_2_01_01 none (heads q) (meanHeads km)) (broadcastInDim S16x8x2048x8 ![] bcast_S_S16x8x2048x8 (id (constant S_ .f32 0xFF800000#32)))
def sel (g : FVec Ideal S16x8x2048x8 .f32) : IVec S16x8x2048x3 32 := (Host.topK S16x8x2048x3 3 (FloatOps.cmpfTotal .gt) g sliceFits_S16x8x2048x8_S16x8x2048x3).2
def mask (s : IVec S16x8x2048x3 32) : IVec S16x8x2048x2048 1 :=
  (ori (shapeCast _ (broadcastInDim S16x8x2048x8x256 ![0, 1, 2, 3] bcast_S16x8x2048x8_S16x8x2048x8x256_0_1_2_3 (andi (ori (ori (cmpi .eq (broadcastInDim S16x8x2048x8 ![0, 1, 2, 3] bcast_S16x8x2048x1_S16x8x2048x8_0_1_2_3 (extractStridedSlice S16x8x2048x1 ![0, 0, 0, 0] s slices_S16x8x2048x3_S16x8x2048x1_0_0_0_0)) (broadcastInDim S16x8x2048x8 ![0, 1, 2, 3] bcast_S1x1x1x8_S16x8x2048x8_0_1_2_3 (broadcastInDim S1x1x1x8 ![3] bcast_S8_S1x1x1x8_3 (iotaInDim S8 32 0))))
    (cmpi .eq (broadcastInDim S16x8x2048x8 ![0, 1, 2, 3] bcast_S16x8x2048x1_S16x8x2048x8_0_1_2_3 (extractStridedSlice S16x8x2048x1 ![0, 0, 0, 1] s slices_S16x8x2048x3_S16x8x2048x1_0_0_0_1)) (broadcastInDim S16x8x2048x8 ![0, 1, 2, 3] bcast_S1x1x1x8_S16x8x2048x8_0_1_2_3 (broadcastInDim S1x1x1x8 ![3] bcast_S8_S1x1x1x8_3 (iotaInDim S8 32 0)))))
    (cmpi .eq (broadcastInDim S16x8x2048x8 ![0, 1, 2, 3] bcast_S16x8x2048x1_S16x8x2048x8_0_1_2_3 (extractStridedSlice S16x8x2048x1 ![0, 0, 0, 2] s slices_S16x8x2048x3_S16x8x2048x1_0_0_0_2)) (broadcastInDim S16x8x2048x8 ![0, 1, 2, 3] bcast_S1x1x1x8_S16x8x2048x8_0_1_2_3 (broadcastInDim S1x1x1x8 ![3] bcast_S8_S1x1x1x8_3 (iotaInDim S8 32 0)))))
    (broadcastInDim S16x8x2048x8 ![0, 1, 2, 3] bcast_S1x1x2048x8_S16x8x2048x8_0_1_2_3 (broadcastInDim S1x1x2048x8 ![2, 3] bcast_S2048x8_S1x1x2048x8_2_3 past)))) shapeCasts_S16x8x2048x8x256_S16x8x2048x2048)
   (broadcastInDim S16x8x2048x2048 ![0, 1, 2, 3] bcast_S1x1x2048x2048_S16x8x2048x2048_0_1_2_3 (broadcastInDim S1x1x2048x2048 ![2, 3] bcast_S2048x2048_S1x1x2048x2048_2_3 (andi (cmpi .eq (broadcastInDim S2048x2048 ![0, 1] bcast_S1x2048_S2048x2048_0_1 (broadcastInDim S1x2048 ![1] bcast_S2048_S1x2048_1 own)) (broadcastInDim S2048x2048 ![0, 1] bcast_S2048x1_S2048x2048_0_1 (broadcastInDim S2048x1 ![0] bcast_S2048_S2048x1_0 own))) (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))))))
def scores (M : IVec S16x8x2048x2048 1) (q k : FVec Ideal S16x2048x512 .f32) : FVec Ideal S16x8x2048x2048 .f32 :=
  select M (mulf (Host.dotGeneral dot_S16x8x2048x64_S16x8x2048x64_S16x8x2048x2048_3_3_2_2_01_01 none (heads q) (heads k)) (broadcastInDim S16x8x2048x2048 ![] bcast_S_S16x8x2048x2048 (constant S_ .f32 0x3E000000#32))) (broadcastInDim S16x8x2048x2048 ![] bcast_S_S16x8x2048x2048 (id (constant S_ .f32 0xFF800000#32)))

/-- A row's greatest score. -/
def greatest (S : FVec Ideal S16x8x2048x2048 .f32) : FVec Ideal S16x8x2048 .f32 :=
  maximumf (broadcastInDim S16x8x2048 ![] bcast_S_S16x8x2048 (constant S_ .f32 0xFF800000#32)) (Host.reduce FloatOps.maximumf S (constant S_ .f32 0xFF800000#32) reducesTo_S16x8x2048x2048_S16x8x2048_d3 h_S_)
/-- The softmax's numerator. -/
def numer (S : FVec Ideal S16x8x2048x2048 .f32) (G : FVec Ideal S16x8x2048 .f32) : FVec Ideal S16x8x2048x2048 .f32 :=
  Host.exp (subf S (broadcastInDim S16x8x2048x2048 ![0, 1, 2, 3] bcast_S16x8x2048x1_S16x8x2048x2048_0_1_2_3 (broadcastInDim S16x8x2048x1 ![0, 1, 2] bcast_S16x8x2048_S16x8x2048x1_0_1_2 G)))
def expo (S : FVec Ideal S16x8x2048x2048 .f32) : FVec Ideal S16x8x2048x2048 .f32 := numer S (greatest S)
/-- The weights with the masked entries put to zero. -/
def probs (M : IVec S16x8x2048x2048 1) (E : FVec Ideal S16x8x2048x2048 .f32) : FVec Ideal S16x8x2048x2048 .f32 :=
  select M (Host.divf E (broadcastInDim S16x8x2048x2048 ![0, 1, 2, 3] bcast_S16x8x2048x1_S16x8x2048x2048_0_1_2_3 (broadcastInDim S16x8x2048x1 ![0, 1, 2] bcast_S16x8x2048_S16x8x2048x1_0_1_2 (Host.reduceAdd E (constant S_ .f32 0x00000000#32) reducesTo_S16x8x2048x2048_S16x8x2048_d3 h_S_)))) (broadcastInDim S16x8x2048x2048 ![] bcast_S_S16x8x2048x2048 (id (constant S_ .f32 0x00000000#32)))
def result (q k v : FVec Ideal S16x2048x512 .f32) (km : FVec Ideal S16x8x512 .f32) : FVec Ideal S16x8x2048x64 .f32 :=
  Host.dotGeneral dot_S16x8x2048x2048_S16x8x2048x64_S16x8x2048x64_3_2_2_3_01_01 none
    (probs (mask (sel (gates q km))) (expo (scores (mask (sel (gates q km))) q k))) (heads v)

theorem lowC : (id (constant (F := Ideal) S_ .f32 0xFF800000#32) : FVec Ideal S_ .f32) ix0 = (⊥ : EReal) := lowest
theorem zeroC : (id (constant (F := Ideal) S_ .f32 0x00000000#32) : FVec Ideal S_ .f32) ix0 = (0 : EReal) := Ideal.ofBits_zero_f32

abbrev lane (h : Fin 8) (d : Fin 64) : Fin 512 := ⟨h.val * 64 + d.val, by omega⟩

theorem gates_apply (q : FVec Ideal S16x2048x512 .f32) (km : FVec Ideal S16x8x512 .f32) (b : Fin 16) (h : Fin 8) (t : Fin 2048) (j : Fin 8) :
    gates q km (ix4 b h t j) = gate (fun d => q (ix3 b t (lane h d))) (fun j d => km (ix3 b j (lane h d))) ⟨t.val / 256, by omega⟩ j := by
  pointwise [gates]
  rw [cmpi_slt_ofNat (by have := j.isLt; omega) (by have := t.isLt; omega), pick_ofBool]
  exact if_congr Iff.rfl rfl lowC

theorem sel_apply (g : FVec Ideal S16x8x2048x8 .f32) (b : Fin 16) (h : Fin 8) (t : Fin 2048) (a : Fin 3) :
    sel g (ix4 b h t a) = BitVec.ofNat 32 (sortedFrom (fun k k' : Fin 8 => FloatOps.cmpfTotal (F := Ideal) .gt (g (ix4 b h t k)) (g (ix4 b h t k')) == 1#1) ⟨a.val, by omega⟩).val := by
  have along : ∀ k : Fin 8, Shape.Idx.along (s := S16x8x2048x8) (ix4 b h t (⟨a.val, by omega⟩ : Fin 8)) (3 : Fin 4) k = ix4 b h t k := fun k => by
    funext c
    match c with
    | ⟨0, _⟩ => rfl
    | ⟨1, _⟩ => rfl
    | ⟨2, _⟩ => rfl
    | ⟨3, _⟩ => rfl
  have e0 : (fun c : Fin 4 => (⟨0 + (ix4 b h t a c).val, Nat.lt_of_lt_of_le (Nat.add_lt_add_left (ix4 b h t a c).isLt _) (sliceFits_S16x8x2048x8_S16x8x2048x3.2 c)⟩ : Fin (S16x8x2048x8.size c)))
      = ix4 b h t (⟨a.val, by omega⟩ : Fin 8) := by
    funext c
    apply Fin.ext
    match c with
    | ⟨0, _⟩ => exact Nat.zero_add _
    | ⟨1, _⟩ => exact Nat.zero_add _
    | ⟨2, _⟩ => exact Nat.zero_add _
    | ⟨3, _⟩ => exact Nat.zero_add _
  have e1 : sel g (ix4 b h t a) = (Host.sort2 S16x8x2048x8 3 (fun l r => FloatOps.cmpfTotal (F := Ideal) .gt l.1 r.1) g
      (fun i => if hd : 3 < S16x8x2048x8.rank then iotaInDim S16x8x2048x8 32 ⟨3, hd⟩ i else 0#32)).2 _ := rfl
  refine e1.trans ((congrArg (Host.sort2 S16x8x2048x8 3 (fun l r => FloatOps.cmpfTotal (F := Ideal) .gt l.1 r.1) g _).2 e0).trans ?_)
  unfold Host.sort2
  rw [dif_pos (show 3 < S16x8x2048x8.rank by decide)]
  dsimp only
  rw [dif_pos (show 3 < S16x8x2048x8.rank by decide)]
  change BitVec.ofNat 32 (Shape.Idx.along (s := S16x8x2048x8) (ix4 b h t (⟨a.val, by omega⟩ : Fin 8)) (3 : Fin 4) (sortedFrom (n := 8) (fun k k' : Fin 8 =>
    FloatOps.cmpfTotal (F := Ideal) .gt (g (Shape.Idx.along (s := S16x8x2048x8) (ix4 b h t (⟨a.val, by omega⟩ : Fin 8)) (3 : Fin 4) k))
      (g (Shape.Idx.along (s := S16x8x2048x8) (ix4 b h t (⟨a.val, by omega⟩ : Fin 8)) (3 : Fin 4) k')) == 1#1) ⟨a.val, by omega⟩) (3 : Fin 4)).val = _
  simp only [along]
  rfl

theorem mask_apply (s : IVec S16x8x2048x3 32) (b : Fin 16) (h : Fin 8) (t u : Fin 2048) (σ : Fin 3 → Fin 8)
    (hσ : ∀ a, s (ix4 b h t a) = BitVec.ofNat 32 (σ a).val) (p : Prop)
    (hp : p ↔ (((σ 0 = ⟨u.val / 256, by omega⟩ ∨ σ 1 = ⟨u.val / 256, by omega⟩ ∨ σ 2 = ⟨u.val / 256, by omega⟩) ∧ u.val / 256 < t.val / 256)
        ∨ (u.val / 256 = t.val / 256 ∧ u.val ≤ t.val))) :
    mask s (ix4 b h t u) = BitVec.ofBool (decide p) := by
  pointwise [mask]
  have hu := u.isLt
  have ht := t.isLt
  have e : ∀ a, IntOp.cmpi .eq (s (ix4 b h t a)) (BitVec.ofNat 32 (u.val / 256)) = BitVec.ofBool (decide (σ a = ⟨u.val / 256, by omega⟩)) := fun a => by
    rw [hσ, cmpi_eq_ofNat (by have := (σ a).isLt; omega) (by omega)]
    congr 1
    exact decide_eq_decide.mpr ⟨fun h => Fin.ext h, fun h => congrArg Fin.val h⟩
  rw [e, e, e, cmpi_slt_ofNat (by omega) (by omega), cmpi_eq_ofNat (by omega) (by omega), cmpi_sle_ofNat (by omega) (by omega)]
  simp only [andi_ofBool, ori_ofBool]
  congr 1
  rw [Bool.eq_iff_iff, decide_eq_true_iff, hp]
  simp only [Bool.or_eq_true, Bool.and_eq_true, decide_eq_true_iff, or_assoc]

theorem scores_apply (M : IVec S16x8x2048x2048 1) (q k : FVec Ideal S16x2048x512 .f32) (b : Fin 16) (h : Fin 8) (t u : Fin 2048)
    (p : Prop) (hp : M (ix4 b h t u) = BitVec.ofBool (decide p)) :
    scores M q k (ix4 b h t u)
      = if p then (∑ d : Fin 64, (q (ix3 b t (lane h d)) : EReal) * k (ix3 b u (lane h d))) * ((1 / 8 : ℝ) : EReal) else ⊥ := by
  pointwise [scores]
  rw [hp, pick_ofBool, eighth]
  exact if_congr Iff.rfl rfl lowC

theorem fold_max {n : ℕ} (f : EReal → EReal → EReal) [Std.Commutative f] [Std.Associative f] (hf : ∀ x y, f x y = max x y) (b b' : EReal) (hb : b = b')
    (x y : Fin n → EReal) (hxy : ∀ k, x k = y k) : Finset.fold f b x Finset.univ = Finset.fold max b' y Finset.univ := by
  obtain rfl : f = max := funext fun x => funext fun y => hf x y
  obtain rfl : x = y := funext hxy
  rw [hb]

theorem reduces_row : S16x8x2048x2048.Reduces [3] S16x8x2048 := by decide

theorem lift_row (b : Fin 16) (h : Fin 8) (t : Fin 2048) (u : Fin 2048) : reduces_row.lift (ix3 b h t) u = ix4 b h t u := by
  funext a
  match a with
  | ⟨0, _⟩ => rfl
  | ⟨1, _⟩ => rfl
  | ⟨2, _⟩ => rfl
  | ⟨3, _⟩ => rfl

theorem fold_eq (c : FVec Ideal S_ .f32) (hc : ∀ x, c x = (⊥ : EReal)) (S : FVec Ideal S16x8x2048x2048 .f32) (b : Fin 16) (h : Fin 8) (t : Fin 2048) :
    Host.reduce (FloatOps.maximumf (F := Ideal) (φ := .f32)) S c reducesTo_S16x8x2048x2048_S16x8x2048_d3 h_S_ (ix3 b h t)
      = (Finset.fold max ⊥ (fun u : Fin 2048 => (S (ix4 b h t u) : EReal)) Finset.univ) :=
  (Host.reduce_eq_fold_single (FloatOps.maximumf (F := Ideal) (φ := .f32)) S c reducesTo_S16x8x2048x2048_S16x8x2048_d3 reduces_row h_S_ (ix3 b h t)).trans
    (fold_max _ (fun _ _ => rfl) _ _ (hc _) _ _ fun u => congrArg S (lift_row b h t u))

theorem max_eq (c : FVec Ideal S_ .f32) (hc : ∀ x, c x = (⊥ : EReal)) (X : FVec Ideal S16x8x2048 .f32) (i : S16x8x2048.Idx) :
    maximumf (broadcastInDim S16x8x2048 ![] bcast_S_S16x8x2048 c) X i = max (⊥ : EReal) (X i) := by
  show max (c _) (X i) = _
  rw [hc]

theorem greatest_apply (S : FVec Ideal S16x8x2048x2048 .f32) (b : Fin 16) (h : Fin 8) (t : Fin 2048) :
    greatest S (ix3 b h t) = max ⊥ (Finset.fold max ⊥ (fun u : Fin 2048 => (S (ix4 b h t u) : EReal)) Finset.univ) := by
  unfold greatest
  have hc : ∀ x, (constant S_ .f32 0xFF800000#32 : FVec Ideal S_ .f32) x = (⊥ : EReal) := fun _ => lowest
  rw [max_eq _ hc, fold_eq _ hc]

theorem numer_apply (S : FVec Ideal S16x8x2048x2048 .f32) (G : FVec Ideal S16x8x2048 .f32) (b : Fin 16) (h : Fin 8) (t u : Fin 2048) :
    numer S G (ix4 b h t u) = Ideal.exp (S (ix4 b h t u) - G (ix3 b h t)) := by
  pointwise [numer]

theorem expo_apply (S : FVec Ideal S16x8x2048x2048 .f32) (b : Fin 16) (h : Fin 8) (t u : Fin 2048) :
    expo S (ix4 b h t u) = Ideal.exp (S (ix4 b h t u) - max ⊥ (Finset.fold max ⊥ (fun u : Fin 2048 => (S (ix4 b h t u) : EReal)) Finset.univ)) := by
  unfold expo
  rw [numer_apply, greatest_apply]

theorem probs_apply (M : IVec S16x8x2048x2048 1) (E : FVec Ideal S16x8x2048x2048 .f32) (b : Fin 16) (h : Fin 8) (t u : Fin 2048)
    (p : Prop) (hp : M (ix4 b h t u) = BitVec.ofBool (decide p)) :
    probs M E (ix4 b h t u) = if p then Ideal.div (E (ix4 b h t u)) (0 + ∑ u : Fin 2048, (E (ix4 b h t u) : EReal)) else 0 := by
  pointwise [probs]
  rw [hp, pick_ofBool]
  refine if_congr Iff.rfl ?_ zeroC
  first | rfl | rw [zero_add]

theorem dot_apply (P : FVec Ideal S16x8x2048x2048 .f32) (v : FVec Ideal S16x2048x512 .f32) (b : Fin 16) (h : Fin 8) (t : Fin 2048) (d : Fin 64) :
    Host.dotGeneral dot_S16x8x2048x2048_S16x8x2048x64_S16x8x2048x64_3_2_2_3_01_01 none P (heads v) (ix4 b h t d)
      = ∑ u : Fin 2048, (P (ix4 b h t u) : EReal) * v (ix3 b u (lane h d)) := by
  pointwise

theorem cmp_iff (x y : EReal) : (FloatOps.cmpfTotal (F := Ideal) (φ := .f32) .gt x y == 1#1) = true ↔ y < x := by
  rw [beq_iff_eq]
  show BitVec.ofBool (decide (y < x)) = 1#1 ↔ _
  exact ofBool_decide_eq_one_iff _

/-- A reference entry is the query's attention. -/
theorem result_apply (q k v : FVec Ideal S16x2048x512 .f32) (km : FVec Ideal S16x8x512 .f32)
    (hq : ∀ x, ∃ r : ℝ, (q x : EReal) = r) (hk : ∀ x, ∃ r : ℝ, (k x : EReal) = r) (b : Fin 16) (h : Fin 8) (t : Fin 2048) (d : Fin 64) :
    result q k v km (ix4 b h t d)
      = Cert.MobaPair.out (fun d => q (ix3 b t (lane h d))) (fun j d => km (ix3 b j (lane h d))) (fun j kk d => k (ix3 b (at2 j kk) (lane h d)))
          ⟨t.val / 256, by omega⟩ ⟨t.val % 256, by omega⟩ (fun j kk => v (ix3 b (at2 j kk) (lane h d))) := by
  obtain ⟨g, hg⟩ : ∃ g, g = gates q km := ⟨_, rfl⟩
  obtain ⟨R, hR⟩ : ∃ R : Fin 8 → Fin 8 → Bool, R = fun k k' : Fin 8 => FloatOps.cmpfTotal (F := Ideal) .gt (g (ix4 b h t k)) (g (ix4 b h t k')) == 1#1 := ⟨_, rfl⟩
  have hgate : (fun j => (g (ix4 b h t j) : EReal)) = gate (fun d => q (ix3 b t (lane h d))) (fun j d => km (ix3 b j (lane h d))) ⟨t.val / 256, by omega⟩ :=
    funext fun j => by rw [hg]; exact gates_apply q km b h t j
  obtain ⟨seen, hseen⟩ : ∃ seen : Fin 2048 → Prop, ∀ u, seen u ↔ ((sortedFrom R 0 = ⟨u.val / 256, by omega⟩ ∨ sortedFrom R 1 = ⟨u.val / 256, by omega⟩ ∨ sortedFrom R 2 = ⟨u.val / 256, by omega⟩) ∧ u.val / 256 < t.val / 256)
        ∨ (u.val / 256 = t.val / 256 ∧ u.val ≤ t.val) := ⟨_, fun _ => Iff.rfl⟩
  have hM : ∀ u, mask (sel g) (ix4 b h t u) = BitVec.ofBool (decide (seen u)) := fun u =>
    mask_apply (sel g) b h t u (fun a => sortedFrom R ⟨a.val, by omega⟩) (fun a => by rw [hR]; exact sel_apply g b h t a) (seen u) (hseen u)
  unfold result
  rw [← hg]
  rw [dot_apply]
  have hS := fun u => scores_apply (mask (sel g)) q k b h t u _ (hM u)
  have hP := fun u => probs_apply (mask (sel g)) (expo (scores (mask (sel g)) q k)) b h t u _ (hM u)
  simp only [expo_apply, hS] at hP
  simp only [hP]
  unfold Cert.MobaPair.out
  refine row_eq seen _ (fun u => v (ix3 b u (lane h d))) _ (fun j kk => ?_) (score_proper _ _ _ _ _ (fun _ => hq _) fun _ _ _ => hk _)
  unfold score
  refine if_congr ?_ rfl rfl
  have hd : (at2 j kk).val / 256 = j.val := by show (j.val * 256 + kk.val) / 256 = _; omega
  have hR' : ∀ i j, R i j = true ↔ (g (ix4 b h t j) : EReal) < g (ix4 b h t i) := fun i j => by rw [hR]; exact cmp_iff _ _
  have hk3 := topk_iff R (fun j => g (ix4 b h t j)) hR' j
  rw [hgate] at hk3
  unfold sees
  rw [← hk3, hseen (at2 j kk)]
  have hf : (⟨(at2 j kk).val / 256, by omega⟩ : Fin 8) = j := Fin.ext hd
  simp only [hf, hd]
  have e1 : (j.val = t.val / 256 ∧ (at2 j kk).val ≤ t.val) ↔ (j = ⟨t.val / 256, by omega⟩ ∧ kk ≤ ⟨t.val % 256, by omega⟩) := by
    rw [Fin.ext_iff, Fin.le_def]
    show _ ∧ j.val * 256 + kk.val ≤ _ ↔ _ ∧ kk.val ≤ t.val % 256
    constructor <;> rintro ⟨h1, h2⟩ <;> refine ⟨h1, ?_⟩
    · have h1 : j.val = t.val / 256 := h1
      omega
    · have h1 : j.val = t.val / 256 := h1
      omega
  rw [← e1, or_comm, and_comm (a := j < _)]
  rfl

theorem result_eq (m : (ℓ : Loc nD τ sig) → Buf (Elt Ideal) ℓ) (c : Dev nD) :
    Value.res_main_v76 m c = result (m ((c.tc : Thread nD τ).loc main_arg0)) (m ((c.tc : Thread nD τ).loc main_arg1)) (m ((c.tc : Thread nD τ).loc main_arg2)) (m ((c.tc : Thread nD τ).loc main_arg3)) := rfl

end Cert.MobaRefIdeal.Att
end
-- ==== Proof.MobaValue.lean ====
module

public import proofs.«01_k».proof.Defs
public import proofs.«01_k».proof.Proof.Gen.MobaRefIdeal.Run
public import proofs.«01_k».proof.Proof.MobaHead
public import proofs.«01_k».proof.Proof.MobaReference
public import Idealize.ShloMosaic.Lib.Pointwise
public import Idealize.ShloMosaic.Lib.Claim

/-! Block attention: every block the kernel writes is the reference's block, for queries and keys that are real numbers. -/

@[expose] public section
noncomputable section
open Idealize.ShloMosaic Idealize.ShloMosaic.TcCoe Idealize.SL.Sem
open Idealize.ShloMosaic.Pipeline (Dat)

namespace Cert.MobaIdeal.Att
open Cert.MobaIdeal Cert.MobaIdeal.Gen Cert.MobaIdeal.Words Cert.MobaPair
open Cert.MobaRefIdeal.Att (lane)

variable (m : (ℓ : Loc nD τ sig) → Buf (Elt Ideal) ℓ) (ρ : Dev nD → PrngReg)

theorem idx0 : ∀ t : Fin grid0.N, win0_0.index t 0 = t.val / 16 ∧ win0_0.index t 1 = 0 ∧ win0_0.index t 2 = t.val % 16 ∧ win0_0.index t 3 = 0 := by decide +kernel
theorem idx1 : ∀ t : Fin grid0.N, win0_1.index t 0 = t.val / 16 ∧ win0_1.index t 1 = 0 ∧ win0_1.index t 2 = 0 ∧ win0_1.index t 3 = 0 := by decide +kernel
theorem idx2 : ∀ t : Fin grid0.N, win0_2.index t 0 = t.val / 16 ∧ win0_2.index t 1 = 0 ∧ win0_2.index t 2 = 0 ∧ win0_2.index t 3 = 0 := by decide +kernel
theorem idx3 : ∀ t : Fin grid0.N, win0_3.index t 0 = t.val / 16 ∧ win0_3.index t 1 = 0 ∧ win0_3.index t 2 = 0 ∧ win0_3.index t 3 = 0 := by decide +kernel
theorem idx4 : ∀ t : Fin grid0.N, win0_4.index t 0 = t.val / 16 ∧ win0_4.index t 1 = 0 ∧ win0_4.index t 2 = t.val % 16 ∧ win0_4.index t 3 = 0 := by decide +kernel
theorem coord1 : ∀ t : Fin grid0.N, (grid0.coords t 1).val = t.val % 16 := by decide +kernel

/-- The sequence and the position of a block's row. -/
abbrev seqOf (t : Fin cfg0.N) : Fin 16 := ⟨t.val / 16, by have := t.isLt; have : cfg0.N = 256 := N_0; omega⟩
abbrev posOf (t : Fin cfg0.N) (r : Fin 128) : Fin 2048 := ⟨t.val % 16 * 128 + r.val, by omega⟩

theorem emb0 (t : Fin cfg0.N) (h : Fin 8) (r : Fin 128) (d : Fin 64) :
    ((cfg0.win 0).blk t).view.emb (ix4 0 h r d) = ix4 (seqOf t) h (posOf t r) d := by
  funext a
  apply Fin.ext
  match a with
  | ⟨0, _⟩ => show win0_0.index t 0 * 1 + 1 * 0 = t.val / 16; rw [(idx0 t).1]; omega
  | ⟨1, _⟩ => show win0_0.index t 1 * 8 + 1 * h.val = h.val; rw [(idx0 t).2.1]; omega
  | ⟨2, _⟩ => show win0_0.index t 2 * 128 + 1 * r.val = t.val % 16 * 128 + r.val; rw [(idx0 t).2.2.1]; omega
  | ⟨3, _⟩ => show win0_0.index t 3 * 64 + 1 * d.val = d.val; rw [(idx0 t).2.2.2]; omega

theorem emb1 (t : Fin cfg0.N) (h : Fin 8) (u : Fin 2048) (d : Fin 64) :
    ((cfg0.win 1).blk t).view.emb (ix4 0 h u d) = ix4 (seqOf t) h u d := by
  funext a
  apply Fin.ext
  match a with
  | ⟨0, _⟩ => show win0_1.index t 0 * 1 + 1 * 0 = t.val / 16; rw [(idx1 t).1]; omega
  | ⟨1, _⟩ => show win0_1.index t 1 * 8 + 1 * h.val = h.val; rw [(idx1 t).2.1]; omega
  | ⟨2, _⟩ => show win0_1.index t 2 * 2048 + 1 * u.val = u.val; rw [(idx1 t).2.2.1]; omega
  | ⟨3, _⟩ => show win0_1.index t 3 * 64 + 1 * d.val = d.val; rw [(idx1 t).2.2.2]; omega

theorem emb2 (t : Fin cfg0.N) (h : Fin 8) (u : Fin 2048) (d : Fin 64) :
    ((cfg0.win 2).blk t).view.emb (ix4 0 h u d) = ix4 (seqOf t) h u d := by
  funext a
  apply Fin.ext
  match a with
  | ⟨0, _⟩ => show win0_2.index t 0 * 1 + 1 * 0 = t.val / 16; rw [(idx2 t).1]; omega
  | ⟨1, _⟩ => show win0_2.index t 1 * 8 + 1 * h.val = h.val; rw [(idx2 t).2.1]; omega
  | ⟨2, _⟩ => show win0_2.index t 2 * 2048 + 1 * u.val = u.val; rw [(idx2 t).2.2.1]; omega
  | ⟨3, _⟩ => show win0_2.index t 3 * 64 + 1 * d.val = d.val; rw [(idx2 t).2.2.2]; omega

theorem emb3 (t : Fin cfg0.N) (h : Fin 8) (j : Fin 8) (d : Fin 64) :
    ((cfg0.win 3).blk t).view.emb (ix4 0 h j d) = ix4 (seqOf t) h j d := by
  funext a
  apply Fin.ext
  match a with
  | ⟨0, _⟩ => show win0_3.index t 0 * 1 + 1 * 0 = t.val / 16; rw [(idx3 t).1]; omega
  | ⟨1, _⟩ => show win0_3.index t 1 * 8 + 1 * h.val = h.val; rw [(idx3 t).2.1]; omega
  | ⟨2, _⟩ => show win0_3.index t 2 * 8 + 1 * j.val = j.val; rw [(idx3 t).2.2.1]; omega
  | ⟨3, _⟩ => show win0_3.index t 3 * 64 + 1 * d.val = d.val; rw [(idx3 t).2.2.2]; omega

theorem emb4 (t : Fin cfg0.N) (h : Fin 8) (r : Fin 128) (d : Fin 64) :
    ((cfg0.win 4).blk t).view.emb (ix4 0 h r d) = ix4 (seqOf t) h (posOf t r) d := by
  funext a
  apply Fin.ext
  match a with
  | ⟨0, _⟩ => show win0_4.index t 0 * 1 + 1 * 0 = t.val / 16; rw [(idx4 t).1]; omega
  | ⟨1, _⟩ => show win0_4.index t 1 * 8 + 1 * h.val = h.val; rw [(idx4 t).2.1]; omega
  | ⟨2, _⟩ => show win0_4.index t 2 * 128 + 1 * r.val = t.val % 16 * 128 + r.val; rw [(idx4 t).2.2.1]; omega
  | ⟨3, _⟩ => show win0_4.index t 3 * 64 + 1 * d.val = d.val; rw [(idx4 t).2.2.2]; omega

theorem b0 (c : Dev nD) (t : Fin cfg0.N) (h : Fin 8) (r : Fin 128) (d : Fin 64) :
    iblk m c 0 t (ix4 0 h r d) = m ((c : Thread nD τ).loc main_arg0) (ix3 (seqOf t) (posOf t r) (lane h d)) := by
  unfold iblk
  rw [View.read_apply, emb0]
  show V m c main_v3 _ = _
  entry_read
  pointwise

theorem b1 (c : Dev nD) (t : Fin cfg0.N) (h : Fin 8) (u : Fin 2048) (d : Fin 64) :
    iblk m c 1 t (ix4 0 h u d) = m ((c : Thread nD τ).loc main_arg1) (ix3 (seqOf t) u (lane h d)) := by
  unfold iblk
  rw [View.read_apply, emb1]
  show V m c main_v6 _ = _
  entry_read
  pointwise

theorem b2 (c : Dev nD) (t : Fin cfg0.N) (h : Fin 8) (u : Fin 2048) (d : Fin 64) :
    iblk m c 2 t (ix4 0 h u d) = m ((c : Thread nD τ).loc main_arg2) (ix3 (seqOf t) u (lane h d)) := by
  unfold iblk
  rw [View.read_apply, emb2]
  show V m c main_v9 _ = _
  entry_read
  pointwise

theorem b3 (c : Dev nD) (t : Fin cfg0.N) (h : Fin 8) (j : Fin 8) (d : Fin 64) :
    iblk m c 3 t (ix4 0 h j d) = m ((c : Thread nD τ).loc main_arg3) (ix3 (seqOf t) j (lane h d)) := by
  unfold iblk
  rw [View.read_apply, emb3]
  show V m c main_v1 _ = _
  entry_read
  pointwise

/-- Every entry is a real number. -/
def AllReal (x : FVec Ideal S16x2048x512 .f32) : Prop := ∀ i, ∃ r : ℝ, (x i : EReal) = r

/-- The reference's result of the arguments. -/
def G (c : Dev nD) : Buf (Elt Ideal) ((c : Thread nD τ).loc main_v10) :=
  Cert.MobaRefIdeal.Att.result (m ((c : Thread nD τ).loc main_arg0)) (m ((c : Thread nD τ).loc main_arg1)) (m ((c : Thread nD τ).loc main_arg2)) (m ((c : Thread nD τ).loc main_arg3))

theorem outBlock_apply (i : grid0.Coords) (X2 : Vec Ideal S1x8x128x64 .f32) (X3 X4 : Vec Ideal S1x8x2048x64 .bf16) (X5 : Vec Ideal S1x8x8x64 .f32)
    (h : Fin 8) (r : Fin 128) (d : Fin 64) :
    outBlock i X2 X3 X4 X5 (ix4 0 h r d)
      = headOut i (ownWord i) rowIota rowIota2 colIota2 X2 X3 X4 X5 ⟨h.val, Nat.lt_of_lt_of_eq h.isLt trips1.symm⟩ (ix4 0 0 r d) := rfl

theorem cut_apply (t : Fin cfg0.N) (X : Vec Ideal S1x8x128x64 .f32) (h : Fin 8) (r : Fin 128) (d : Fin 64) :
    (cfg0.win 4).cut (grid0.coords t) X (ix4 (0 : Fin 1) h r d) = X (ix4 (0 : Fin 1) h r d) := rfl

theorem block_eq (c : Dev nD) (hq : AllReal (m ((c : Thread nD τ).loc main_arg0))) (hk : AllReal (m ((c : Thread nD τ).loc main_arg1)))
    (t : Fin cfg0.N) (h : Fin 8) (r : Fin 128) (d : Fin 64) :
    outBlock (grid0.coords t) (iblk m c 0 t) (iblk m c 1 t) (iblk m c 2 t) (iblk m c 3 t) (ix4 0 h r d) = G m c (ix4 (seqOf t) h (posOf t r) d) := by
  rw [outBlock_apply]
  have hc := coord1 t
  have eQ : Qr (iblk m c 0 t) ⟨h.val, Nat.lt_of_lt_of_eq h.isLt trips1.symm⟩ r = fun d => m ((c : Thread nD τ).loc main_arg0) (ix3 (seqOf t) (posOf t r) (lane h d)) :=
    funext fun d => b0 m c t h r d
  have eK : Kr (iblk m c 1 t) ⟨h.val, Nat.lt_of_lt_of_eq h.isLt trips1.symm⟩ = fun j kk d => m ((c : Thread nD τ).loc main_arg1) (ix3 (seqOf t) (at2 j kk) (lane h d)) :=
    funext fun j => funext fun kk => funext fun d => b1 m c t h (at2 j kk) d
  have eV : Vr (iblk m c 2 t) ⟨h.val, Nat.lt_of_lt_of_eq h.isLt trips1.symm⟩ d = fun j kk => m ((c : Thread nD τ).loc main_arg2) (ix3 (seqOf t) (at2 j kk) (lane h d)) :=
    funext fun j => funext fun kk => b2 m c t h (at2 j kk) d
  have eM : Mr (iblk m c 3 t) ⟨h.val, Nat.lt_of_lt_of_eq h.isLt trips1.symm⟩ = fun j d => m ((c : Thread nD τ).loc main_arg3) (ix3 (seqOf t) j (lane h d)) :=
    funext fun j => funext fun d => b3 m c t h j d
  have en : nb (grid0.coords t) = ⟨(posOf t r).val / 256, by omega⟩ := by
    apply Fin.ext
    show (grid0.coords t 1).val / 2 = (t.val % 16 * 128 + r.val) / 256
    rw [hc]; omega
  have er : rb (grid0.coords t) r = ⟨(posOf t r).val % 256, by omega⟩ := by
    apply Fin.ext
    show (grid0.coords t 1).val % 2 * 128 + r.val = (t.val % 16 * 128 + r.val) % 256
    rw [hc]; omega
  rw [headOut_apply]
  · rw [eQ, eK, eV, eM, en, er]
    exact (Cert.MobaRefIdeal.Att.result_apply _ _ _ _ hq hk (seqOf t) h (posOf t r) d).symm
  · intro r d
    obtain ⟨x, hx⟩ := hq (ix3 (seqOf t) (posOf t r) (lane h d))
    exact ⟨x, (b0 m c t h r d).trans hx⟩
  · intro j kk d
    obtain ⟨x, hx⟩ := hk (ix3 (seqOf t) (at2 j kk) (lane h d))
    exact ⟨x, (b1 m c t h (at2 j kk) d).trans hx⟩

theorem read_eq (t : Fin cfg0.N) (X : Vec Ideal S1x8x128x64 .f32) (g : Vec Ideal S16x8x2048x64 .f32)
    (hX : ∀ h r d, X (ix4 (0 : Fin 1) h r d) = g (ix4 (seqOf t) h (posOf t r) d)) :
    (cfg0.win 4).cut (grid0.coords t) X = ((cfg0.win 4).blk t).view.read (Elt Ideal) g := by
  funext j
  obtain ⟨h, r, d, rfl⟩ : ∃ (h : Fin 8) (r : Fin 128) (d : Fin 64), j = ix4 (0 : Fin 1) h r d := by
    refine ⟨j 1, j 2, j 3, ?_⟩
    funext a
    apply Fin.ext
    match a with
    | ⟨0, _⟩ =>
      show (j 0).val = 0
      have : (j 0).val < 1 := (j 0).isLt
      omega
    | ⟨1, _⟩ => rfl
    | ⟨2, _⟩ => rfl
    | ⟨3, _⟩ => rfl
  rw [View.read_apply, emb4, cut_apply]
  exact hX h r d

theorem flushed_eq (c : Dev nD) (hq : AllReal (m ((c : Thread nD τ).loc main_arg0))) (hk : AllReal (m ((c : Thread nD τ).loc main_arg1))) (t : Fin cfg0.N) :
    (dats m 0 c).flushed 4 t = ((cfg0.win 4).blk t).view.read (Elt Ideal) (G m c) := by
  have e : (dats m 0 c).flushed 4 t
      = (cfg0.win 4).cut (grid0.coords t) (outBlock (grid0.coords t) (iblk m c 0 t) (iblk m c 1 t) (iblk m c 2 t) (iblk m c 3 t)) := by
    show (cfg0.win 4).cut (grid0.coords t) ((dats m 0 c).after 4 t) = _
    rw [after4]
  exact e.trans (read_eq t _ (G m c) (block_eq m c hq hk t))

theorem cover (i : S16x8x2048x64.Idx) : ∃ t : Fin cfg0.N, (cfg0.win 4).flush t = true ∧ i ∈ ((cfg0.win 4).blk t).view.set := by
  have h0 : (i 0 : Nat) < 16 := (i 0).isLt
  have h2 : (i 2 : Nat) < 2048 := (i 2).isLt
  have hN : cfg0.N = 256 := N_0
  refine ⟨⟨(i 0 : Nat) * 16 + (i 2 : Nat) / 128, by omega⟩, flush0_4 _, ?_⟩
  have e := emb4 ⟨(i 0 : Nat) * 16 + (i 2 : Nat) / 128, by omega⟩ (i 1) ⟨(i 2 : Nat) % 128, by omega⟩ (i 3)
  refine Finset.mem_map.mpr ⟨_, Finset.mem_univ _, e.trans ?_⟩
  refine Eq.trans ?_ (eq_ix4 i).symm
  congr 1
  · apply Fin.ext
    show ((i 0 : Nat) * 16 + (i 2 : Nat) / 128) / 16 = (i 0 : Nat)
    omega
  · apply Fin.ext
    show ((i 0 : Nat) * 16 + (i 2 : Nat) / 128) % 16 * 128 + (i 2 : Nat) % 128 = (i 2 : Nat)
    omega

theorem final (c : Dev nD) (hq : AllReal (m ((c : Thread nD τ).loc main_arg0)))
    (hk : AllReal (m ((c : Thread nD τ).loc main_arg1))) : (dats m 0 c).arrAt 4 cfg0.N = G m c :=
  (dats m 0 c).arrAt_eq_of_cover 4 (G m c) (fun t _ => flushed_eq m c hq hk t) cover

theorem run_result : θ_run defs (onTc (τ := τ) (main (F := Ideal))) ⟨m, fun _ => 0, ρ⟩ fun r => ∀ c : Dev nD,
      r.2.mem ((c : Thread nD τ).loc main_v10) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1 4,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_arrays m ρ)

end Cert.MobaIdeal.Att

namespace Cert.MobaPair

theorem preFacts : Cert.Pre_finite_scores.Facts := ⟨by decide⟩

theorem both {a b : BitVec 1} (h : IntOp.andi a b = 1#1) : a = 1#1 ∧ b = 1#1 := by revert a b; decide

theorem real_of (x : EReal) (h : BitVec.ofBool (decide (max x (-x) < Ideal.ofBits .f32 0x7F800000#32)) = 1#1) : ∃ r : ℝ, x = r := by
  have htop : Ideal.ofBits .f32 0x7F800000#32 = ⊤ := by simp [Ideal.ofBits, Ideal.ieee]
  rw [htop, Idealize.ShloMosaic.WordCmp.ofBool_decide_eq_one_iff] at h
  induction x with
  | bot => simp at h
  | top => simp at h
  | coe r => exact ⟨r, rfl⟩

/-- The precondition says that every query and key entry is a real number. -/
theorem reals (q k v : FVec Ideal Cert.Pre_finite_scores.S16x2048x512 .f32) (km : FVec Ideal Cert.Pre_finite_scores.S16x8x512 .f32)
    (h : @Cert.Pre_finite_scores.fn preFacts Ideal _ q k v km = fun _ => 1#1) : Cert.MobaIdeal.Att.AllReal q ∧ Cert.MobaIdeal.Att.AllReal k :=
  ⟨fun x => real_of _ (both (congrFun h x)).1, fun x => real_of _ (both (congrFun h x)).2⟩

open Cert.MobaRefIdeal in
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v76) = Cert.MobaRefIdeal.Att.result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Idealize.ShloMosaic.θ_run_mono (Cert.MobaRefIdeal.Value.run m ρ) fun r h c => ⟨(h c).1.trans (Cert.MobaRefIdeal.Att.result_eq m c), (h c).2⟩

/-- At the extended reals the kernel's result is the reference's. -/
theorem algebraic :
    Cert.algebraic_MobaIdeal_MobaRefIdeal_pre_finite_scores (hMobaIdeal := Cert.MobaIdeal.Gen.facts) (hMobaRefIdeal := Cert.MobaRefIdeal.Gen.facts)
      (hPre_finite_scores := preFacts) := by
  intro m g m' g' hpre hagree
  refine ⟨fun c => Cert.MobaIdeal.Att.G m c,
    Idealize.ShloMosaic.θ_run_mono (Cert.MobaIdeal.Att.run_result m g) fun r h c => ⟨(h c).1.trans (Cert.MobaIdeal.Att.final m c (reals _ _ _ _ (hpre c)).1 (reals _ _ _ _ (hpre c)).2), (h c).2⟩,
    Idealize.ShloMosaic.θ_run_mono (ref_run m' g') fun r h c => ⟨(h c).1.trans ?_, (h c).2⟩⟩
  obtain ⟨e0, e1, e2, e3⟩ := hagree c
  rw [e0, e1, e2, e3]
  rfl

end Cert.MobaPair
end
-- ==== Proof.Rows.lean ====
module

public import Idealize.ShloMosaic.Lib.Pointwise

/-! The rows of the layer's feed-forward block, as plain functions of rows of extended reals: what both the kernel and
   the reference are shown to compute. -/

@[expose] public section
noncomputable section
open Idealize.ShloMosaic

namespace Cert.Rows

/-- A row over its root mean square (with the small term under the root), times the gain. -/
def rms (x g : Fin 1024 → EReal) (k : Fin 1024) : EReal :=
  x k * Ideal.rsqrt (Ideal.div (∑ j, x j * x j) (Ideal.ofBits FTy.f32 1149239296#32) + Ideal.ofBits FTy.f32 897988541#32) * g k

/-- One hidden unit of the gated block: the first projection through its sigmoid, times the second. -/
def hidden (a : Fin 1024 → EReal) (w u : Fin 1024 → Fin 2816 → EReal) (f : Fin 2816) : EReal :=
  (∑ k, a k * w k f) * Ideal.logistic (∑ k, a k * w k f) * ∑ k, a k * u k f

/-- The residual row plus half of the projected hidden units. -/
def ffn (x g : Fin 1024 → EReal) (w u : Fin 1024 → Fin 2816 → EReal) (d : Fin 2816 → Fin 1024 → EReal) (l : Fin 1024) : EReal :=
  x l + Ideal.ofBits FTy.f32 1056964608#32 * ∑ f, hidden (rms x g) w u f * d f l

/-- A sum over the 2816 hidden units is the sum over the first 1408 plus the sum over the last 1408. -/
theorem sum_halves (p : Fin 2816 → EReal) :
    ∑ f, p f = (∑ f : Fin 1408, p ⟨f.val, by omega⟩) + ∑ f : Fin 1408, p ⟨1408 + f.val, by omega⟩ :=
  Fin.sum_univ_add (a := 1408) (b := 1408) p

end Cert.Rows
end
-- ==== Proof.FfnValue.lean ====
module

public import proofs.«01_k».proof.Defs
public import proofs.«01_k».proof.Proof.Gen.FfnIdeal.Value
public import proofs.«01_k».proof.Proof.Gen.FfnRefIdeal.Run
public import proofs.«01_k».proof.Proof.Rows
public import Idealize.ShloMosaic.Lib.Pointwise
public import Idealize.ShloMosaic.Lib.Claim

/-! The feed-forward call: its result array is the row function `Rows.ffn` of the argument arrays, and so is the
   reference's result. -/

@[expose] public section
noncomputable section
open Idealize.ShloMosaic Idealize.ShloMosaic.TcCoe Idealize.SL.Sem
open Idealize.ShloMosaic.Pipeline (Dat)

namespace Cert.FfnIdeal.Rows
open Cert.FfnIdeal Cert.FfnIdeal.Gen

theorem hz : (![0, 0] : Fin 2 → Nat) = fun _ => 0 := funext fun a => by fin_cases a <;> rfl

/-- The normalized rows the body computes first. -/
theorem pay2_apply (x : Vec Ideal S512x1024 .f32) (g : Vec Ideal S1x1024 .f32) (r : Fin 512) (l : Fin 1024) :
    k0_pay2 x g (ix2 r l) = Cert.Rows.rms (fun k => x (ix2 r k)) (fun k => g (ix2 0 k)) l := by
  pointwise [k0_pay2]
  rfl

/-- What the body stores, at one element: the row function of the staged blocks. -/
theorem out_apply (x : Vec Ideal S512x1024 .f32) (g : Vec Ideal S1x1024 .f32) (w u : Vec Ideal S1024x2816 .bf16)
    (d : Vec Ideal S2816x1024 .bf16) (r : Fin 512) (l : Fin 1024) :
    out0_5 x g w u d (ix2 r l) = Cert.Rows.ffn (fun k => x (ix2 r k)) (fun k => g (ix2 0 k))
      (fun k f => w (ix2 k f)) (fun k f => u (ix2 k f)) (fun f k => d (ix2 f k)) l := by
  unfold out0_5
  rw [View.canon_unit_zero hz, View.ld_unit_zero hz, View.ld_unit_zero hz]
  pointwise [k0_pay1, k0_pay3, k0_pay4, k0_pay5]
  unfold Cert.Rows.ffn
  rw [Cert.Rows.sum_halves]
  simp only [pay2_apply]
  rfl

variable (m : (ℓ : Loc nD τ sig) → Buf (Elt Ideal) ℓ) (ρ : Dev nD → PrngReg)

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = t.val ∧ win0_5.index t 1 = 0 := by decide +kernel

/-- Row `r` of block `t` is a row of the array. -/
abbrev row (t : Fin cfg0.N) (r : Fin 512) : Fin 32768 :=
  ⟨t.val * 512 + r.val, by have := t.isLt; have : cfg0.N = 64 := N_0; omega⟩

theorem emb0 (t : Fin cfg0.N) (r : Fin 512) (l : Fin 1024) : ((cfg0.win 0).blk t).view.emb (ix2 r l) = ix2 (row t r) l := by
  funext a
  apply Fin.ext
  match a with
  | ⟨0, _⟩ => show win0_0.index t 0 * 512 + 1 * r.val = _; rw [(idx0 t).1, Nat.one_mul]; rfl
  | ⟨1, _⟩ => show win0_0.index t 1 * 1024 + 1 * l.val = _; rw [(idx0 t).2]; show 0 * 1024 + 1 * l.val = l.val; omega

theorem emb1 (t : Fin cfg0.N) (r : Fin 1) (l : Fin 1024) : ((cfg0.win 1).blk t).view.emb (ix2 r l) = ix2 r l := by
  funext a
  apply Fin.ext
  match a with
  | ⟨0, _⟩ => show win0_1.index t 0 * 1 + 1 * r.val = r.val; rw [(idx1 t).1]; omega
  | ⟨1, _⟩ => show win0_1.index t 1 * 1024 + 1 * l.val = l.val; rw [(idx1 t).2]; omega

theorem emb2 (t : Fin cfg0.N) (r : Fin 1024) (l : Fin 2816) : ((cfg0.win 2).blk t).view.emb (ix2 r l) = ix2 r l := by
  funext a
  apply Fin.ext
  match a with
  | ⟨0, _⟩ => show win0_2.index t 0 * 1024 + 1 * r.val = r.val; rw [(idx2 t).1]; omega
  | ⟨1, _⟩ => show win0_2.index t 1 * 2816 + 1 * l.val = l.val; rw [(idx2 t).2]; omega

theorem emb3 (t : Fin cfg0.N) (r : Fin 1024) (l : Fin 2816) : ((cfg0.win 3).blk t).view.emb (ix2 r l) = ix2 r l := by
  funext a
  apply Fin.ext
  match a with
  | ⟨0, _⟩ => show win0_3.index t 0 * 1024 + 1 * r.val = r.val; rw [(idx3 t).1]; omega
  | ⟨1, _⟩ => show win0_3.index t 1 * 2816 + 1 * l.val = l.val; rw [(idx3 t).2]; omega

theorem emb4 (t : Fin cfg0.N) (r : Fin 2816) (l : Fin 1024) : ((cfg0.win 4).blk t).view.emb (ix2 r l) = ix2 r l := by
  funext a
  apply Fin.ext
  match a with
  | ⟨0, _⟩ => show win0_4.index t 0 * 2816 + 1 * r.val = r.val; rw [(idx4 t).1]; omega
  | ⟨1, _⟩ => show win0_4.index t 1 * 1024 + 1 * l.val = l.val; rw [(idx4 t).2]; omega

theorem emb5 (t : Fin cfg0.N) (r : Fin 512) (l : Fin 1024) : ((cfg0.win 5).blk t).view.emb (ix2 r l) = ix2 (row t r) l := by
  funext a
  apply Fin.ext
  match a with
  | ⟨0, _⟩ => show win0_5.index t 0 * 512 + 1 * r.val = _; rw [(idx5 t).1, Nat.one_mul]; rfl
  | ⟨1, _⟩ => show win0_5.index t 1 * 1024 + 1 * l.val = _; rw [(idx5 t).2]; show 0 * 1024 + 1 * l.val = l.val; omega

theorem b0 (c : Dev nD) (t : Fin cfg0.N) (r : Fin 512) (l : Fin 1024) :
    iblk m c 0 t (ix2 r l) = m ((c : Thread nD τ).loc main_arg0) (ix2 (row t r) l) := by
  unfold iblk
  rw [View.read_apply, emb0]
  show V m c main_arg0 _ = _
  rw [V_main_arg0]

theorem b1 (c : Dev nD) (t : Fin cfg0.N) (l : Fin 1024) :
    iblk m c 1 t (ix2 (0 : Fin 1) l) = m ((c : Thread nD τ).loc main_arg1) (ix1 l) := by
  unfold iblk
  rw [View.read_apply, emb1]
  show V m c main_v0 _ = _
  entry_read
  pointwise

theorem b2 (c : Dev nD) (t : Fin cfg0.N) (r : Fin 1024) (l : Fin 2816) :
    iblk m c 2 t (ix2 r l) = m ((c : Thread nD τ).loc main_arg2) (ix2 r l) := by
  unfold iblk
  rw [View.read_apply, emb2]
  show V m c main_v1 _ = _
  entry_read
  rfl

theorem b3 (c : Dev nD) (t : Fin cfg0.N) (r : Fin 1024) (l : Fin 2816) :
    iblk m c 3 t (ix2 r l) = m ((c : Thread nD τ).loc main_arg3) (ix2 r l) := by
  unfold iblk
  rw [View.read_apply, emb3]
  show V m c main_v2 _ = _
  entry_read
  rfl

theorem b4 (c : Dev nD) (t : Fin cfg0.N) (r : Fin 2816) (l : Fin 1024) :
    iblk m c 4 t (ix2 r l) = m ((c : Thread nD τ).loc main_arg4) (ix2 r l) := by
  unfold iblk
  rw [View.read_apply, emb4]
  show V m c main_v3 _ = _
  entry_read
  rfl

/-- The result array: the row function of the argument arrays. -/
def G (c : Dev nD) : Buf (Elt Ideal) ((c : Thread nD τ).loc main_v4) := fun i =>
  Cert.Rows.ffn (fun k => m ((c : Thread nD τ).loc main_arg0) (ix2 (i 0) k)) (fun k => m ((c : Thread nD τ).loc main_arg1) (ix1 k))
    (fun k f => m ((c : Thread nD τ).loc main_arg2) (ix2 k f)) (fun k f => m ((c : Thread nD τ).loc main_arg3) (ix2 k f))
    (fun f k => m ((c : Thread nD τ).loc main_arg4) (ix2 f k)) (i 1)

theorem flushed_eq (c : Dev nD) (t : Fin cfg0.N) : (dats m 0 c).flushed 5 t = ((cfg0.win 5).blk t).view.read (Elt Ideal) (G m c) := by
  rw [Value.flushed5]
  funext j
  obtain ⟨r, l, rfl⟩ : ∃ (r : Fin 512) (l : Fin 1024), j = ix2 r l := ⟨j 0, j 1, eq_ix2 j⟩
  rw [View.read_apply, emb5]
  refine (out_apply _ _ _ _ _ r l).trans ?_
  simp only [b0, b1, b2, b3, b4]
  rfl

theorem cover (i : S32768x1024.Idx) : ∃ t : Fin cfg0.N, (cfg0.win 5).flush t = true ∧ i ∈ ((cfg0.win 5).blk t).view.set := by
  have h0 : (i 0 : Nat) < 32768 := (i 0).isLt
  have hN : cfg0.N = 64 := N_0
  refine ⟨⟨(i 0 : Nat) / 512, by omega⟩, flush0_5 _, ?_⟩
  have e := emb5 ⟨(i 0 : Nat) / 512, by omega⟩ ⟨(i 0 : Nat) % 512, by omega⟩ (i 1)
  refine Finset.mem_map.mpr ⟨_, Finset.mem_univ _, e.trans ?_⟩
  refine Eq.trans ?_ (eq_ix2 i).symm
  congr 1
  apply Fin.ext
  show (i 0 : Nat) / 512 * 512 + (i 0 : Nat) % 512 = (i 0 : Nat)
  omega

theorem final (c : Dev nD) : (dats m 0 c).arrAt 5 cfg0.N = G m c :=
  (dats m 0 c).arrAt_eq_of_cover 5 (G m c) (fun t _ => flushed_eq m c t) cover

end Cert.FfnIdeal.Rows

namespace Cert.FfnPair

/-- At the extended reals the kernel's result is the reference's. -/
theorem algebraic :
    Cert.algebraic_FfnIdeal_FfnRefIdeal (hFfnIdeal := Cert.FfnIdeal.Gen.facts) (hFfnRefIdeal := Cert.FfnRefIdeal.Gen.facts) := by
  pair_intro
  · run_from (Cert.FfnIdeal.Value.run_blocks m g)
  · run_from (Cert.FfnRefIdeal.Value.run m' g')
    rw [Cert.FfnIdeal.Rows.final]
    funext i
    obtain ⟨r, l, rfl⟩ : ∃ (r : Fin 32768) (l : Fin 1024), i = ix2 r l := ⟨i 0, i 1, eq_ix2 i⟩
    pointwise
    rfl
end Cert.FfnPair
end
-- ==== Proof.FfnLastValue.lean ====
module

public import proofs.«01_k».proof.Defs
public import proofs.«01_k».proof.Proof.Gen.FfnLastIdeal.Value
public import proofs.«01_k».proof.Proof.Gen.FfnLastRefIdeal.Run
public import proofs.«01_k».proof.Proof.Rows
public import Idealize.ShloMosaic.Lib.Pointwise
public import Idealize.ShloMosaic.Lib.Claim

/-! The last feed-forward call, which also normalizes its result: its result array is the row function `Rows.rms` of `Rows.ffn` of the argument arrays, and so is the
   reference's result. -/

@[expose] public section
noncomputable section
open Idealize.ShloMosaic Idealize.ShloMosaic.TcCoe Idealize.SL.Sem
open Idealize.ShloMosaic.Pipeline (Dat)

namespace Cert.FfnLastIdeal.Rows
open Cert.FfnLastIdeal Cert.FfnLastIdeal.Gen

theorem hz : (![0, 0] : Fin 2 → Nat) = fun _ => 0 := funext fun a => by fin_cases a <;> rfl

/-- The normalized rows the body computes first. -/
theorem pay2_apply (x : Vec Ideal S512x1024 .f32) (g : Vec Ideal S1x1024 .f32) (r : Fin 512) (l : Fin 1024) :
    k0_pay2 x g (ix2 r l) = Cert.Rows.rms (fun k => x (ix2 r k)) (fun k => g (ix2 0 k)) l := by
  pointwise [k0_pay2]
  rfl

/-- What the body stores, at one element: the row function of the staged blocks. -/
theorem out_apply (x : Vec Ideal S512x1024 .f32) (g : Vec Ideal S1x1024 .f32) (w u : Vec Ideal S1024x2816 .bf16)
    (d : Vec Ideal S2816x1024 .bf16) (h : Vec Ideal S1x1024 .f32) (r : Fin 512) (l : Fin 1024) :
    out0_6 x g w u d h (ix2 r l) = Cert.Rows.rms (Cert.Rows.ffn (fun k => x (ix2 r k)) (fun k => g (ix2 0 k))
      (fun k f => w (ix2 k f)) (fun k f => u (ix2 k f)) (fun f k => d (ix2 f k))) (fun k => h (ix2 0 k)) l := by
  unfold out0_6
  rw [View.canon_unit_zero hz, View.ld_unit_zero hz, View.ld_unit_zero hz, View.ld_unit_zero hz]
  pointwise [k0_pay1, k0_pay3, k0_pay4, k0_pay5]
  simp only [pay2_apply]
  unfold Cert.Rows.rms Cert.Rows.ffn
  simp only [Cert.Rows.sum_halves]
  rfl

variable (m : (ℓ : Loc nD τ sig) → Buf (Elt Ideal) ℓ) (ρ : Dev nD → PrngReg)

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = t.val ∧ win0_6.index t 1 = 0 := by decide +kernel

/-- Row `r` of block `t` is a row of the array. -/
abbrev row (t : Fin cfg0.N) (r : Fin 512) : Fin 32768 :=
  ⟨t.val * 512 + r.val, by have := t.isLt; have : cfg0.N = 64 := N_0; omega⟩

theorem emb0 (t : Fin cfg0.N) (r : Fin 512) (l : Fin 1024) : ((cfg0.win 0).blk t).view.emb (ix2 r l) = ix2 (row t r) l := by
  funext a
  apply Fin.ext
  match a with
  | ⟨0, _⟩ => show win0_0.index t 0 * 512 + 1 * r.val = _; rw [(idx0 t).1, Nat.one_mul]; rfl
  | ⟨1, _⟩ => show win0_0.index t 1 * 1024 + 1 * l.val = _; rw [(idx0 t).2]; show 0 * 1024 + 1 * l.val = l.val; omega

theorem emb1 (t : Fin cfg0.N) (r : Fin 1) (l : Fin 1024) : ((cfg0.win 1).blk t).view.emb (ix2 r l) = ix2 r l := by
  funext a
  apply Fin.ext
  match a with
  | ⟨0, _⟩ => show win0_1.index t 0 * 1 + 1 * r.val = r.val; rw [(idx1 t).1]; omega
  | ⟨1, _⟩ => show win0_1.index t 1 * 1024 + 1 * l.val = l.val; rw [(idx1 t).2]; omega

theorem emb2 (t : Fin cfg0.N) (r : Fin 1024) (l : Fin 2816) : ((cfg0.win 2).blk t).view.emb (ix2 r l) = ix2 r l := by
  funext a
  apply Fin.ext
  match a with
  | ⟨0, _⟩ => show win0_2.index t 0 * 1024 + 1 * r.val = r.val; rw [(idx2 t).1]; omega
  | ⟨1, _⟩ => show win0_2.index t 1 * 2816 + 1 * l.val = l.val; rw [(idx2 t).2]; omega

theorem emb3 (t : Fin cfg0.N) (r : Fin 1024) (l : Fin 2816) : ((cfg0.win 3).blk t).view.emb (ix2 r l) = ix2 r l := by
  funext a
  apply Fin.ext
  match a with
  | ⟨0, _⟩ => show win0_3.index t 0 * 1024 + 1 * r.val = r.val; rw [(idx3 t).1]; omega
  | ⟨1, _⟩ => show win0_3.index t 1 * 2816 + 1 * l.val = l.val; rw [(idx3 t).2]; omega

theorem emb4 (t : Fin cfg0.N) (r : Fin 2816) (l : Fin 1024) : ((cfg0.win 4).blk t).view.emb (ix2 r l) = ix2 r l := by
  funext a
  apply Fin.ext
  match a with
  | ⟨0, _⟩ => show win0_4.index t 0 * 2816 + 1 * r.val = r.val; rw [(idx4 t).1]; omega
  | ⟨1, _⟩ => show win0_4.index t 1 * 1024 + 1 * l.val = l.val; rw [(idx4 t).2]; omega

theorem emb5 (t : Fin cfg0.N) (r : Fin 1) (l : Fin 1024) : ((cfg0.win 5).blk t).view.emb (ix2 r l) = ix2 r l := by
  funext a
  apply Fin.ext
  match a with
  | ⟨0, _⟩ => show win0_5.index t 0 * 1 + 1 * r.val = r.val; rw [(idx5 t).1]; omega
  | ⟨1, _⟩ => show win0_5.index t 1 * 1024 + 1 * l.val = l.val; rw [(idx5 t).2]; omega

theorem emb6 (t : Fin cfg0.N) (r : Fin 512) (l : Fin 1024) : ((cfg0.win 6).blk t).view.emb (ix2 r l) = ix2 (row t r) l := by
  funext a
  apply Fin.ext
  match a with
  | ⟨0, _⟩ => show win0_6.index t 0 * 512 + 1 * r.val = _; rw [(idx6 t).1, Nat.one_mul]; rfl
  | ⟨1, _⟩ => show win0_6.index t 1 * 1024 + 1 * l.val = _; rw [(idx6 t).2]; show 0 * 1024 + 1 * l.val = l.val; omega

theorem b0 (c : Dev nD) (t : Fin cfg0.N) (r : Fin 512) (l : Fin 1024) :
    iblk m c 0 t (ix2 r l) = m ((c : Thread nD τ).loc main_arg0) (ix2 (row t r) l) := by
  unfold iblk
  rw [View.read_apply, emb0]
  show V m c main_arg0 _ = _
  rw [V_main_arg0]

theorem b1 (c : Dev nD) (t : Fin cfg0.N) (l : Fin 1024) :
    iblk m c 1 t (ix2 (0 : Fin 1) l) = m ((c : Thread nD τ).loc main_arg1) (ix1 l) := by
  unfold iblk
  rw [View.read_apply, emb1]
  show V m c main_v0 _ = _
  entry_read
  pointwise

theorem b2 (c : Dev nD) (t : Fin cfg0.N) (r : Fin 1024) (l : Fin 2816) :
    iblk m c 2 t (ix2 r l) = m ((c : Thread nD τ).loc main_arg2) (ix2 r l) := by
  unfold iblk
  rw [View.read_apply, emb2]
  show V m c main_v1 _ = _
  entry_read
  rfl

theorem b3 (c : Dev nD) (t : Fin cfg0.N) (r : Fin 1024) (l : Fin 2816) :
    iblk m c 3 t (ix2 r l) = m ((c : Thread nD τ).loc main_arg3) (ix2 r l) := by
  unfold iblk
  rw [View.read_apply, emb3]
  show V m c main_v2 _ = _
  entry_read
  rfl

theorem b4 (c : Dev nD) (t : Fin cfg0.N) (r : Fin 2816) (l : Fin 1024) :
    iblk m c 4 t (ix2 r l) = m ((c : Thread nD τ).loc main_arg4) (ix2 r l) := by
  unfold iblk
  rw [View.read_apply, emb4]
  show V m c main_v3 _ = _
  entry_read
  rfl

theorem b5 (c : Dev nD) (t : Fin cfg0.N) (l : Fin 1024) :
    iblk m c 5 t (ix2 (0 : Fin 1) l) = m ((c : Thread nD τ).loc main_arg5) (ix1 l) := by
  unfold iblk
  rw [View.read_apply, emb5]
  show V m c main_v4 _ = _
  entry_read
  pointwise

/-- The result array: the row function of the argument arrays. -/
def G (c : Dev nD) : Buf (Elt Ideal) ((c : Thread nD τ).loc main_v5) := fun i =>
  Cert.Rows.rms (Cert.Rows.ffn (fun k => m ((c : Thread nD τ).loc main_arg0) (ix2 (i 0) k)) (fun k => m ((c : Thread nD τ).loc main_arg1) (ix1 k))
    (fun k f => m ((c : Thread nD τ).loc main_arg2) (ix2 k f)) (fun k f => m ((c : Thread nD τ).loc main_arg3) (ix2 k f))
    (fun f k => m ((c : Thread nD τ).loc main_arg4) (ix2 f k)))
    (fun k => m ((c : Thread nD τ).loc main_arg5) (ix1 k)) (i 1)

theorem flushed_eq (c : Dev nD) (t : Fin cfg0.N) : (dats m 0 c).flushed 6 t = ((cfg0.win 6).blk t).view.read (Elt Ideal) (G m c) := by
  rw [Value.flushed6]
  funext j
  obtain ⟨r, l, rfl⟩ : ∃ (r : Fin 512) (l : Fin 1024), j = ix2 r l := ⟨j 0, j 1, eq_ix2 j⟩
  rw [View.read_apply, emb6]
  refine (out_apply _ _ _ _ _ _ r l).trans ?_
  simp only [b0, b1, b2, b3, b4, b5]
  rfl

theorem cover (i : S32768x1024.Idx) : ∃ t : Fin cfg0.N, (cfg0.win 6).flush t = true ∧ i ∈ ((cfg0.win 6).blk t).view.set := by
  have h0 : (i 0 : Nat) < 32768 := (i 0).isLt
  have hN : cfg0.N = 64 := N_0
  refine ⟨⟨(i 0 : Nat) / 512, by omega⟩, flush0_6 _, ?_⟩
  have e := emb6 ⟨(i 0 : Nat) / 512, by omega⟩ ⟨(i 0 : Nat) % 512, by omega⟩ (i 1)
  refine Finset.mem_map.mpr ⟨_, Finset.mem_univ _, e.trans ?_⟩
  refine Eq.trans ?_ (eq_ix2 i).symm
  congr 1
  apply Fin.ext
  show (i 0 : Nat) / 512 * 512 + (i 0 : Nat) % 512 = (i 0 : Nat)
  omega

theorem final (c : Dev nD) : (dats m 0 c).arrAt 6 cfg0.N = G m c :=
  (dats m 0 c).arrAt_eq_of_cover 6 (G m c) (fun t _ => flushed_eq m c t) cover

end Cert.FfnLastIdeal.Rows

namespace Cert.FfnLastPair

/-- At the extended reals the kernel's result is the reference's. -/
theorem algebraic :
    Cert.algebraic_FfnLastIdeal_FfnLastRefIdeal (hFfnLastIdeal := Cert.FfnLastIdeal.Gen.facts) (hFfnLastRefIdeal := Cert.FfnLastRefIdeal.Gen.facts) := by
  pair_intro
  · run_from (Cert.FfnLastIdeal.Value.run_blocks m g)
  · run_from (Cert.FfnLastRefIdeal.Value.run m' g')
    rw [Cert.FfnLastIdeal.Rows.final]
    funext i
    obtain ⟨r, l, rfl⟩ : ∃ (r : Fin 32768) (l : Fin 1024), i = ix2 r l := ⟨i 0, i 1, eq_ix2 i⟩
    unfold Cert.FfnLastRefIdeal.Value.res_main_v33
    simp only [hagree c]
    pointwise
    rfl
end Cert.FfnLastPair
end
-- ==== Proof.OutEvenValue.lean ====
module

public import proofs.«01_k».proof.Defs
public import proofs.«01_k».proof.Proof.Gen.OutEvenIdeal.Value
public import proofs.«01_k».proof.Proof.Gen.OutEvenRefIdeal.Run
public import Idealize.ShloMosaic.Lib.Pointwise
public import Idealize.ShloMosaic.Lib.Claim

/-! The output projection of a mixer with parts of 256 and 768 columns: each result row is the residual row plus both
   parts' products with their share of the weight's rows, and the reference's product with the joined row is the same. -/

@[expose] public section
noncomputable section
open Idealize.ShloMosaic Idealize.ShloMosaic.TcCoe Idealize.SL.Sem
open Idealize.ShloMosaic.Pipeline (Dat)

namespace Cert.OutEvenIdeal.Rows
open Cert.OutEvenIdeal Cert.OutEvenIdeal.Gen

theorem hz : (![0, 0] : Fin 2 → Nat) = fun _ => 0 := funext fun a => by fin_cases a <;> rfl

/-- The residual entry plus the product of the two joined parts with the weight's column. -/
def out (x : Fin 1024 → EReal) (a : Fin 256 → EReal) (b : Fin 768 → EReal) (w : Fin 1024 → Fin 1024 → EReal) (l : Fin 1024) : EReal :=
  x l + ((∑ k : Fin 256, a k * w ⟨k.val, by omega⟩ l) + ∑ k : Fin 768, b k * w ⟨256 + k.val, by omega⟩ l)

theorem out_apply (x : Vec Ideal S512x1024 .f32) (a : Vec Ideal S512x256 .f32) (b : Vec Ideal S512x768 .f32) (wa : Vec Ideal S256x1024 .bf16)
    (wb : Vec Ideal S768x1024 .bf16) (r : Fin 512) (l : Fin 1024) :
    out0_5 x a b wa wb (ix2 r l) = x (ix2 r l) + ((∑ k : Fin 256, a (ix2 r k) * wa (ix2 k l)) + ∑ k : Fin 768, b (ix2 r k) * wb (ix2 k l)) := by
  unfold out0_5
  rw [View.canon_unit_zero hz]
  rw [View.ld_unit_zero hz, View.ld_unit_zero hz, View.ld_unit_zero hz, View.ld_unit_zero hz, View.ld_unit_zero hz]
  pointwise [k0_pay1]

variable (m : (ℓ : Loc nD τ sig) → Buf (Elt Ideal) ℓ) (ρ : Dev nD → PrngReg)

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = t.val ∧ win0_5.index t 1 = 0 := by decide +kernel

/-- Row `r` of block `t` is a row of the array. -/
abbrev row (t : Fin cfg0.N) (r : Fin 512) : Fin 32768 :=
  ⟨t.val * 512 + r.val, by have := t.isLt; have : cfg0.N = 64 := N_0; omega⟩

theorem emb0 (t : Fin cfg0.N) (r : Fin 512) (l : Fin 1024) : ((cfg0.win 0).blk t).view.emb (ix2 r l) = ix2 (row t r) l := by
  funext a
  apply Fin.ext
  match a with
  | ⟨0, _⟩ => show win0_0.index t 0 * 512 + 1 * r.val = _; rw [(idx0 t).1, Nat.one_mul]; rfl
  | ⟨1, _⟩ => show win0_0.index t 1 * 1024 + 1 * l.val = _; rw [(idx0 t).2]; show 0 * 1024 + 1 * l.val = l.val; omega

theorem emb1 (t : Fin cfg0.N) (r : Fin 512) (l : Fin 256) : ((cfg0.win 1).blk t).view.emb (ix2 r l) = ix2 (row t r) l := by
  funext a
  apply Fin.ext
  match a with
  | ⟨0, _⟩ => show win0_1.index t 0 * 512 + 1 * r.val = _; rw [(idx1 t).1, Nat.one_mul]; rfl
  | ⟨1, _⟩ => show win0_1.index t 1 * 256 + 1 * l.val = _; rw [(idx1 t).2]; show 0 * 256 + 1 * l.val = l.val; omega

theorem emb2 (t : Fin cfg0.N) (r : Fin 512) (l : Fin 768) : ((cfg0.win 2).blk t).view.emb (ix2 r l) = ix2 (row t r) l := by
  funext a
  apply Fin.ext
  match a with
  | ⟨0, _⟩ => show win0_2.index t 0 * 512 + 1 * r.val = _; rw [(idx2 t).1, Nat.one_mul]; rfl
  | ⟨1, _⟩ => show win0_2.index t 1 * 768 + 1 * l.val = _; rw [(idx2 t).2]; show 0 * 768 + 1 * l.val = l.val; omega

theorem emb3 (t : Fin cfg0.N) (r : Fin 256) (l : Fin 1024) : ((cfg0.win 3).blk t).view.emb (ix2 r l) = ix2 r l := by
  funext a
  apply Fin.ext
  match a with
  | ⟨0, _⟩ => show win0_3.index t 0 * 256 + 1 * r.val = r.val; rw [(idx3 t).1]; omega
  | ⟨1, _⟩ => show win0_3.index t 1 * 1024 + 1 * l.val = _; rw [(idx3 t).2]; show 0 * 1024 + 1 * l.val = l.val; omega

theorem emb4 (t : Fin cfg0.N) (r : Fin 768) (l : Fin 1024) : ((cfg0.win 4).blk t).view.emb (ix2 r l) = ix2 r l := by
  funext a
  apply Fin.ext
  match a with
  | ⟨0, _⟩ => show win0_4.index t 0 * 768 + 1 * r.val = r.val; rw [(idx4 t).1]; omega
  | ⟨1, _⟩ => show win0_4.index t 1 * 1024 + 1 * l.val = _; rw [(idx4 t).2]; show 0 * 1024 + 1 * l.val = l.val; omega

theorem emb5 (t : Fin cfg0.N) (r : Fin 512) (l : Fin 1024) : ((cfg0.win 5).blk t).view.emb (ix2 r l) = ix2 (row t r) l := by
  funext a
  apply Fin.ext
  match a with
  | ⟨0, _⟩ => show win0_5.index t 0 * 512 + 1 * r.val = _; rw [(idx5 t).1, Nat.one_mul]; rfl
  | ⟨1, _⟩ => show win0_5.index t 1 * 1024 + 1 * l.val = _; rw [(idx5 t).2]; show 0 * 1024 + 1 * l.val = l.val; omega

theorem b0 (c : Dev nD) (t : Fin cfg0.N) (r : Fin 512) (l : Fin 1024) :
    iblk m c 0 t (ix2 r l) = m ((c : Thread nD τ).loc main_arg0) (ix2 (row t r) l) := by
  unfold iblk
  rw [View.read_apply, emb0]
  show V m c main_arg0 _ = _
  rw [V_main_arg0]

theorem b1 (c : Dev nD) (t : Fin cfg0.N) (r : Fin 512) (l : Fin 256) :
    iblk m c 1 t (ix2 r l) = m ((c : Thread nD τ).loc main_arg1) (ix2 (row t r) l) := by
  unfold iblk
  rw [View.read_apply, emb1]
  show V m c main_arg1 _ = _
  rw [V_main_arg1]

theorem b2 (c : Dev nD) (t : Fin cfg0.N) (r : Fin 512) (l : Fin 768) :
    iblk m c 2 t (ix2 r l) = m ((c : Thread nD τ).loc main_arg2) (ix2 (row t r) l) := by
  unfold iblk
  rw [View.read_apply, emb2]
  show V m c main_arg2 _ = _
  rw [V_main_arg2]

theorem b3 (c : Dev nD) (t : Fin cfg0.N) (r : Fin 256) (l : Fin 1024) :
    iblk m c 3 t (ix2 r l) = m ((c : Thread nD τ).loc main_arg3) (ix2 ⟨r.val, by omega⟩ l) := by
  unfold iblk
  rw [View.read_apply, emb3]
  show V m c main_v1 _ = _
  entry_read
  pointwise

theorem b4 (c : Dev nD) (t : Fin cfg0.N) (r : Fin 768) (l : Fin 1024) :
    iblk m c 4 t (ix2 r l) = m ((c : Thread nD τ).loc main_arg3) (ix2 ⟨256 + r.val, by omega⟩ l) := by
  unfold iblk
  rw [View.read_apply, emb4]
  show V m c main_v3 _ = _
  entry_read
  pointwise

def G (c : Dev nD) : Buf (Elt Ideal) ((c : Thread nD τ).loc main_v4) := fun i =>
  out (fun k => m ((c : Thread nD τ).loc main_arg0) (ix2 (i 0) k)) (fun k => m ((c : Thread nD τ).loc main_arg1) (ix2 (i 0) k))
    (fun k => m ((c : Thread nD τ).loc main_arg2) (ix2 (i 0) k)) (fun k l => m ((c : Thread nD τ).loc main_arg3) (ix2 k l)) (i 1)

theorem flushed_eq (c : Dev nD) (t : Fin cfg0.N) : (dats m 0 c).flushed 5 t = ((cfg0.win 5).blk t).view.read (Elt Ideal) (G m c) := by
  rw [Value.flushed5]
  funext j
  obtain ⟨r, l, rfl⟩ : ∃ (r : Fin 512) (l : Fin 1024), j = ix2 r l := ⟨j 0, j 1, eq_ix2 j⟩
  rw [View.read_apply, emb5]
  refine (out_apply _ _ _ _ _ r l).trans ?_
  simp only [b0, b1, b2, b3, b4]
  rfl

theorem cover (i : S32768x1024.Idx) : ∃ t : Fin cfg0.N, (cfg0.win 5).flush t = true ∧ i ∈ ((cfg0.win 5).blk t).view.set := by
  have h0 : (i 0 : Nat) < 32768 := (i 0).isLt
  have hN : cfg0.N = 64 := N_0
  refine ⟨⟨(i 0 : Nat) / 512, by omega⟩, flush0_5 _, ?_⟩
  have e := emb5 ⟨(i 0 : Nat) / 512, by omega⟩ ⟨(i 0 : Nat) % 512, by omega⟩ (i 1)
  refine Finset.mem_map.mpr ⟨_, Finset.mem_univ _, e.trans ?_⟩
  refine Eq.trans ?_ (eq_ix2 i).symm
  congr 1
  apply Fin.ext
  show (i 0 : Nat) / 512 * 512 + (i 0 : Nat) % 512 = (i 0 : Nat)
  omega

theorem final (c : Dev nD) : (dats m 0 c).arrAt 5 cfg0.N = G m c :=
  (dats m 0 c).arrAt_eq_of_cover 5 (G m c) (fun t _ => flushed_eq m c t) cover

end Cert.OutEvenIdeal.Rows

namespace Cert.OutEvenPair

/-- At the extended reals the kernel's result is the reference's. -/
theorem algebraic :
    Cert.algebraic_OutEvenIdeal_OutEvenRefIdeal (hOutEvenIdeal := Cert.OutEvenIdeal.Gen.facts) (hOutEvenRefIdeal := Cert.OutEvenRefIdeal.Gen.facts) := by
  pair_intro
  · run_from (Cert.OutEvenIdeal.Value.run_blocks m g)
  · run_from (Cert.OutEvenRefIdeal.Value.run m' g')
    rw [Cert.OutEvenIdeal.Rows.final]
    funext i
    obtain ⟨r, l, rfl⟩ : ∃ (r : Fin 32768) (l : Fin 1024), i = ix2 r l := ⟨i 0, i 1, eq_ix2 i⟩
    pointwise
    simp only [hagree c]
    rfl
end Cert.OutEvenPair
end
-- ==== Proof.OutOddValue.lean ====
module

public import proofs.«01_k».proof.Defs
public import proofs.«01_k».proof.Proof.Gen.OutOddIdeal.Value
public import proofs.«01_k».proof.Proof.Gen.OutOddRefIdeal.Run
public import Idealize.ShloMosaic.Lib.Pointwise
public import Idealize.ShloMosaic.Lib.Claim

/-! The output projection of a mixer with parts of 512 and 512 columns: each result row is the residual row plus both
   parts' products with their share of the weight's rows, and the reference's product with the joined row is the same. -/

@[expose] public section
noncomputable section
open Idealize.ShloMosaic Idealize.ShloMosaic.TcCoe Idealize.SL.Sem
open Idealize.ShloMosaic.Pipeline (Dat)

namespace Cert.OutOddIdeal.Rows
open Cert.OutOddIdeal Cert.OutOddIdeal.Gen

theorem hz : (![0, 0] : Fin 2 → Nat) = fun _ => 0 := funext fun a => by fin_cases a <;> rfl

/-- The residual entry plus the product of the two joined parts with the weight's column. -/
def out (x : Fin 1024 → EReal) (a : Fin 512 → EReal) (b : Fin 512 → EReal) (w : Fin 1024 → Fin 1024 → EReal) (l : Fin 1024) : EReal :=
  x l + ((∑ k : Fin 512, a k * w ⟨k.val, by omega⟩ l) + ∑ k : Fin 512, b k * w ⟨512 + k.val, by omega⟩ l)

theorem out_apply (x : Vec Ideal S512x1024 .f32) (a : Vec Ideal S512x512 .f32) (b : Vec Ideal S512x512 .f32) (wa : Vec Ideal S512x1024 .bf16)
    (wb : Vec Ideal S512x1024 .bf16) (r : Fin 512) (l : Fin 1024) :
    out0_5 x a b wa wb (ix2 r l) = x (ix2 r l) + ((∑ k : Fin 512, a (ix2 r k) * wa (ix2 k l)) + ∑ k : Fin 512, b (ix2 r k) * wb (ix2 k l)) := by
  unfold out0_5
  rw [View.canon_unit_zero hz]
  rw [View.ld_unit_zero hz, View.ld_unit_zero hz, View.ld_unit_zero hz, View.ld_unit_zero hz, View.ld_unit_zero hz]
  pointwise [k0_pay1]

variable (m : (ℓ : Loc nD τ sig) → Buf (Elt Ideal) ℓ) (ρ : Dev nD → PrngReg)

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = t.val ∧ win0_5.index t 1 = 0 := by decide +kernel

/-- Row `r` of block `t` is a row of the array. -/
abbrev row (t : Fin cfg0.N) (r : Fin 512) : Fin 32768 :=
  ⟨t.val * 512 + r.val, by have := t.isLt; have : cfg0.N = 64 := N_0; omega⟩

theorem emb0 (t : Fin cfg0.N) (r : Fin 512) (l : Fin 1024) : ((cfg0.win 0).blk t).view.emb (ix2 r l) = ix2 (row t r) l := by
  funext a
  apply Fin.ext
  match a with
  | ⟨0, _⟩ => show win0_0.index t 0 * 512 + 1 * r.val = _; rw [(idx0 t).1, Nat.one_mul]; rfl
  | ⟨1, _⟩ => show win0_0.index t 1 * 1024 + 1 * l.val = _; rw [(idx0 t).2]; show 0 * 1024 + 1 * l.val = l.val; omega

theorem emb1 (t : Fin cfg0.N) (r : Fin 512) (l : Fin 512) : ((cfg0.win 1).blk t).view.emb (ix2 r l) = ix2 (row t r) l := by
  funext a
  apply Fin.ext
  match a with
  | ⟨0, _⟩ => show win0_1.index t 0 * 512 + 1 * r.val = _; rw [(idx1 t).1, Nat.one_mul]; rfl
  | ⟨1, _⟩ => show win0_1.index t 1 * 512 + 1 * l.val = _; rw [(idx1 t).2]; show 0 * 512 + 1 * l.val = l.val; omega

theorem emb2 (t : Fin cfg0.N) (r : Fin 512) (l : Fin 512) : ((cfg0.win 2).blk t).view.emb (ix2 r l) = ix2 (row t r) l := by
  funext a
  apply Fin.ext
  match a with
  | ⟨0, _⟩ => show win0_2.index t 0 * 512 + 1 * r.val = _; rw [(idx2 t).1, Nat.one_mul]; rfl
  | ⟨1, _⟩ => show win0_2.index t 1 * 512 + 1 * l.val = _; rw [(idx2 t).2]; show 0 * 512 + 1 * l.val = l.val; omega

theorem emb3 (t : Fin cfg0.N) (r : Fin 512) (l : Fin 1024) : ((cfg0.win 3).blk t).view.emb (ix2 r l) = ix2 r l := by
  funext a
  apply Fin.ext
  match a with
  | ⟨0, _⟩ => show win0_3.index t 0 * 512 + 1 * r.val = r.val; rw [(idx3 t).1]; omega
  | ⟨1, _⟩ => show win0_3.index t 1 * 1024 + 1 * l.val = _; rw [(idx3 t).2]; show 0 * 1024 + 1 * l.val = l.val; omega

theorem emb4 (t : Fin cfg0.N) (r : Fin 512) (l : Fin 1024) : ((cfg0.win 4).blk t).view.emb (ix2 r l) = ix2 r l := by
  funext a
  apply Fin.ext
  match a with
  | ⟨0, _⟩ => show win0_4.index t 0 * 512 + 1 * r.val = r.val; rw [(idx4 t).1]; omega
  | ⟨1, _⟩ => show win0_4.index t 1 * 1024 + 1 * l.val = _; rw [(idx4 t).2]; show 0 * 1024 + 1 * l.val = l.val; omega

theorem emb5 (t : Fin cfg0.N) (r : Fin 512) (l : Fin 1024) : ((cfg0.win 5).blk t).view.emb (ix2 r l) = ix2 (row t r) l := by
  funext a
  apply Fin.ext
  match a with
  | ⟨0, _⟩ => show win0_5.index t 0 * 512 + 1 * r.val = _; rw [(idx5 t).1, Nat.one_mul]; rfl
  | ⟨1, _⟩ => show win0_5.index t 1 * 1024 + 1 * l.val = _; rw [(idx5 t).2]; show 0 * 1024 + 1 * l.val = l.val; omega

theorem b0 (c : Dev nD) (t : Fin cfg0.N) (r : Fin 512) (l : Fin 1024) :
    iblk m c 0 t (ix2 r l) = m ((c : Thread nD τ).loc main_arg0) (ix2 (row t r) l) := by
  unfold iblk
  rw [View.read_apply, emb0]
  show V m c main_arg0 _ = _
  rw [V_main_arg0]

theorem b1 (c : Dev nD) (t : Fin cfg0.N) (r : Fin 512) (l : Fin 512) :
    iblk m c 1 t (ix2 r l) = m ((c : Thread nD τ).loc main_arg1) (ix2 (row t r) l) := by
  unfold iblk
  rw [View.read_apply, emb1]
  show V m c main_arg1 _ = _
  rw [V_main_arg1]

theorem b2 (c : Dev nD) (t : Fin cfg0.N) (r : Fin 512) (l : Fin 512) :
    iblk m c 2 t (ix2 r l) = m ((c : Thread nD τ).loc main_arg2) (ix2 (row t r) l) := by
  unfold iblk
  rw [View.read_apply, emb2]
  show V m c main_arg2 _ = _
  rw [V_main_arg2]

theorem b3 (c : Dev nD) (t : Fin cfg0.N) (r : Fin 512) (l : Fin 1024) :
    iblk m c 3 t (ix2 r l) = m ((c : Thread nD τ).loc main_arg3) (ix2 ⟨r.val, by omega⟩ l) := by
  unfold iblk
  rw [View.read_apply, emb3]
  show V m c main_v1 _ = _
  entry_read
  pointwise

theorem b4 (c : Dev nD) (t : Fin cfg0.N) (r : Fin 512) (l : Fin 1024) :
    iblk m c 4 t (ix2 r l) = m ((c : Thread nD τ).loc main_arg3) (ix2 ⟨512 + r.val, by omega⟩ l) := by
  unfold iblk
  rw [View.read_apply, emb4]
  show V m c main_v3 _ = _
  entry_read
  pointwise

def G (c : Dev nD) : Buf (Elt Ideal) ((c : Thread nD τ).loc main_v4) := fun i =>
  out (fun k => m ((c : Thread nD τ).loc main_arg0) (ix2 (i 0) k)) (fun k => m ((c : Thread nD τ).loc main_arg1) (ix2 (i 0) k))
    (fun k => m ((c : Thread nD τ).loc main_arg2) (ix2 (i 0) k)) (fun k l => m ((c : Thread nD τ).loc main_arg3) (ix2 k l)) (i 1)

theorem flushed_eq (c : Dev nD) (t : Fin cfg0.N) : (dats m 0 c).flushed 5 t = ((cfg0.win 5).blk t).view.read (Elt Ideal) (G m c) := by
  rw [Value.flushed5]
  funext j
  obtain ⟨r, l, rfl⟩ : ∃ (r : Fin 512) (l : Fin 1024), j = ix2 r l := ⟨j 0, j 1, eq_ix2 j⟩
  rw [View.read_apply, emb5]
  refine (out_apply _ _ _ _ _ r l).trans ?_
  simp only [b0, b1, b2, b3, b4]
  rfl

theorem cover (i : S32768x1024.Idx) : ∃ t : Fin cfg0.N, (cfg0.win 5).flush t = true ∧ i ∈ ((cfg0.win 5).blk t).view.set := by
  have h0 : (i 0 : Nat) < 32768 := (i 0).isLt
  have hN : cfg0.N = 64 := N_0
  refine ⟨⟨(i 0 : Nat) / 512, by omega⟩, flush0_5 _, ?_⟩
  have e := emb5 ⟨(i 0 : Nat) / 512, by omega⟩ ⟨(i 0 : Nat) % 512, by omega⟩ (i 1)
  refine Finset.mem_map.mpr ⟨_, Finset.mem_univ _, e.trans ?_⟩
  refine Eq.trans ?_ (eq_ix2 i).symm
  congr 1
  apply Fin.ext
  show (i 0 : Nat) / 512 * 512 + (i 0 : Nat) % 512 = (i 0 : Nat)
  omega

theorem final (c : Dev nD) : (dats m 0 c).arrAt 5 cfg0.N = G m c :=
  (dats m 0 c).arrAt_eq_of_cover 5 (G m c) (fun t _ => flushed_eq m c t) cover

end Cert.OutOddIdeal.Rows

namespace Cert.OutOddPair

/-- At the extended reals the kernel's result is the reference's. -/
theorem algebraic :
    Cert.algebraic_OutOddIdeal_OutOddRefIdeal (hOutOddIdeal := Cert.OutOddIdeal.Gen.facts) (hOutOddRefIdeal := Cert.OutOddRefIdeal.Gen.facts) := by
  pair_intro
  · run_from (Cert.OutOddIdeal.Value.run_blocks m g)
  · run_from (Cert.OutOddRefIdeal.Value.run m' g')
    rw [Cert.OutOddIdeal.Rows.final]
    funext i
    obtain ⟨r, l, rfl⟩ : ∃ (r : Fin 32768) (l : Fin 1024), i = ix2 r l := ⟨i 0, i 1, eq_ix2 i⟩
    pointwise
    simp only [hagree c]
    rfl
end Cert.OutOddPair
end
-- ==== Proof.Rope.lean ====
module

public import proofs.«01_k».proof.Proof.Rows

/-! The rotary embedding over rows of extended reals: the rotation of each head's first lanes as the formula states it,
   and the same from three tables of 128 lanes and two turned copies of each 128-lane tile. -/

@[expose] public section
noncomputable section
open Idealize.ShloMosaic

namespace Cert.Rows

/-- One entry of a normalized row times a column of weights. -/
def proj (x g w : Fin 1024 → EReal) : EReal := ∑ k, rms x g k * w k

/-- The angle of frequency `e` at position `p`; `d` is the number of rotated lanes, as a float's bits. -/
def angle (d p : BitVec 32) (e : Nat) : EReal :=
  FloatOps.sitofp (F := Ideal) FTy.f32 p * Ideal.pow (Ideal.ofBits FTy.f32 1223959552#32)
    (Ideal.div (-(Ideal.ofBits FTy.f32 1073741824#32 * FloatOps.sitofp (F := Ideal) FTy.f32 (BitVec.ofNat 32 e))) (Ideal.ofBits FTy.f32 d))

/-- A row over all natural numbers, zero past its end. -/
def ext {n : Nat} (f : Fin n → EReal) (j : Nat) : EReal := if h : j < n then f ⟨j, h⟩ else 0

theorem ext_eq {n : Nat} (f : Fin n → EReal) {j : Nat} (k : Fin n) (h : k.val = j) : f k = ext f j := by
  subst h
  simp [ext]

/-- The rotation of the first `2 * half` lanes of each head of `dim` lanes. -/
def rot (half dim : Nat) (y C S : Nat → EReal) (l : Nat) : EReal :=
  if l % dim < half then y l * C (l % dim) - y (l + half) * S (l % dim)
  else if l % dim - half < half then y l * C (l % dim - half) + y (l - half) * S (l % dim - half)
  else y l

/-- One lane of a tile: itself, the lane `half` to its right and the lane `half` to its left (around the tile's 128
    lanes), each times its table's entry. -/
def tile (half : Nat) (y A B D : Nat → EReal) (l : Nat) : EReal :=
  y l * A (l % 128) + y (l / 128 * 128 + (l % 128 + half) % 128) * B (l % 128)
    + y (l / 128 * 128 + (l % 128 + (128 - half)) % 128) * D (l % 128)

def tabA (half dim : Nat) (C : Nat → EReal) (x : Nat) : EReal :=
  if x % dim < half then C (x % dim) else if x % dim - half < half then C (x % dim - half) else 1

def tabB (half dim : Nat) (S : Nat → EReal) (x : Nat) : EReal :=
  if x % dim < half then -S (x % dim) else if x % dim - half < half then 0 else 0

def tabD (half dim : Nat) (S : Nat → EReal) (x : Nat) : EReal :=
  if x % dim < half then 0 else if x % dim - half < half then S (x % dim - half) else 0

/-- With the three tables of cosines and signed sines, the tiles' formula is the rotation. -/
theorem tile_eq_rot64 (y C S : Nat → EReal) (l : Nat) :
    tile 8 y (tabA 8 64 C) (tabB 8 64 S) (tabD 8 64 S) l = rot 8 64 y C S l := by
  have e : l % 128 % 64 = l % 64 := by omega
  unfold tile rot tabA tabB tabD
  rw [e]
  by_cases h : l % 64 < 8
  · have h1 : l / 128 * 128 + (l % 128 + 8) % 128 = l + 8 := by omega
    simp only [h, if_true, h1, mul_zero, add_zero, mul_neg, sub_eq_add_neg]
  · by_cases h2 : l % 64 - 8 < 8
    · have h1 : l / 128 * 128 + (l % 128 + (128 - 8)) % 128 = l - 8 := by omega
      simp only [h, h2, if_true, if_false, h1, mul_zero, add_zero]
    · simp only [h, h2, if_false, mul_zero, add_zero, mul_one]

theorem tile_eq_rot32 (y C S : Nat → EReal) (l : Nat) :
    tile 4 y (tabA 4 32 C) (tabB 4 32 S) (tabD 4 32 S) l = rot 4 32 y C S l := by
  have e : l % 128 % 32 = l % 32 := by omega
  unfold tile rot tabA tabB tabD
  rw [e]
  by_cases h : l % 32 < 4
  · have h1 : l / 128 * 128 + (l % 128 + 4) % 128 = l + 4 := by omega
    simp only [h, if_true, h1, mul_zero, add_zero, mul_neg, sub_eq_add_neg]
  · by_cases h2 : l % 32 - 4 < 4
    · have h1 : l / 128 * 128 + (l % 128 + (128 - 4)) % 128 = l - 4 := by omega
      simp only [h, h2, if_true, if_false, h1, mul_zero, add_zero]
    · simp only [h, h2, if_false, mul_zero, add_zero, mul_one]

/-- A tile's lane from the entries it reads. -/
theorem tile_of {n half l : Nat} (f : Fin n → EReal) (A B D : Fin 128 → EReal) (a b c : Fin n) (p q s : Fin 128)
    (ha : a.val = l) (hb : b.val = l / 128 * 128 + (l % 128 + half) % 128)
    (hc : c.val = l / 128 * 128 + (l % 128 + (128 - half)) % 128) (hp : p.val = l % 128) (hq : q.val = l % 128) (hs : s.val = l % 128) :
    f a * A p + f b * B q + f c * D s = tile half (ext f) (ext A) (ext B) (ext D) l := by
  unfold tile
  rw [ext_eq f a ha, ext_eq f b hb, ext_eq f c hc, ext_eq A p hp, ext_eq B q hq, ext_eq D s hs]

/-- Tables that hold the cosines and signed sines on their 128 lanes give the rotation. -/
theorem tile_tables64 {n : Nat} (f : Fin n → EReal) (A B D : Fin 128 → EReal) (C S : Nat → EReal)
    (hA : ∀ x : Fin 128, A x = tabA 8 64 C x.val) (hB : ∀ x : Fin 128, B x = tabB 8 64 S x.val)
    (hD : ∀ x : Fin 128, D x = tabD 8 64 S x.val) (l : Nat) :
    tile 8 (ext f) (ext A) (ext B) (ext D) l = rot 8 64 (ext f) C S l := by
  rw [← tile_eq_rot64]
  have hx : l % 128 < 128 := by omega
  simp only [tile, ext, hx, dif_pos, hA, hB, hD]

theorem tile_tables32 {n : Nat} (f : Fin n → EReal) (A B D : Fin 128 → EReal) (C S : Nat → EReal)
    (hA : ∀ x : Fin 128, A x = tabA 4 32 C x.val) (hB : ∀ x : Fin 128, B x = tabB 4 32 S x.val)
    (hD : ∀ x : Fin 128, D x = tabD 4 32 S x.val) (l : Nat) :
    tile 4 (ext f) (ext A) (ext B) (ext D) l = rot 4 32 (ext f) C S l := by
  rw [← tile_eq_rot32]
  have hx : l % 128 < 128 := by omega
  simp only [tile, ext, hx, dif_pos, hA, hB, hD]

/-- The rotation's entry on a head's first, second and remaining lanes. -/
theorem rot_lo {n half dim l : Nat} {f : Fin n → EReal} {C S : Nat → EReal} {a b c d : EReal} (h : l % dim < half)
    (ha : a = ext f l) (hb : b = ext f (l + half)) (hc : c = C (l % dim)) (hd : d = S (l % dim)) :
    a * c - b * d = rot half dim (ext f) C S l := by
  rw [rot, if_pos h, ha, hb, hc, hd]

theorem rot_mid {n half dim l : Nat} {f : Fin n → EReal} {C S : Nat → EReal} {a b c d : EReal} (h : ¬l % dim < half)
    (h' : l % dim - half < half)
    (ha : a = ext f l) (hb : b = ext f (l - half)) (hc : c = C (l % dim - half)) (hd : d = S (l % dim - half)) :
    a * c + b * d = rot half dim (ext f) C S l := by
  rw [rot, if_neg h, if_pos h', ha, hb, hc, hd]

theorem rot_hi {n half dim l : Nat} {f : Fin n → EReal} {C S : Nat → EReal} {a : EReal} (h : ¬l % dim < half)
    (h' : ¬l % dim - half < half) (ha : a = ext f l) : a = rot half dim (ext f) C S l := by
  rw [rot, if_neg h, if_neg h', ha]

theorem dite_of {c : Prop} [Decidable c] {t : EReal} {a : c → EReal} {b : ¬c → EReal} (h : ∀ x, a x = t) (h' : ∀ x, b x = t) :
    (if x : c then a x else b x) = t := by
  split
  · exact h _
  · exact h' _

theorem tile_congr {n half : Nat} {f f' : Fin n → EReal} {A A' B B' D D' : Fin 128 → EReal} (hf : ∀ j, f j = f' j)
    (hA : ∀ x, A x = A' x) (hB : ∀ x, B x = B' x) (hD : ∀ x, D x = D' x) (l : Nat) :
    tile half (ext f) (ext A) (ext B) (ext D) l = tile half (ext f') (ext A') (ext B') (ext D') l := by
  rw [funext hf, funext hA, funext hB, funext hD]

theorem rot_congr {n half dim : Nat} {f f' : Fin n → EReal} {C C' S S' : Nat → EReal} (hf : ∀ j, f j = f' j)
    (hC : ∀ e, C e = C' e) (hS : ∀ e, S e = S' e) (l : Nat) : rot half dim (ext f) C S l = rot half dim (ext f') C' S' l := by
  rw [funext hf, funext hC, funext hS]

/-- The rotation's entry from the entries it reads, lane by lane of the head. -/
theorem rot_of {n half dim l : Nat} (f : Fin n → EReal) (C S : Nat → EReal) (a b b' : Fin n) (e e' : Nat)
    (ha : a.val = l) (hb : l % dim < half → b.val = l + half) (hb' : ¬l % dim < half → l % dim - half < half → b'.val = l - half)
    (he : e = l % dim) (he' : e' = l % dim - half) :
    (if e < half then f a * C e - f b * S e else if e - half < half then f a * C e' + f b' * S e' else f a)
      = rot half dim (ext f) C S l := by
  subst he he'
  unfold rot
  split_ifs with h1 h2
  · rw [ext_eq f a ha, ext_eq f b (hb h1)]
  · rw [ext_eq f a ha, ext_eq f b' (hb' h1 h2)]
  · rw [ext_eq f a ha]

end Cert.Rows
end
-- ==== Proof.InEvenSpec.lean ====
module

public import proofs.«01_k».proof.Proof.Rope

/-! The input projection: each result entry as a function of the token's row, its position, the gain and the weight. -/

@[expose] public section
noncomputable section
open Idealize.ShloMosaic

namespace Cert.InEvenPair

/-- Column `l` of this part, read off a row over the weight's columns. -/
def aCol (f : Fin 2468 → EReal) (l : Fin 512) : EReal :=
  f ⟨l.val, by omega⟩

/-- The projection's entry is the same part of the row of all projections. -/
theorem aCol_proj (x g : Fin 1024 → EReal) (w : Fin 1024 → Fin 2468 → EReal) (l : Fin 512) :
    Cert.Rows.proj x g (fun k => aCol (w k) l) = aCol (fun j => Cert.Rows.proj x g fun k => w k j) l := by
  unfold aCol
  rfl

/-- Column `l` of this part, read off a row over the weight's columns. -/
def qCol (f : Fin 2468 → EReal) (l : Fin 768) : EReal :=
  f ⟨512 + l.val, by omega⟩

/-- The projection's entry is the same part of the row of all projections. -/
theorem qCol_proj (x g : Fin 1024 → EReal) (w : Fin 1024 → Fin 2468 → EReal) (l : Fin 768) :
    Cert.Rows.proj x g (fun k => qCol (w k) l) = qCol (fun j => Cert.Rows.proj x g fun k => w k j) l := by
  unfold qCol
  rfl

/-- Column `l` of this part, read off a row over the weight's columns. -/
def plainCol (f : Fin 2468 → EReal) (l : Fin 768) : EReal :=
  if h0 : l.val < 192 then f ⟨1280 + l.val, by omega⟩ else if h1 : l.val - 192 < 192 then f ⟨1472 + (l.val - 192), by omega⟩ else if h2 : l.val - 192 - 192 < 192 then f ⟨1856 + (l.val - 192 - 192), by omega⟩ else f ⟨2240 + (l.val - 192 - 192 - 192), by omega⟩

/-- The projection's entry is the same part of the row of all projections. -/
theorem plainCol_proj (x g : Fin 1024 → EReal) (w : Fin 1024 → Fin 2468 → EReal) (l : Fin 768) :
    Cert.Rows.proj x g (fun k => plainCol (w k) l) = plainCol (fun j => Cert.Rows.proj x g fun k => w k j) l := by
  unfold plainCol
  split_ifs <;> first | rfl | simp only [Cert.Rows.proj, mul_zero, Finset.sum_const_zero]

/-- Column `l` of this part, read off a row over the weight's columns. -/
def ropeCol (f : Fin 2468 → EReal) (l : Fin 384) : EReal :=
  if h0 : l.val < 192 then f ⟨1664 + l.val, by omega⟩ else f ⟨2048 + (l.val - 192), by omega⟩

/-- The projection's entry is the same part of the row of all projections. -/
theorem ropeCol_proj (x g : Fin 1024 → EReal) (w : Fin 1024 → Fin 2468 → EReal) (l : Fin 384) :
    Cert.Rows.proj x g (fun k => ropeCol (w k) l) = ropeCol (fun j => Cert.Rows.proj x g fun k => w k j) l := by
  unfold ropeCol
  split_ifs <;> first | rfl | simp only [Cert.Rows.proj, mul_zero, Finset.sum_const_zero]

/-- Column `l` of this part, read off a row over the weight's columns. -/
def gateCol (f : Fin 2468 → EReal) (l : Fin 128) : EReal :=
  if h0 : l.val < 36 then f ⟨2432 + l.val, by omega⟩ else 0

/-- The projection's entry is the same part of the row of all projections. -/
theorem gateCol_proj (x g : Fin 1024 → EReal) (w : Fin 1024 → Fin 2468 → EReal) (l : Fin 128) :
    Cert.Rows.proj x g (fun k => gateCol (w k) l) = gateCol (fun j => Cert.Rows.proj x g fun k => w k j) l := by
  unfold gateCol
  split_ifs <;> first | rfl | simp only [Cert.Rows.proj, mul_zero, Finset.sum_const_zero]

/-- One entry of this result. -/
def out9 (x g : Fin 1024 → EReal) (p : BitVec 32) (w : Fin 1024 → Fin 2468 → EReal) (l : Fin 512) : EReal :=
  aCol (fun j => Cert.Rows.proj x g fun k => w k j) l

/-- One entry of this result. -/
def out10 (x g : Fin 1024 → EReal) (p : BitVec 32) (w : Fin 1024 → Fin 2468 → EReal) (l : Fin 768) : EReal :=
  qCol (fun j => Cert.Rows.proj x g fun k => w k j) l

/-- One entry of this result. -/
def out11 (x g : Fin 1024 → EReal) (p : BitVec 32) (w : Fin 1024 → Fin 2468 → EReal) (l : Fin 768) : EReal :=
  Cert.Rows.rot 8 64 (Cert.Rows.ext (qCol (fun j => Cert.Rows.proj x g fun k => w k j)))
    (fun e => Ideal.cos (Cert.Rows.angle 1098907648#32 p e)) (fun e => Ideal.sin (Cert.Rows.angle 1098907648#32 p e)) l.val

/-- One entry of this result. -/
def out12 (x g : Fin 1024 → EReal) (p : BitVec 32) (w : Fin 1024 → Fin 2468 → EReal) (l : Fin 768) : EReal :=
  plainCol (fun j => Cert.Rows.proj x g fun k => w k j) l

/-- One entry of this result. -/
def out13 (x g : Fin 1024 → EReal) (p : BitVec 32) (w : Fin 1024 → Fin 2468 → EReal) (l : Fin 384) : EReal :=
  Cert.Rows.rot 8 64 (Cert.Rows.ext (ropeCol (fun j => Cert.Rows.proj x g fun k => w k j)))
    (fun e => Ideal.cos (Cert.Rows.angle 1098907648#32 p e)) (fun e => Ideal.sin (Cert.Rows.angle 1098907648#32 p e)) l.val

/-- One entry of this result. -/
def out14 (x g : Fin 1024 → EReal) (p : BitVec 32) (w : Fin 1024 → Fin 2468 → EReal) (l : Fin 128) : EReal :=
  Ideal.logistic (gateCol (fun j => Cert.Rows.proj x g fun k => w k j) l)

end Cert.InEvenPair
end
-- ==== Proof.InEvenRows.lean ====
module

public import proofs.«01_k».proof.Defs
public import proofs.«01_k».proof.Proof.Gen.InEvenIdeal.Value
public import proofs.«01_k».proof.Proof.InEvenSpec
public import Idealize.ShloMosaic.Lib.Pointwise
public import Idealize.ShloMosaic.Lib.Claim
public import Idealize.ShloMosaic.Lib.StableHlo.ReadAt

/-! The input projection's kernel: what each of its result arrays holds after the run. -/

@[expose] public section
noncomputable section
open Idealize.ShloMosaic Idealize.ShloMosaic.TcCoe Idealize.SL.Sem
open Idealize.ShloMosaic.Pipeline (Dat)

namespace Cert.InEvenIdeal.Rows
open Cert.InEvenIdeal Cert.InEvenIdeal.Gen Cert.InEvenPair

theorem hz : (![0, 0] : Fin 2 → Nat) = fun _ => 0 := funext fun a => by fin_cases a <;> rfl

theorem pay3_apply (x : Vec Ideal S512x1024 .f32) (g : Vec Ideal S1x1024 .f32) (r : Fin 512) (l : Fin 1024) :
    k0_pay3 x g (ix2 r l) = Cert.Rows.rms (fun k => x (ix2 r k)) (fun k => g (ix2 0 k)) l := by
  pointwise [k0_pay3]
  rfl

theorem ld_0 (x : Vec Ideal S3x512x128 .f32) (r : Fin 512) (l : Fin 128) : View.ld x r0_6 (ix3 0 r l) = x (ix3 0 r l) := by
  show x (r0_6.idx (ix3 0 r l)) = _
  congr 1
  funext a
  apply Fin.ext
  match a with
  | ⟨0, _⟩ => rfl
  | ⟨1, _⟩ => show 0 + 1 * r.val = r.val; omega
  | ⟨2, _⟩ => show 0 + 1 * l.val = l.val; omega

theorem ld_1 (x : Vec Ideal S3x512x128 .f32) (r : Fin 512) (l : Fin 128) : View.ld x r0_7 (ix3 0 r l) = x (ix3 1 r l) := by
  show x (r0_7.idx (ix3 0 r l)) = _
  congr 1
  funext a
  apply Fin.ext
  match a with
  | ⟨0, _⟩ => rfl
  | ⟨1, _⟩ => show 0 + 1 * r.val = r.val; omega
  | ⟨2, _⟩ => show 0 + 1 * l.val = l.val; omega

theorem ld_2 (x : Vec Ideal S3x512x128 .f32) (r : Fin 512) (l : Fin 128) : View.ld x r0_8 (ix3 0 r l) = x (ix3 2 r l) := by
  show x (r0_8.idx (ix3 0 r l)) = _
  congr 1
  funext a
  apply Fin.ext
  match a with
  | ⟨0, _⟩ => rfl
  | ⟨1, _⟩ => show 0 + 1 * r.val = r.val; omega
  | ⟨2, _⟩ => show 0 + 1 * l.val = l.val; omega

theorem pay4_apply (x : Vec Ideal S512x1024 .f32) (g : Vec Ideal S1x1024 .f32) (w : Vec Ideal S1024x512 .bf16) (r : Fin 512) (l : Fin 512) :
    k0_pay4 x g w (ix2 r l) = Cert.Rows.proj (fun k => x (ix2 r k)) (fun k => g (ix2 0 k)) (fun k => w (ix2 k l)) := by
  pointwise [k0_pay4]
  simp only [pay3_apply]
  rfl

theorem pay5_apply (x : Vec Ideal S512x1024 .f32) (g : Vec Ideal S1x1024 .f32) (w : Vec Ideal S1024x768 .bf16) (r : Fin 512) (l : Fin 768) :
    k0_pay5 x g w (ix2 r l) = Cert.Rows.proj (fun k => x (ix2 r k)) (fun k => g (ix2 0 k)) (fun k => w (ix2 k l)) := by
  pointwise [k0_pay5]
  simp only [pay3_apply]
  rfl

theorem pay11_apply (x : Vec Ideal S512x1024 .f32) (g : Vec Ideal S1x1024 .f32) (w : Vec Ideal S1024x768 .bf16) (r : Fin 512) (l : Fin 768) :
    k0_pay11 (k0_pay3 x g) w (ix2 r l) = Cert.Rows.proj (fun k => x (ix2 r k)) (fun k => g (ix2 0 k)) (fun k => w (ix2 k l)) := by
  pointwise [k0_pay11]
  simp only [pay3_apply]
  rfl

theorem pay12_apply (x : Vec Ideal S512x1024 .f32) (g : Vec Ideal S1x1024 .f32) (w : Vec Ideal S1024x384 .bf16) (r : Fin 512) (l : Fin 384) :
    k0_pay12 (k0_pay3 x g) w (ix2 r l) = Cert.Rows.proj (fun k => x (ix2 r k)) (fun k => g (ix2 0 k)) (fun k => w (ix2 k l)) := by
  pointwise [k0_pay12]
  simp only [pay3_apply]
  rfl

theorem pay2_apply (x : Vec Ideal S512x1024 .f32) (g : Vec Ideal S1x1024 .f32) (w : Vec Ideal S1024x128 .bf16) (r : Fin 512) (l : Fin 128) :
    k0_pay2 (k0_pay3 x g) w (ix2 r l) = Ideal.logistic (Cert.Rows.proj (fun k => x (ix2 r k)) (fun k => g (ix2 0 k)) (fun k => w (ix2 k l))) := by
  pointwise [k0_pay2]
  simp only [pay3_apply]
  rfl

theorem rotated11 {x0 x1 x5} (A B D : Vec Ideal S1x512x128 .f32) (r : Fin 512) (l : Fin 768) :
    k0_pay10 (F := Ideal) (k0_pay5 x0 x1 x5) (k0_pay6 A) (k0_pay7 B) (k0_pay8 D) (k0_pay9 x0 x1 x5) (ix2 r l)
      = Cert.Rows.tile 8 (Cert.Rows.ext fun j => k0_pay5 x0 x1 x5 (ix2 r j)) (Cert.Rows.ext fun x => A (ix3 0 r x))
        (Cert.Rows.ext fun x => B (ix3 0 r x)) (Cert.Rows.ext fun x => D (ix3 0 r x)) l.val := by
  unfold k0_pay9
  generalize k0_pay5 x0 x1 x5 = z
  pointwise [k0_pay10, k0_pay6, k0_pay7, k0_pay8]
  have := l.isLt
  split_ifs <;> exact Cert.Rows.tile_of (fun j => z (ix2 r j)) (fun x => A (ix3 0 r x)) (fun x => B (ix3 0 r x)) (fun x => D (ix3 0 r x))
    _ _ _ _ _ _ (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega)

theorem rotated13 (v15 : FVec Ideal S512x1024 .bf16) (x7 : Vec Ideal S1024x384 .bf16) (A B D : Vec Ideal S1x512x128 .f32) (r : Fin 512) (l : Fin 384) :
    k0_pay1 (k0_pay13 A) (k0_pay14 B) (k0_pay15 D) (k0_pay16 v15 x7 A B D) (k0_pay17 v15 x7 A B D) (k0_pay18 v15 x7) (k0_pay19 v15 x7) (k0_pay20 v15 x7) (ix2 r l)
      = Cert.Rows.tile 8 (Cert.Rows.ext fun j => k0_pay12 v15 x7 (ix2 r j)) (Cert.Rows.ext fun x => A (ix3 0 r x))
        (Cert.Rows.ext fun x => B (ix3 0 r x)) (Cert.Rows.ext fun x => D (ix3 0 r x)) l.val := by
  unfold k0_pay16 k0_pay17 k0_pay19 k0_pay20 k0_pay18
  generalize k0_pay12 v15 x7 = z
  pointwise [k0_pay1, k0_pay13, k0_pay14, k0_pay15]
  have := l.isLt
  split_ifs <;> exact Cert.Rows.tile_of (fun j => z (ix2 r j)) (fun x => A (ix3 0 r x)) (fun x => B (ix3 0 r x)) (fun x => D (ix3 0 r x))
    _ _ _ _ _ _ (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega)

theorem out9_apply (x0 : Vec Ideal S512x1024 .f32) (x1 : Vec Ideal S1x1024 .f32) (x2 x3 : Vec Ideal S3x512x128 .f32) (x4 : Vec Ideal S1024x512 .bf16) (x5 x6 : Vec Ideal S1024x768 .bf16) (x7 : Vec Ideal S1024x384 .bf16) (x8 : Vec Ideal S1024x128 .bf16) (r : Fin 512) (l : Fin 512) :
    out0_9 x0 x1 x2 x3 x4 x5 x6 x7 x8 (ix2 r l) = Cert.Rows.proj (fun k => x0 (ix2 r k)) (fun k => x1 (ix2 0 k)) (fun k => x4 (ix2 k l)) := by
  unfold_out out0_9
  rw [View.canon_unit_zero hz, View.ld_unit_zero hz, View.ld_unit_zero hz, View.ld_unit_zero hz]
  exact pay4_apply _ _ _ r l

theorem out10_apply (x0 : Vec Ideal S512x1024 .f32) (x1 : Vec Ideal S1x1024 .f32) (x2 x3 : Vec Ideal S3x512x128 .f32) (x4 : Vec Ideal S1024x512 .bf16) (x5 x6 : Vec Ideal S1024x768 .bf16) (x7 : Vec Ideal S1024x384 .bf16) (x8 : Vec Ideal S1024x128 .bf16) (r : Fin 512) (l : Fin 768) :
    out0_10 x0 x1 x2 x3 x4 x5 x6 x7 x8 (ix2 r l) = Cert.Rows.proj (fun k => x0 (ix2 r k)) (fun k => x1 (ix2 0 k)) (fun k => x5 (ix2 k l)) := by
  unfold_out out0_10
  rw [View.canon_unit_zero hz, View.ld_unit_zero hz, View.ld_unit_zero hz, View.ld_unit_zero hz]
  exact pay5_apply _ _ _ r l

theorem out11_apply (x0 : Vec Ideal S512x1024 .f32) (x1 : Vec Ideal S1x1024 .f32) (x2 x3 : Vec Ideal S3x512x128 .f32) (x4 : Vec Ideal S1024x512 .bf16) (x5 x6 : Vec Ideal S1024x768 .bf16) (x7 : Vec Ideal S1024x384 .bf16) (x8 : Vec Ideal S1024x128 .bf16) (r : Fin 512) (l : Fin 768) :
    out0_11 x0 x1 x2 x3 x4 x5 x6 x7 x8 (ix2 r l) = Cert.Rows.tile 8 (Cert.Rows.ext fun j => Cert.Rows.proj (fun k => x0 (ix2 r k)) (fun k => x1 (ix2 0 k)) (fun k => x5 (ix2 k j))) (Cert.Rows.ext fun x => x2 (ix3 0 r x)) (Cert.Rows.ext fun x => x2 (ix3 1 r x)) (Cert.Rows.ext fun x => x2 (ix3 2 r x)) l.val := by
  unfold_out out0_11
  rw [View.canon_unit_zero hz, View.ld_unit_zero hz, View.ld_unit_zero hz, View.ld_unit_zero hz]
  exact (rotated11 _ _ _ r l).trans (Cert.Rows.tile_congr (fun j => pay5_apply _ _ _ r j) (fun x => ld_0 _ r x) (fun x => ld_1 _ r x) (fun x => ld_2 _ r x) _)

theorem out12_apply (x0 : Vec Ideal S512x1024 .f32) (x1 : Vec Ideal S1x1024 .f32) (x2 x3 : Vec Ideal S3x512x128 .f32) (x4 : Vec Ideal S1024x512 .bf16) (x5 x6 : Vec Ideal S1024x768 .bf16) (x7 : Vec Ideal S1024x384 .bf16) (x8 : Vec Ideal S1024x128 .bf16) (r : Fin 512) (l : Fin 768) :
    out0_12 x0 x1 x2 x3 x4 x5 x6 x7 x8 (ix2 r l) = Cert.Rows.proj (fun k => x0 (ix2 r k)) (fun k => x1 (ix2 0 k)) (fun k => x6 (ix2 k l)) := by
  unfold_out out0_12
  rw [View.canon_unit_zero hz, View.ld_unit_zero hz, View.ld_unit_zero hz, View.ld_unit_zero hz]
  exact pay11_apply _ _ _ r l

theorem out13_apply (x0 : Vec Ideal S512x1024 .f32) (x1 : Vec Ideal S1x1024 .f32) (x2 x3 : Vec Ideal S3x512x128 .f32) (x4 : Vec Ideal S1024x512 .bf16) (x5 x6 : Vec Ideal S1024x768 .bf16) (x7 : Vec Ideal S1024x384 .bf16) (x8 : Vec Ideal S1024x128 .bf16) (r : Fin 512) (l : Fin 384) :
    out0_13 x0 x1 x2 x3 x4 x5 x6 x7 x8 (ix2 r l) = Cert.Rows.tile 8 (Cert.Rows.ext fun j => Cert.Rows.proj (fun k => x0 (ix2 r k)) (fun k => x1 (ix2 0 k)) (fun k => x7 (ix2 k j))) (Cert.Rows.ext fun x => x2 (ix3 0 r x)) (Cert.Rows.ext fun x => x2 (ix3 1 r x)) (Cert.Rows.ext fun x => x2 (ix3 2 r x)) l.val := by
  unfold_out out0_13
  rw [View.canon_unit_zero hz, View.ld_unit_zero hz, View.ld_unit_zero hz, View.ld_unit_zero hz]
  exact (rotated13 _ _ _ _ _ r l).trans (Cert.Rows.tile_congr (fun j => pay12_apply _ _ _ r j) (fun x => ld_0 _ r x) (fun x => ld_1 _ r x) (fun x => ld_2 _ r x) _)

theorem out14_apply (x0 : Vec Ideal S512x1024 .f32) (x1 : Vec Ideal S1x1024 .f32) (x2 x3 : Vec Ideal S3x512x128 .f32) (x4 : Vec Ideal S1024x512 .bf16) (x5 x6 : Vec Ideal S1024x768 .bf16) (x7 : Vec Ideal S1024x384 .bf16) (x8 : Vec Ideal S1024x128 .bf16) (r : Fin 512) (l : Fin 128) :
    out0_14 x0 x1 x2 x3 x4 x5 x6 x7 x8 (ix2 r l) = Ideal.logistic (Cert.Rows.proj (fun k => x0 (ix2 r k)) (fun k => x1 (ix2 0 k)) (fun k => x8 (ix2 k l))) := by
  unfold_out out0_14
  rw [View.canon_unit_zero hz, View.ld_unit_zero hz, View.ld_unit_zero hz, View.ld_unit_zero hz]
  exact pay2_apply _ _ _ r l

end Cert.InEvenIdeal.Rows
end
-- ==== Proof.InEvenReads.lean ====
module

public import proofs.«01_k».proof.Defs
public import proofs.«01_k».proof.Proof.Gen.InEvenIdeal.Value
public import proofs.«01_k».proof.Proof.InEvenSpec
public import Idealize.ShloMosaic.Lib.Pointwise
public import Idealize.ShloMosaic.Lib.Claim
public import Idealize.ShloMosaic.Lib.StableHlo.ReadAt

/-! The input projection's kernel: what each of its result arrays holds after the run. -/

@[expose] public section
noncomputable section
open Idealize.ShloMosaic Idealize.ShloMosaic.TcCoe Idealize.SL.Sem
open Idealize.ShloMosaic.Pipeline (Dat)

namespace Cert.InEvenIdeal.Rows
open Cert.InEvenIdeal Cert.InEvenIdeal.Gen Cert.InEvenPair

variable (m : (ℓ : Loc nD τ sig) → Buf (Elt Ideal) ℓ) (ρ : Dev nD → PrngReg)

theorem V_gain (c : Dev nD) (r : Fin 1) (l : Fin 1024) : V m c main_v88 (ix2 r l) = m ((c : Thread nD τ).loc main_arg2) (ix1 l) := by
  unfold V
  after_reads_simp
  pointwise

set_option maxHeartbeats 4000000 in
theorem V_a (c : Dev nD) (r : Fin 1024) (l : Fin 512) :
    V m c main_v89 (ix2 r l) = aCol (fun j => m ((c : Thread nD τ).loc main_arg3) (ix2 r j)) l := by
  unfold V
  after_reads_simp
  pointwise
  unfold aCol
  rfl

set_option maxHeartbeats 4000000 in
theorem V_q (c : Dev nD) (r : Fin 1024) (l : Fin 768) :
    V m c main_v90 (ix2 r l) = qCol (fun j => m ((c : Thread nD τ).loc main_arg3) (ix2 r j)) l := by
  unfold V
  after_reads_simp
  pointwise
  unfold qCol
  rfl

set_option maxHeartbeats 4000000 in
theorem V_plain (c : Dev nD) (r : Fin 1024) (l : Fin 768) :
    V m c main_v91 (ix2 r l) = plainCol (fun j => m ((c : Thread nD τ).loc main_arg3) (ix2 r j)) l := by
  unfold V
  after_reads_simp
  pointwise
  after_reads_simp
  pointwise
  unfold plainCol
  split_ifs <;> rfl

set_option maxHeartbeats 4000000 in
theorem V_rope (c : Dev nD) (r : Fin 1024) (l : Fin 384) :
    V m c main_v92 (ix2 r l) = ropeCol (fun j => m ((c : Thread nD τ).loc main_arg3) (ix2 r j)) l := by
  unfold V
  after_reads_simp
  pointwise
  after_reads_simp
  pointwise
  unfold ropeCol
  split_ifs <;> rfl

set_option maxHeartbeats 4000000 in
theorem V_gate (c : Dev nD) (r : Fin 1024) (l : Fin 128) :
    V m c main_v93 (ix2 r l) = gateCol (fun j => m ((c : Thread nD τ).loc main_arg3) (ix2 r j)) l := by
  unfold V
  after_reads_at
  unfold gateCol
  split_ifs <;> first | rfl | (show ((((0#32 : BitVec 32).toInt : ℝ)) : EReal) = 0; simp)

set_option maxHeartbeats 4000000 in
set_option maxRecDepth 8192 in
theorem V_table64_0 (c : Dev nD) (r : Fin 32768) (l : Fin 128) :
    V m c main_v37 (ix3 0 r l) = Cert.Rows.tabA 8 64
      (fun e => Ideal.cos (Cert.Rows.angle 1098907648#32 (m ((c : Thread nD τ).loc main_arg1) (ix2 ⟨r.val / 2048, by omega⟩ ⟨r.val % 2048, by omega⟩)) e)) l.val := by
  unfold V
  after_reads_simp
  pointwise
  after_reads_simp
  pointwise
  after_reads_simp
  pointwise
  unfold Cert.Rows.tabA
  split_ifs <;> rfl

set_option maxHeartbeats 4000000 in
set_option maxRecDepth 8192 in
theorem V_table64_1 (c : Dev nD) (r : Fin 32768) (l : Fin 128) :
    V m c main_v37 (ix3 1 r l) = Cert.Rows.tabB 8 64
      (fun e => Ideal.sin (Cert.Rows.angle 1098907648#32 (m ((c : Thread nD τ).loc main_arg1) (ix2 ⟨r.val / 2048, by omega⟩ ⟨r.val % 2048, by omega⟩)) e)) l.val := by
  unfold V
  after_reads_simp
  pointwise
  after_reads_simp
  pointwise
  after_reads_simp
  pointwise
  unfold Cert.Rows.tabB
  split_ifs <;> rfl

set_option maxHeartbeats 4000000 in
set_option maxRecDepth 8192 in
theorem V_table64_2 (c : Dev nD) (r : Fin 32768) (l : Fin 128) :
    V m c main_v37 (ix3 2 r l) = Cert.Rows.tabD 8 64
      (fun e => Ideal.sin (Cert.Rows.angle 1098907648#32 (m ((c : Thread nD τ).loc main_arg1) (ix2 ⟨r.val / 2048, by omega⟩ ⟨r.val % 2048, by omega⟩)) e)) l.val := by
  unfold V
  after_reads_simp
  pointwise
  after_reads_simp
  pointwise
  after_reads_simp
  pointwise
  unfold Cert.Rows.tabD
  split_ifs <;> rfl

end Cert.InEvenIdeal.Rows
end
-- ==== Proof.InEvenBlocks.lean ====
module

public import proofs.«01_k».proof.Defs
public import proofs.«01_k».proof.Proof.InEvenRows
public import proofs.«01_k».proof.Proof.InEvenReads
public import proofs.«01_k».proof.Proof.Gen.InEvenIdeal.Value
public import proofs.«01_k».proof.Proof.InEvenSpec
public import Idealize.ShloMosaic.Lib.Pointwise
public import Idealize.ShloMosaic.Lib.Claim
public import Idealize.ShloMosaic.Lib.StableHlo.ReadAt

/-! The input projection's kernel: what each of its result arrays holds after the run. -/

@[expose] public section
noncomputable section
open Idealize.ShloMosaic Idealize.ShloMosaic.TcCoe Idealize.SL.Sem
open Idealize.ShloMosaic.Pipeline (Dat)

namespace Cert.InEvenIdeal.Rows
open Cert.InEvenIdeal Cert.InEvenIdeal.Gen Cert.InEvenPair

variable (m : (ℓ : Loc nD τ sig) → Buf (Elt Ideal) ℓ) (ρ : Dev nD → PrngReg)

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = 0 ∧ win0_8.index t 1 = 0 := by decide +kernel
theorem idx9 : ∀ t : Fin grid0.N, win0_9.index t 0 = t.val ∧ win0_9.index t 1 = 0 := by decide +kernel
theorem idx10 : ∀ t : Fin grid0.N, win0_10.index t 0 = t.val ∧ win0_10.index t 1 = 0 := by decide +kernel
theorem idx11 : ∀ t : Fin grid0.N, win0_11.index t 0 = t.val ∧ win0_11.index t 1 = 0 := by decide +kernel
theorem idx12 : ∀ t : Fin grid0.N, win0_12.index t 0 = t.val ∧ win0_12.index t 1 = 0 := by decide +kernel
theorem idx13 : ∀ t : Fin grid0.N, win0_13.index t 0 = t.val ∧ win0_13.index t 1 = 0 := by decide +kernel
theorem idx14 : ∀ t : Fin grid0.N, win0_14.index t 0 = t.val ∧ win0_14.index t 1 = 0 := by decide +kernel

/-- Row `r` of block `t` is a row of the array. -/
abbrev row (t : Fin cfg0.N) (r : Fin 512) : Fin 32768 :=
  ⟨t.val * 512 + r.val, by have := t.isLt; have : cfg0.N = 64 := N_0; omega⟩

theorem emb0 (t : Fin cfg0.N) (r : Fin 512) (l : Fin 1024) : ((cfg0.win 0).blk t).view.emb (ix2 r l) = ix2 (row t r) l := by
  funext a
  apply Fin.ext
  match a with
  | ⟨0, _⟩ => show win0_0.index t 0 * 512 + 1 * r.val = _; rw [(idx0 t).1, Nat.one_mul]; rfl
  | ⟨1, _⟩ => show win0_0.index t 1 * 1024 + 1 * l.val = _; rw [(idx0 t).2]; show 0 * 1024 + 1 * l.val = l.val; omega

theorem emb1 (t : Fin cfg0.N) (r : Fin 1) (l : Fin 1024) : ((cfg0.win 1).blk t).view.emb (ix2 r l) = ix2 r l := by
  funext a
  apply Fin.ext
  match a with
  | ⟨0, _⟩ => show win0_1.index t 0 * 1 + 1 * r.val = r.val; rw [(idx1 t).1]; omega
  | ⟨1, _⟩ => show win0_1.index t 1 * 1024 + 1 * l.val = _; rw [(idx1 t).2]; show 0 * 1024 + 1 * l.val = l.val; omega

theorem emb4 (t : Fin cfg0.N) (r : Fin 1024) (l : Fin 512) : ((cfg0.win 4).blk t).view.emb (ix2 r l) = ix2 r l := by
  funext a
  apply Fin.ext
  match a with
  | ⟨0, _⟩ => show win0_4.index t 0 * 1024 + 1 * r.val = r.val; rw [(idx4 t).1]; omega
  | ⟨1, _⟩ => show win0_4.index t 1 * 512 + 1 * l.val = _; rw [(idx4 t).2]; show 0 * 512 + 1 * l.val = l.val; omega

theorem emb5 (t : Fin cfg0.N) (r : Fin 1024) (l : Fin 768) : ((cfg0.win 5).blk t).view.emb (ix2 r l) = ix2 r l := by
  funext a
  apply Fin.ext
  match a with
  | ⟨0, _⟩ => show win0_5.index t 0 * 1024 + 1 * r.val = r.val; rw [(idx5 t).1]; omega
  | ⟨1, _⟩ => show win0_5.index t 1 * 768 + 1 * l.val = _; rw [(idx5 t).2]; show 0 * 768 + 1 * l.val = l.val; omega

theorem emb6 (t : Fin cfg0.N) (r : Fin 1024) (l : Fin 768) : ((cfg0.win 6).blk t).view.emb (ix2 r l) = ix2 r l := by
  funext a
  apply Fin.ext
  match a with
  | ⟨0, _⟩ => show win0_6.index t 0 * 1024 + 1 * r.val = r.val; rw [(idx6 t).1]; omega
  | ⟨1, _⟩ => show win0_6.index t 1 * 768 + 1 * l.val = _; rw [(idx6 t).2]; show 0 * 768 + 1 * l.val = l.val; omega

theorem emb7 (t : Fin cfg0.N) (r : Fin 1024) (l : Fin 384) : ((cfg0.win 7).blk t).view.emb (ix2 r l) = ix2 r l := by
  funext a
  apply Fin.ext
  match a with
  | ⟨0, _⟩ => show win0_7.index t 0 * 1024 + 1 * r.val = r.val; rw [(idx7 t).1]; omega
  | ⟨1, _⟩ => show win0_7.index t 1 * 384 + 1 * l.val = _; rw [(idx7 t).2]; show 0 * 384 + 1 * l.val = l.val; omega

theorem emb8 (t : Fin cfg0.N) (r : Fin 1024) (l : Fin 128) : ((cfg0.win 8).blk t).view.emb (ix2 r l) = ix2 r l := by
  funext a
  apply Fin.ext
  match a with
  | ⟨0, _⟩ => show win0_8.index t 0 * 1024 + 1 * r.val = r.val; rw [(idx8 t).1]; omega
  | ⟨1, _⟩ => show win0_8.index t 1 * 128 + 1 * l.val = _; rw [(idx8 t).2]; show 0 * 128 + 1 * l.val = l.val; omega

theorem emb9 (t : Fin cfg0.N) (r : Fin 512) (l : Fin 512) : ((cfg0.win 9).blk t).view.emb (ix2 r l) = ix2 (row t r) l := by
  funext a
  apply Fin.ext
  match a with
  | ⟨0, _⟩ => show win0_9.index t 0 * 512 + 1 * r.val = _; rw [(idx9 t).1, Nat.one_mul]; rfl
  | ⟨1, _⟩ => show win0_9.index t 1 * 512 + 1 * l.val = _; rw [(idx9 t).2]; show 0 * 512 + 1 * l.val = l.val; omega

theorem emb10 (t : Fin cfg0.N) (r : Fin 512) (l : Fin 768) : ((cfg0.win 10).blk t).view.emb (ix2 r l) = ix2 (row t r) l := by
  funext a
  apply Fin.ext
  match a with
  | ⟨0, _⟩ => show win0_10.index t 0 * 512 + 1 * r.val = _; rw [(idx10 t).1, Nat.one_mul]; rfl
  | ⟨1, _⟩ => show win0_10.index t 1 * 768 + 1 * l.val = _; rw [(idx10 t).2]; show 0 * 768 + 1 * l.val = l.val; omega

theorem emb11 (t : Fin cfg0.N) (r : Fin 512) (l : Fin 768) : ((cfg0.win 11).blk t).view.emb (ix2 r l) = ix2 (row t r) l := by
  funext a
  apply Fin.ext
  match a with
  | ⟨0, _⟩ => show win0_11.index t 0 * 512 + 1 * r.val = _; rw [(idx11 t).1, Nat.one_mul]; rfl
  | ⟨1, _⟩ => show win0_11.index t 1 * 768 + 1 * l.val = _; rw [(idx11 t).2]; show 0 * 768 + 1 * l.val = l.val; omega

theorem emb12 (t : Fin cfg0.N) (r : Fin 512) (l : Fin 768) : ((cfg0.win 12).blk t).view.emb (ix2 r l) = ix2 (row t r) l := by
  funext a
  apply Fin.ext
  match a with
  | ⟨0, _⟩ => show win0_12.index t 0 * 512 + 1 * r.val = _; rw [(idx12 t).1, Nat.one_mul]; rfl
  | ⟨1, _⟩ => show win0_12.index t 1 * 768 + 1 * l.val = _; rw [(idx12 t).2]; show 0 * 768 + 1 * l.val = l.val; omega

theorem emb13 (t : Fin cfg0.N) (r : Fin 512) (l : Fin 384) : ((cfg0.win 13).blk t).view.emb (ix2 r l) = ix2 (row t r) l := by
  funext a
  apply Fin.ext
  match a with
  | ⟨0, _⟩ => show win0_13.index t 0 * 512 + 1 * r.val = _; rw [(idx13 t).1, Nat.one_mul]; rfl
  | ⟨1, _⟩ => show win0_13.index t 1 * 384 + 1 * l.val = _; rw [(idx13 t).2]; show 0 * 384 + 1 * l.val = l.val; omega

theorem emb14 (t : Fin cfg0.N) (r : Fin 512) (l : Fin 128) : ((cfg0.win 14).blk t).view.emb (ix2 r l) = ix2 (row t r) l := by
  funext a
  apply Fin.ext
  match a with
  | ⟨0, _⟩ => show win0_14.index t 0 * 512 + 1 * r.val = _; rw [(idx14 t).1, Nat.one_mul]; rfl
  | ⟨1, _⟩ => show win0_14.index t 1 * 128 + 1 * l.val = _; rw [(idx14 t).2]; show 0 * 128 + 1 * l.val = l.val; omega

theorem idx2 : ∀ t : Fin grid0.N, win0_2.index t 0 = 0 ∧ win0_2.index t 1 = t.val ∧ win0_2.index t 2 = 0 := by decide +kernel

theorem emb2 (t : Fin cfg0.N) (z : Fin 3) (r : Fin 512) (l : Fin 128) : ((cfg0.win 2).blk t).view.emb (ix3 z r l) = ix3 z (row t r) l := by
  funext a
  apply Fin.ext
  match a with
  | ⟨0, _⟩ => show win0_2.index t 0 * 3 + 1 * z.val = z.val; rw [(idx2 t).1]; omega
  | ⟨1, _⟩ => show win0_2.index t 1 * 512 + 1 * r.val = _; rw [(idx2 t).2.1, Nat.one_mul]; rfl
  | ⟨2, _⟩ => show win0_2.index t 2 * 128 + 1 * l.val = l.val; rw [(idx2 t).2.2]; omega

theorem b0 (c : Dev nD) (t : Fin cfg0.N) (r : Fin 512) (l : Fin 1024) :
    iblk m c 0 t (ix2 r l) = m ((c : Thread nD τ).loc main_arg0) (ix2 (row t r) l) := by
  unfold iblk
  rw [View.read_apply, emb0]
  show V m c main_arg0 _ = _
  rw [V_main_arg0]

theorem b1 (c : Dev nD) (t : Fin cfg0.N) (r : Fin 1) (l : Fin 1024) :
    iblk m c 1 t (ix2 r l) = m ((c : Thread nD τ).loc main_arg2) (ix1 l) := by
  unfold iblk
  rw [View.read_apply, emb1]
  exact V_gain m c r l

theorem b4 (c : Dev nD) (t : Fin cfg0.N) (r : Fin 1024) (l : Fin 512) :
    iblk m c 4 t (ix2 r l) = aCol (fun j => m ((c : Thread nD τ).loc main_arg3) (ix2 r j)) l := by
  unfold iblk
  rw [View.read_apply, emb4]
  exact V_a m c r l

theorem b5 (c : Dev nD) (t : Fin cfg0.N) (r : Fin 1024) (l : Fin 768) :
    iblk m c 5 t (ix2 r l) = qCol (fun j => m ((c : Thread nD τ).loc main_arg3) (ix2 r j)) l := by
  unfold iblk
  rw [View.read_apply, emb5]
  exact V_q m c r l

theorem b6 (c : Dev nD) (t : Fin cfg0.N) (r : Fin 1024) (l : Fin 768) :
    iblk m c 6 t (ix2 r l) = plainCol (fun j => m ((c : Thread nD τ).loc main_arg3) (ix2 r j)) l := by
  unfold iblk
  rw [View.read_apply, emb6]
  exact V_plain m c r l

theorem b7 (c : Dev nD) (t : Fin cfg0.N) (r : Fin 1024) (l : Fin 384) :
    iblk m c 7 t (ix2 r l) = ropeCol (fun j => m ((c : Thread nD τ).loc main_arg3) (ix2 r j)) l := by
  unfold iblk
  rw [View.read_apply, emb7]
  exact V_rope m c r l

theorem b8 (c : Dev nD) (t : Fin cfg0.N) (r : Fin 1024) (l : Fin 128) :
    iblk m c 8 t (ix2 r l) = gateCol (fun j => m ((c : Thread nD τ).loc main_arg3) (ix2 r j)) l := by
  unfold iblk
  rw [View.read_apply, emb8]
  exact V_gate m c r l

theorem b2_0 (c : Dev nD) (t : Fin cfg0.N) (r : Fin 512) (l : Fin 128) :
    iblk m c 2 t (ix3 0 r l) = Cert.Rows.tabA 8 64
      (fun e => Ideal.cos (Cert.Rows.angle 1098907648#32 (m ((c : Thread nD τ).loc main_arg1) (ix2 ⟨(row t r).val / 2048, by have := (row t r).isLt; omega⟩ ⟨(row t r).val % 2048, by omega⟩)) e)) l.val := by
  unfold iblk
  rw [View.read_apply, emb2]
  exact V_table64_0 m c (row t r) l

theorem b2_1 (c : Dev nD) (t : Fin cfg0.N) (r : Fin 512) (l : Fin 128) :
    iblk m c 2 t (ix3 1 r l) = Cert.Rows.tabB 8 64
      (fun e => Ideal.sin (Cert.Rows.angle 1098907648#32 (m ((c : Thread nD τ).loc main_arg1) (ix2 ⟨(row t r).val / 2048, by have := (row t r).isLt; omega⟩ ⟨(row t r).val % 2048, by omega⟩)) e)) l.val := by
  unfold iblk
  rw [View.read_apply, emb2]
  exact V_table64_1 m c (row t r) l

theorem b2_2 (c : Dev nD) (t : Fin cfg0.N) (r : Fin 512) (l : Fin 128) :
    iblk m c 2 t (ix3 2 r l) = Cert.Rows.tabD 8 64
      (fun e => Ideal.sin (Cert.Rows.angle 1098907648#32 (m ((c : Thread nD τ).loc main_arg1) (ix2 ⟨(row t r).val / 2048, by have := (row t r).isLt; omega⟩ ⟨(row t r).val % 2048, by omega⟩)) e)) l.val := by
  unfold iblk
  rw [View.read_apply, emb2]
  exact V_table64_2 m c (row t r) l

/-- Result 0: every entry as the row function of the token's row. -/
def G9 (c : Dev nD) : Buf (Elt Ideal) ((c : Thread nD τ).loc main_v94_0) := fun i =>
  out9 (fun k => m ((c : Thread nD τ).loc main_arg0) (ix2 (i 0) k)) (fun k => m ((c : Thread nD τ).loc main_arg2) (ix1 k))
    (m ((c : Thread nD τ).loc main_arg1) (ix2 ⟨(i 0).val / 2048, by have : (i 0).val < 32768 := (i 0).isLt; omega⟩ ⟨(i 0).val % 2048, by omega⟩))
    (fun k j => m ((c : Thread nD τ).loc main_arg3) (ix2 k j)) (i 1)

theorem flushed_eq9 (c : Dev nD) (t : Fin cfg0.N) : (dats m 0 c).flushed 9 t = ((cfg0.win 9).blk t).view.read (Elt Ideal) (G9 m c) := by
  rw [Value.flushed9]
  funext j
  obtain ⟨r, l, rfl⟩ : ∃ (r : Fin 512) (l : Fin 512), j = ix2 r l := ⟨j 0, j 1, eq_ix2 j⟩
  rw [View.read_apply, emb9]
  refine (out9_apply _ _ _ _ _ _ _ _ _ r l).trans ?_
  simp only [b0, b1, b4, aCol_proj]
  rfl

theorem cover9 (i : S32768x512.Idx) : ∃ t : Fin cfg0.N, (cfg0.win 9).flush t = true ∧ i ∈ ((cfg0.win 9).blk t).view.set := by
  have h0 : (i 0 : Nat) < 32768 := (i 0).isLt
  have hN : cfg0.N = 64 := N_0
  refine ⟨⟨(i 0 : Nat) / 512, by omega⟩, flush0_9 _, ?_⟩
  have e := emb9 ⟨(i 0 : Nat) / 512, by omega⟩ ⟨(i 0 : Nat) % 512, by omega⟩ (i 1)
  refine Finset.mem_map.mpr ⟨_, Finset.mem_univ _, e.trans ?_⟩
  refine Eq.trans ?_ (eq_ix2 i).symm
  congr 1
  apply Fin.ext
  show (i 0 : Nat) / 512 * 512 + (i 0 : Nat) % 512 = (i 0 : Nat)
  omega

theorem final9 (c : Dev nD) : (dats m 0 c).arrAt 9 cfg0.N = G9 m c :=
  (dats m 0 c).arrAt_eq_of_cover 9 (G9 m c) (fun t _ => flushed_eq9 m c t) cover9

/-- Result 1: every entry as the row function of the token's row. -/
def G10 (c : Dev nD) : Buf (Elt Ideal) ((c : Thread nD τ).loc main_v94_1) := fun i =>
  out10 (fun k => m ((c : Thread nD τ).loc main_arg0) (ix2 (i 0) k)) (fun k => m ((c : Thread nD τ).loc main_arg2) (ix1 k))
    (m ((c : Thread nD τ).loc main_arg1) (ix2 ⟨(i 0).val / 2048, by have : (i 0).val < 32768 := (i 0).isLt; omega⟩ ⟨(i 0).val % 2048, by omega⟩))
    (fun k j => m ((c : Thread nD τ).loc main_arg3) (ix2 k j)) (i 1)

theorem flushed_eq10 (c : Dev nD) (t : Fin cfg0.N) : (dats m 0 c).flushed 10 t = ((cfg0.win 10).blk t).view.read (Elt Ideal) (G10 m c) := by
  rw [Value.flushed10]
  funext j
  obtain ⟨r, l, rfl⟩ : ∃ (r : Fin 512) (l : Fin 768), j = ix2 r l := ⟨j 0, j 1, eq_ix2 j⟩
  rw [View.read_apply, emb10]
  refine (out10_apply _ _ _ _ _ _ _ _ _ r l).trans ?_
  simp only [b0, b1, b5, qCol_proj]
  rfl

theorem cover10 (i : S32768x768.Idx) : ∃ t : Fin cfg0.N, (cfg0.win 10).flush t = true ∧ i ∈ ((cfg0.win 10).blk t).view.set := by
  have h0 : (i 0 : Nat) < 32768 := (i 0).isLt
  have hN : cfg0.N = 64 := N_0
  refine ⟨⟨(i 0 : Nat) / 512, by omega⟩, flush0_10 _, ?_⟩
  have e := emb10 ⟨(i 0 : Nat) / 512, by omega⟩ ⟨(i 0 : Nat) % 512, by omega⟩ (i 1)
  refine Finset.mem_map.mpr ⟨_, Finset.mem_univ _, e.trans ?_⟩
  refine Eq.trans ?_ (eq_ix2 i).symm
  congr 1
  apply Fin.ext
  show (i 0 : Nat) / 512 * 512 + (i 0 : Nat) % 512 = (i 0 : Nat)
  omega

theorem final10 (c : Dev nD) : (dats m 0 c).arrAt 10 cfg0.N = G10 m c :=
  (dats m 0 c).arrAt_eq_of_cover 10 (G10 m c) (fun t _ => flushed_eq10 m c t) cover10

/-- Result 2: every entry as the row function of the token's row. -/
def G11 (c : Dev nD) : Buf (Elt Ideal) ((c : Thread nD τ).loc main_v94_2) := fun i =>
  out11 (fun k => m ((c : Thread nD τ).loc main_arg0) (ix2 (i 0) k)) (fun k => m ((c : Thread nD τ).loc main_arg2) (ix1 k))
    (m ((c : Thread nD τ).loc main_arg1) (ix2 ⟨(i 0).val / 2048, by have : (i 0).val < 32768 := (i 0).isLt; omega⟩ ⟨(i 0).val % 2048, by omega⟩))
    (fun k j => m ((c : Thread nD τ).loc main_arg3) (ix2 k j)) (i 1)

theorem flushed_eq11 (c : Dev nD) (t : Fin cfg0.N) : (dats m 0 c).flushed 11 t = ((cfg0.win 11).blk t).view.read (Elt Ideal) (G11 m c) := by
  rw [Value.flushed11]
  funext j
  obtain ⟨r, l, rfl⟩ : ∃ (r : Fin 512) (l : Fin 768), j = ix2 r l := ⟨j 0, j 1, eq_ix2 j⟩
  rw [View.read_apply, emb11]
  refine (out11_apply _ _ _ _ _ _ _ _ _ r l).trans ?_
  refine (Cert.Rows.tile_tables64 _ _ _ _ _ _ (fun x => b2_0 m c t r x) (fun x => b2_1 m c t r x) (fun x => b2_2 m c t r x) l.val).trans ?_
  simp only [b0, b1, b5, qCol_proj]
  rfl

theorem cover11 (i : S32768x768.Idx) : ∃ t : Fin cfg0.N, (cfg0.win 11).flush t = true ∧ i ∈ ((cfg0.win 11).blk t).view.set := by
  have h0 : (i 0 : Nat) < 32768 := (i 0).isLt
  have hN : cfg0.N = 64 := N_0
  refine ⟨⟨(i 0 : Nat) / 512, by omega⟩, flush0_11 _, ?_⟩
  have e := emb11 ⟨(i 0 : Nat) / 512, by omega⟩ ⟨(i 0 : Nat) % 512, by omega⟩ (i 1)
  refine Finset.mem_map.mpr ⟨_, Finset.mem_univ _, e.trans ?_⟩
  refine Eq.trans ?_ (eq_ix2 i).symm
  congr 1
  apply Fin.ext
  show (i 0 : Nat) / 512 * 512 + (i 0 : Nat) % 512 = (i 0 : Nat)
  omega

theorem final11 (c : Dev nD) : (dats m 0 c).arrAt 11 cfg0.N = G11 m c :=
  (dats m 0 c).arrAt_eq_of_cover 11 (G11 m c) (fun t _ => flushed_eq11 m c t) cover11

/-- Result 3: every entry as the row function of the token's row. -/
def G12 (c : Dev nD) : Buf (Elt Ideal) ((c : Thread nD τ).loc main_v94_3) := fun i =>
  out12 (fun k => m ((c : Thread nD τ).loc main_arg0) (ix2 (i 0) k)) (fun k => m ((c : Thread nD τ).loc main_arg2) (ix1 k))
    (m ((c : Thread nD τ).loc main_arg1) (ix2 ⟨(i 0).val / 2048, by have : (i 0).val < 32768 := (i 0).isLt; omega⟩ ⟨(i 0).val % 2048, by omega⟩))
    (fun k j => m ((c : Thread nD τ).loc main_arg3) (ix2 k j)) (i 1)

theorem flushed_eq12 (c : Dev nD) (t : Fin cfg0.N) : (dats m 0 c).flushed 12 t = ((cfg0.win 12).blk t).view.read (Elt Ideal) (G12 m c) := by
  rw [Value.flushed12]
  funext j
  obtain ⟨r, l, rfl⟩ : ∃ (r : Fin 512) (l : Fin 768), j = ix2 r l := ⟨j 0, j 1, eq_ix2 j⟩
  rw [View.read_apply, emb12]
  refine (out12_apply _ _ _ _ _ _ _ _ _ r l).trans ?_
  simp only [b0, b1, b6, plainCol_proj]
  rfl

theorem cover12 (i : S32768x768.Idx) : ∃ t : Fin cfg0.N, (cfg0.win 12).flush t = true ∧ i ∈ ((cfg0.win 12).blk t).view.set := by
  have h0 : (i 0 : Nat) < 32768 := (i 0).isLt
  have hN : cfg0.N = 64 := N_0
  refine ⟨⟨(i 0 : Nat) / 512, by omega⟩, flush0_12 _, ?_⟩
  have e := emb12 ⟨(i 0 : Nat) / 512, by omega⟩ ⟨(i 0 : Nat) % 512, by omega⟩ (i 1)
  refine Finset.mem_map.mpr ⟨_, Finset.mem_univ _, e.trans ?_⟩
  refine Eq.trans ?_ (eq_ix2 i).symm
  congr 1
  apply Fin.ext
  show (i 0 : Nat) / 512 * 512 + (i 0 : Nat) % 512 = (i 0 : Nat)
  omega

theorem final12 (c : Dev nD) : (dats m 0 c).arrAt 12 cfg0.N = G12 m c :=
  (dats m 0 c).arrAt_eq_of_cover 12 (G12 m c) (fun t _ => flushed_eq12 m c t) cover12

/-- Result 4: every entry as the row function of the token's row. -/
def G13 (c : Dev nD) : Buf (Elt Ideal) ((c : Thread nD τ).loc main_v94_4) := fun i =>
  out13 (fun k => m ((c : Thread nD τ).loc main_arg0) (ix2 (i 0) k)) (fun k => m ((c : Thread nD τ).loc main_arg2) (ix1 k))
    (m ((c : Thread nD τ).loc main_arg1) (ix2 ⟨(i 0).val / 2048, by have : (i 0).val < 32768 := (i 0).isLt; omega⟩ ⟨(i 0).val % 2048, by omega⟩))
    (fun k j => m ((c : Thread nD τ).loc main_arg3) (ix2 k j)) (i 1)

theorem flushed_eq13 (c : Dev nD) (t : Fin cfg0.N) : (dats m 0 c).flushed 13 t = ((cfg0.win 13).blk t).view.read (Elt Ideal) (G13 m c) := by
  rw [Value.flushed13]
  funext j
  obtain ⟨r, l, rfl⟩ : ∃ (r : Fin 512) (l : Fin 384), j = ix2 r l := ⟨j 0, j 1, eq_ix2 j⟩
  rw [View.read_apply, emb13]
  refine (out13_apply _ _ _ _ _ _ _ _ _ r l).trans ?_
  refine (Cert.Rows.tile_tables64 _ _ _ _ _ _ (fun x => b2_0 m c t r x) (fun x => b2_1 m c t r x) (fun x => b2_2 m c t r x) l.val).trans ?_
  simp only [b0, b1, b7, ropeCol_proj]
  rfl

theorem cover13 (i : S32768x384.Idx) : ∃ t : Fin cfg0.N, (cfg0.win 13).flush t = true ∧ i ∈ ((cfg0.win 13).blk t).view.set := by
  have h0 : (i 0 : Nat) < 32768 := (i 0).isLt
  have hN : cfg0.N = 64 := N_0
  refine ⟨⟨(i 0 : Nat) / 512, by omega⟩, flush0_13 _, ?_⟩
  have e := emb13 ⟨(i 0 : Nat) / 512, by omega⟩ ⟨(i 0 : Nat) % 512, by omega⟩ (i 1)
  refine Finset.mem_map.mpr ⟨_, Finset.mem_univ _, e.trans ?_⟩
  refine Eq.trans ?_ (eq_ix2 i).symm
  congr 1
  apply Fin.ext
  show (i 0 : Nat) / 512 * 512 + (i 0 : Nat) % 512 = (i 0 : Nat)
  omega

theorem final13 (c : Dev nD) : (dats m 0 c).arrAt 13 cfg0.N = G13 m c :=
  (dats m 0 c).arrAt_eq_of_cover 13 (G13 m c) (fun t _ => flushed_eq13 m c t) cover13

/-- Result 5: every entry as the row function of the token's row. -/
def G14 (c : Dev nD) : Buf (Elt Ideal) ((c : Thread nD τ).loc main_v94_5) := fun i =>
  out14 (fun k => m ((c : Thread nD τ).loc main_arg0) (ix2 (i 0) k)) (fun k => m ((c : Thread nD τ).loc main_arg2) (ix1 k))
    (m ((c : Thread nD τ).loc main_arg1) (ix2 ⟨(i 0).val / 2048, by have : (i 0).val < 32768 := (i 0).isLt; omega⟩ ⟨(i 0).val % 2048, by omega⟩))
    (fun k j => m ((c : Thread nD τ).loc main_arg3) (ix2 k j)) (i 1)

theorem flushed_eq14 (c : Dev nD) (t : Fin cfg0.N) : (dats m 0 c).flushed 14 t = ((cfg0.win 14).blk t).view.read (Elt Ideal) (G14 m c) := by
  rw [Value.flushed14]
  funext j
  obtain ⟨r, l, rfl⟩ : ∃ (r : Fin 512) (l : Fin 128), j = ix2 r l := ⟨j 0, j 1, eq_ix2 j⟩
  rw [View.read_apply, emb14]
  refine (out14_apply _ _ _ _ _ _ _ _ _ r l).trans ?_
  simp only [b0, b1, b8, gateCol_proj]
  rfl

theorem cover14 (i : S32768x128.Idx) : ∃ t : Fin cfg0.N, (cfg0.win 14).flush t = true ∧ i ∈ ((cfg0.win 14).blk t).view.set := by
  have h0 : (i 0 : Nat) < 32768 := (i 0).isLt
  have hN : cfg0.N = 64 := N_0
  refine ⟨⟨(i 0 : Nat) / 512, by omega⟩, flush0_14 _, ?_⟩
  have e := emb14 ⟨(i 0 : Nat) / 512, by omega⟩ ⟨(i 0 : Nat) % 512, by omega⟩ (i 1)
  refine Finset.mem_map.mpr ⟨_, Finset.mem_univ _, e.trans ?_⟩
  refine Eq.trans ?_ (eq_ix2 i).symm
  congr 1
  apply Fin.ext
  show (i 0 : Nat) / 512 * 512 + (i 0 : Nat) % 512 = (i 0 : Nat)
  omega

theorem final14 (c : Dev nD) : (dats m 0 c).arrAt 14 cfg0.N = G14 m c :=
  (dats m 0 c).arrAt_eq_of_cover 14 (G14 m c) (fun t _ => flushed_eq14 m c t) cover14

end Cert.InEvenIdeal.Rows
end
-- ==== Proof.InEvenReference.lean ====
module

public import proofs.«01_k».proof.Defs
public import proofs.«01_k».proof.Proof.Gen.InEvenRefIdeal.Run
public import proofs.«01_k».proof.Proof.InEvenSpec
public import Idealize.ShloMosaic.Lib.Pointwise
public import Idealize.ShloMosaic.Lib.Claim

/-! The input projection's reference: each result entry is the row function of the token's row. -/

@[expose] public section
noncomputable section
open Idealize.ShloMosaic Idealize.ShloMosaic.TcCoe Idealize.SL.Sem

namespace Cert.InEvenRefIdeal.Rows
open Cert.InEvenRefIdeal Cert.InEvenPair

variable (m : (ℓ : Loc nD τ sig) → Buf (Elt Ideal) ℓ)

/-- A lane of the queries' part, read off the row of projections. -/
theorem entry_q {f : Fin 2468 → EReal} {j : Fin 2468} {a : Nat} (h : j.val = 512 + a ∧ a < 768) : f j = Cert.Rows.ext (qCol f) a := by
  rw [← Cert.Rows.ext_eq (qCol f) ⟨a, h.2⟩ rfl, qCol]
  exact congrArg f (Fin.ext h.1)

theorem cos8_angle (P : IVec S16x2048 32) (r : Fin 32768) (e : Fin 8) :
    Host.cos (F := Ideal)
      (mulf
        (broadcastInDim S32768x8 ![0, 1] Gen.bcast_S32768x1_S32768x8_0_1
          (shapeCast S32768x1 (sitofp FTy.f32 P) Gen.shapeCasts_S16x2048_S32768x1))
        (broadcastInDim S32768x8 ![0, 1] Gen.bcast_S1x8_S32768x8_0_1
          (broadcastInDim S1x8 ![1] Gen.bcast_S8_S1x8_1
            (Host.powf (broadcastInDim S8 ![] Gen.bcast_S_S8 (constant S_ FTy.f32 1223959552#32))
              (Host.divf
                (Host.negf
                  (addf (broadcastInDim S8 ![] Gen.bcast_S_S8 (constant S_ FTy.f32 0#32))
                    (mulf (broadcastInDim S8 ![] Gen.bcast_S_S8 (constant S_ FTy.f32 1073741824#32))
                      (sitofp FTy.f32 (iotaInDim S8 32 0)))))
                (broadcastInDim S8 ![] Gen.bcast_S_S8 (constant S_ FTy.f32 1098907648#32))))))) (ix2 r e)
      = Ideal.cos (Cert.Rows.angle 1098907648#32 (P (ix2 ⟨r.val / 2048, by omega⟩ ⟨r.val % 2048, by omega⟩)) e.val) := by
  pointwise
  rfl

theorem sin8_angle (P : IVec S16x2048 32) (r : Fin 32768) (e : Fin 8) :
    Host.sin (F := Ideal)
      (mulf
        (broadcastInDim S32768x8 ![0, 1] Gen.bcast_S32768x1_S32768x8_0_1
          (shapeCast S32768x1 (sitofp FTy.f32 P) Gen.shapeCasts_S16x2048_S32768x1))
        (broadcastInDim S32768x8 ![0, 1] Gen.bcast_S1x8_S32768x8_0_1
          (broadcastInDim S1x8 ![1] Gen.bcast_S8_S1x8_1
            (Host.powf (broadcastInDim S8 ![] Gen.bcast_S_S8 (constant S_ FTy.f32 1223959552#32))
              (Host.divf
                (Host.negf
                  (addf (broadcastInDim S8 ![] Gen.bcast_S_S8 (constant S_ FTy.f32 0#32))
                    (mulf (broadcastInDim S8 ![] Gen.bcast_S_S8 (constant S_ FTy.f32 1073741824#32))
                      (sitofp FTy.f32 (iotaInDim S8 32 0)))))
                (broadcastInDim S8 ![] Gen.bcast_S_S8 (constant S_ FTy.f32 1098907648#32))))))) (ix2 r e)
      = Ideal.sin (Cert.Rows.angle 1098907648#32 (P (ix2 ⟨r.val / 2048, by omega⟩ ⟨r.val % 2048, by omega⟩)) e.val) := by
  pointwise
  rfl

set_option maxRecDepth 8192 in
set_option maxHeartbeats 8000000 in
theorem out11_apply (c : Dev nD) (r : Fin 32768) (l : Fin 768) :
    Value.res_main_v65 m c (ix2 r l) = out11 (fun k => m ((c : Thread nD τ).loc main_arg0) (ix2 r k)) (fun k => m ((c : Thread nD τ).loc main_arg2) (ix1 k))
      (m ((c : Thread nD τ).loc main_arg1) (ix2 ⟨r.val / 2048, by omega⟩ ⟨r.val % 2048, by omega⟩))
      (fun k j => m ((c : Thread nD τ).loc main_arg3) (ix2 k j)) l := by
  unfold Value.res_main_v65
  generalize hZ : Host.dotGeneral (F := Ideal) dot_S32768x1024_S1024x2468_S32768x2468_1_0_0_1_n_n none _ _ = Z
  have eZ : ∀ j : Fin 2468, Z (ix2 r j) = Cert.Rows.proj (fun k => m ((c : Thread nD τ).loc main_arg0) (ix2 r k)) (fun k => m ((c : Thread nD τ).loc main_arg2) (ix1 k)) (fun k => m ((c : Thread nD τ).loc main_arg3) (ix2 k j)) := by
    intro j
    rw [← hZ]
    pointwise
    rfl
  have eQ : ∀ (j : Fin 2468) (a : Nat), j.val = 512 + a ∧ a < 768 → Z (ix2 r j) = Cert.Rows.ext (qCol (fun j => Cert.Rows.proj (fun k => m ((c : Thread nD τ).loc main_arg0) (ix2 r k)) (fun k => m ((c : Thread nD τ).loc main_arg2) (ix1 k)) (fun k => m ((c : Thread nD τ).loc main_arg3) (ix2 k j)))) a :=
    fun j a h => (eZ j).trans (entry_q (f := fun j => Cert.Rows.proj (fun k => m ((c : Thread nD τ).loc main_arg0) (ix2 r k)) (fun k => m ((c : Thread nD τ).loc main_arg2) (ix1 k)) (fun k => m ((c : Thread nD τ).loc main_arg3) (ix2 k j))) h)
  generalize hC : Host.cos (F := Ideal) (s := S32768x8) _ = C
  generalize hS : Host.sin (F := Ideal) (s := S32768x8) _ = S
  have eC : ∀ e : Fin 8, C (ix2 r e) = Ideal.cos (Cert.Rows.angle 1098907648#32 (m ((c : Thread nD τ).loc main_arg1) (ix2 ⟨r.val / 2048, by omega⟩ ⟨r.val % 2048, by omega⟩)) e.val) := by
    intro e
    rw [← hC]
    exact cos8_angle _ r e
  have eS : ∀ e : Fin 8, S (ix2 r e) = Ideal.sin (Cert.Rows.angle 1098907648#32 (m ((c : Thread nD τ).loc main_arg1) (ix2 ⟨r.val / 2048, by omega⟩ ⟨r.val % 2048, by omega⟩)) e.val) := by
    intro e
    rw [← hS]
    exact sin8_angle _ r e
  pointwise
  unfold out11
  have := l.isLt
  split
  · next h => exact Cert.Rows.rot_lo h (eQ _ _ (by first | omega | (dsimp only; omega))) (eQ _ _ (by first | omega | (dsimp only; omega))) (eC _) (eS _)
  · next h =>
    split
    · next h' => exact Cert.Rows.rot_mid h h' (eQ _ _ (by first | omega | (dsimp only; omega))) (eQ _ _ (by first | omega | (dsimp only; omega))) (eC _) (eS _)
    · next h' => exact Cert.Rows.rot_hi h h' (eQ _ _ (by first | omega | (dsimp only; omega)))

set_option maxRecDepth 8192 in
set_option maxHeartbeats 8000000 in
theorem out12_apply (c : Dev nD) (r : Fin 32768) (l : Fin 768) :
    Value.res_main_v66 m c (ix2 r l) = out12 (fun k => m ((c : Thread nD τ).loc main_arg0) (ix2 r k)) (fun k => m ((c : Thread nD τ).loc main_arg2) (ix1 k))
      (m ((c : Thread nD τ).loc main_arg1) (ix2 ⟨r.val / 2048, by omega⟩ ⟨r.val % 2048, by omega⟩))
      (fun k j => m ((c : Thread nD τ).loc main_arg3) (ix2 k j)) l := by
  unfold Value.res_main_v66
  generalize hZ : Host.dotGeneral (F := Ideal) dot_S32768x1024_S1024x2468_S32768x2468_1_0_0_1_n_n none _ _ = Z
  have eZ : ∀ j : Fin 2468, Z (ix2 r j) = Cert.Rows.proj (fun k => m ((c : Thread nD τ).loc main_arg0) (ix2 r k)) (fun k => m ((c : Thread nD τ).loc main_arg2) (ix1 k)) (fun k => m ((c : Thread nD τ).loc main_arg3) (ix2 k j)) := by
    intro j
    rw [← hZ]
    pointwise
    rfl
  pointwise
  simp only [eZ]
  rfl

set_option maxRecDepth 8192 in
set_option maxHeartbeats 8000000 in
theorem out13_apply (c : Dev nD) (r : Fin 32768) (l : Fin 384) :
    Value.res_main_v85 m c (ix2 r l) = out13 (fun k => m ((c : Thread nD τ).loc main_arg0) (ix2 r k)) (fun k => m ((c : Thread nD τ).loc main_arg2) (ix1 k))
      (m ((c : Thread nD τ).loc main_arg1) (ix2 ⟨r.val / 2048, by omega⟩ ⟨r.val % 2048, by omega⟩))
      (fun k j => m ((c : Thread nD τ).loc main_arg3) (ix2 k j)) l := by
  unfold Value.res_main_v85
  generalize hZ : Host.dotGeneral (F := Ideal) dot_S32768x1024_S1024x2468_S32768x2468_1_0_0_1_n_n none _ _ = Z
  have eZ : ∀ j : Fin 2468, Z (ix2 r j) = Cert.Rows.proj (fun k => m ((c : Thread nD τ).loc main_arg0) (ix2 r k)) (fun k => m ((c : Thread nD τ).loc main_arg2) (ix1 k)) (fun k => m ((c : Thread nD τ).loc main_arg3) (ix2 k j)) := by
    intro j
    rw [← hZ]
    pointwise
    rfl
  generalize hY : concatenate (α := EReal) S32768x384 1 _ _ = Y
  have eY : ∀ j : Fin 384, Y (ix2 r j) = ropeCol (fun j => Cert.Rows.proj (fun k => m ((c : Thread nD τ).loc main_arg0) (ix2 r k)) (fun k => m ((c : Thread nD τ).loc main_arg2) (ix1 k)) (fun k => m ((c : Thread nD τ).loc main_arg3) (ix2 k j))) j := by
    intro j
    rw [← hY]
    pointwise
    unfold ropeCol
    simp only [eZ]
  generalize hC : Host.cos (F := Ideal) (s := S32768x8) _ = C
  generalize hS : Host.sin (F := Ideal) (s := S32768x8) _ = S
  have eC : ∀ e : Fin 8, C (ix2 r e) = Ideal.cos (Cert.Rows.angle 1098907648#32 (m ((c : Thread nD τ).loc main_arg1) (ix2 ⟨r.val / 2048, by omega⟩ ⟨r.val % 2048, by omega⟩)) e.val) := by
    intro e
    rw [← hC]
    exact cos8_angle _ r e
  have eS : ∀ e : Fin 8, S (ix2 r e) = Ideal.sin (Cert.Rows.angle 1098907648#32 (m ((c : Thread nD τ).loc main_arg1) (ix2 ⟨r.val / 2048, by omega⟩ ⟨r.val % 2048, by omega⟩)) e.val) := by
    intro e
    rw [← hS]
    exact sin8_angle _ r e
  pointwise
  unfold out13
  have := l.isLt
  split
  · next h => exact Cert.Rows.rot_lo h ((eY _).trans (Cert.Rows.ext_eq _ _ (by first | (dsimp only; omega) | (dsimp only; done)))) ((eY _).trans (Cert.Rows.ext_eq _ _ (by first | (dsimp only; omega) | (dsimp only; done)))) (eC _) (eS _)
  · next h =>
    split
    · next h' => exact Cert.Rows.rot_mid h h' ((eY _).trans (Cert.Rows.ext_eq _ _ (by first | (dsimp only; omega) | (dsimp only; done)))) ((eY _).trans (Cert.Rows.ext_eq _ _ (by first | (dsimp only; omega) | (dsimp only; done)))) (eC _) (eS _)
    · next h' => exact Cert.Rows.rot_hi h h' ((eY _).trans (Cert.Rows.ext_eq _ _ (by first | (dsimp only; omega) | (dsimp only; done))))

end Cert.InEvenRefIdeal.Rows
end
-- ==== Proof.InEvenValue.lean ====
module

public import proofs.«01_k».proof.Defs
public import proofs.«01_k».proof.Proof.InEvenBlocks
public import proofs.«01_k».proof.Proof.InEvenReference
public import Idealize.ShloMosaic.Lib.Claim

/-! The input projection at the extended reals: every result is the row function of the token's row. -/

@[expose] public section
noncomputable section
open Idealize.ShloMosaic Idealize.ShloMosaic.TcCoe Idealize.SL.Sem

namespace Cert.InEvenPair

set_option maxRecDepth 8192 in
set_option maxHeartbeats 8000000 in
/-- At the extended reals the kernel's results are the reference's. -/
theorem algebraic :
    Cert.algebraic_InEvenIdeal_InEvenRefIdeal (hInEvenIdeal := Cert.InEvenIdeal.Gen.facts) (hInEvenRefIdeal := Cert.InEvenRefIdeal.Gen.facts) := by
  pair_intro
  · run_from (Cert.InEvenIdeal.Value.run_blocks m g)
  · run_from (Cert.InEvenRefIdeal.Value.run m' g')
    · rw [Cert.InEvenIdeal.Rows.final9]
      generalize hZ : Host.dotGeneral (F := Ideal) Cert.InEvenRefIdeal.dot_S32768x1024_S1024x2468_S32768x2468_1_0_0_1_n_n none _ _ = Z
      funext i
      obtain ⟨r, l, rfl⟩ : ∃ (r : Fin 32768) (l : Fin 512), i = ix2 r l := ⟨i 0, i 1, eq_ix2 i⟩
      have eZ : ∀ j : Fin 2468, Z (ix2 r j) = Cert.Rows.proj (fun k => m ((c : Thread Cert.InEvenIdeal.nD Cert.InEvenIdeal.τ).loc Cert.InEvenIdeal.main_arg0) (ix2 r k))
          (fun k => m ((c : Thread Cert.InEvenIdeal.nD Cert.InEvenIdeal.τ).loc Cert.InEvenIdeal.main_arg2) (ix1 k)) (fun k => m ((c : Thread Cert.InEvenIdeal.nD Cert.InEvenIdeal.τ).loc Cert.InEvenIdeal.main_arg3) (ix2 k j)) := by
        intro j
        rw [← hZ]
        pointwise
        try simp only [hagree c]
        rfl
      pointwise
      simp only [eZ]
      rfl
    · rw [Cert.InEvenIdeal.Rows.final10]
      generalize hZ : Host.dotGeneral (F := Ideal) Cert.InEvenRefIdeal.dot_S32768x1024_S1024x2468_S32768x2468_1_0_0_1_n_n none _ _ = Z
      funext i
      obtain ⟨r, l, rfl⟩ : ∃ (r : Fin 32768) (l : Fin 768), i = ix2 r l := ⟨i 0, i 1, eq_ix2 i⟩
      have eZ : ∀ j : Fin 2468, Z (ix2 r j) = Cert.Rows.proj (fun k => m ((c : Thread Cert.InEvenIdeal.nD Cert.InEvenIdeal.τ).loc Cert.InEvenIdeal.main_arg0) (ix2 r k))
          (fun k => m ((c : Thread Cert.InEvenIdeal.nD Cert.InEvenIdeal.τ).loc Cert.InEvenIdeal.main_arg2) (ix1 k)) (fun k => m ((c : Thread Cert.InEvenIdeal.nD Cert.InEvenIdeal.τ).loc Cert.InEvenIdeal.main_arg3) (ix2 k j)) := by
        intro j
        rw [← hZ]
        pointwise
        try simp only [hagree c]
        rfl
      pointwise
      simp only [eZ]
      rfl
    · rw [Cert.InEvenIdeal.Rows.final11]
      funext i
      obtain ⟨r, l, rfl⟩ : ∃ (r : Fin 32768) (l : Fin 768), i = ix2 r l := ⟨i 0, i 1, eq_ix2 i⟩
      refine (Cert.InEvenRefIdeal.Rows.out11_apply m' c r l).trans ?_
      simp only [hagree c]
      rfl
    · rw [Cert.InEvenIdeal.Rows.final12]
      funext i
      obtain ⟨r, l, rfl⟩ : ∃ (r : Fin 32768) (l : Fin 768), i = ix2 r l := ⟨i 0, i 1, eq_ix2 i⟩
      refine (Cert.InEvenRefIdeal.Rows.out12_apply m' c r l).trans ?_
      simp only [hagree c]
      rfl
    · rw [Cert.InEvenIdeal.Rows.final13]
      funext i
      obtain ⟨r, l, rfl⟩ : ∃ (r : Fin 32768) (l : Fin 384), i = ix2 r l := ⟨i 0, i 1, eq_ix2 i⟩
      refine (Cert.InEvenRefIdeal.Rows.out13_apply m' c r l).trans ?_
      simp only [hagree c]
      rfl
    · rw [Cert.InEvenIdeal.Rows.final14]
      generalize hZ : Host.dotGeneral (F := Ideal) Cert.InEvenRefIdeal.dot_S32768x1024_S1024x2468_S32768x2468_1_0_0_1_n_n none _ _ = Z
      funext i
      obtain ⟨r, l, rfl⟩ : ∃ (r : Fin 32768) (l : Fin 128), i = ix2 r l := ⟨i 0, i 1, eq_ix2 i⟩
      have eZ : ∀ j : Fin 2468, Z (ix2 r j) = Cert.Rows.proj (fun k => m ((c : Thread Cert.InEvenIdeal.nD Cert.InEvenIdeal.τ).loc Cert.InEvenIdeal.main_arg0) (ix2 r k))
          (fun k => m ((c : Thread Cert.InEvenIdeal.nD Cert.InEvenIdeal.τ).loc Cert.InEvenIdeal.main_arg2) (ix1 k)) (fun k => m ((c : Thread Cert.InEvenIdeal.nD Cert.InEvenIdeal.τ).loc Cert.InEvenIdeal.main_arg3) (ix2 k j)) := by
        intro j
        rw [← hZ]
        pointwise
        try simp only [hagree c]
        rfl
      pointwise
      simp only [eZ]
      have z : FloatOps.sitofp (F := Ideal) FTy.f32 0#32 = 0 := by
        show ((((0#32 : BitVec 32).toInt : ℝ)) : EReal) = 0
        simp
      rw [z]
      rfl
end Cert.InEvenPair
end
-- ==== Proof.InOddSpec.lean ====
module

public import proofs.«01_k».proof.Proof.Rope

/-! The input projection: each result entry as a function of the token's row, its position, the gain and the weight. -/

@[expose] public section
noncomputable section
open Idealize.ShloMosaic

namespace Cert.InOddPair

/-- Column `l` of this part, read off a row over the weight's columns. -/
def ropeCol (f : Fin 2340 → EReal) (l : Fin 1664) : EReal :=
  if h0 : l.val < 512 then f ⟨l.val, by omega⟩ else if h1 : l.val - 512 < 64 then f ⟨512 + (l.val - 512), by omega⟩ else if h2 : l.val - 512 - 64 < 64 then 0 else if h3 : l.val - 512 - 64 - 64 < 512 then f ⟨804 + (l.val - 512 - 64 - 64), by omega⟩ else f ⟨1316 + (l.val - 512 - 64 - 64 - 512), by omega⟩

/-- The projection's entry is the same part of the row of all projections. -/
theorem ropeCol_proj (x g : Fin 1024 → EReal) (w : Fin 1024 → Fin 2340 → EReal) (l : Fin 1664) :
    Cert.Rows.proj x g (fun k => ropeCol (w k) l) = ropeCol (fun j => Cert.Rows.proj x g fun k => w k j) l := by
  unfold ropeCol
  split_ifs <;> first | rfl | simp only [Cert.Rows.proj, mul_zero, Finset.sum_const_zero]

/-- Column `l` of this part, read off a row over the weight's columns. -/
def ropeiCol (f : Fin 2340 → EReal) (l : Fin 256) : EReal :=
  if h0 : l.val < 128 then f ⟨640 + l.val, by omega⟩ else if h1 : l.val - 128 < 32 then f ⟨768 + (l.val - 128), by omega⟩ else 0

/-- The projection's entry is the same part of the row of all projections. -/
theorem ropeiCol_proj (x g : Fin 1024 → EReal) (w : Fin 1024 → Fin 2340 → EReal) (l : Fin 256) :
    Cert.Rows.proj x g (fun k => ropeiCol (w k) l) = ropeiCol (fun j => Cert.Rows.proj x g fun k => w k j) l := by
  unfold ropeiCol
  split_ifs <;> first | rfl | simp only [Cert.Rows.proj, mul_zero, Finset.sum_const_zero]

/-- Column `l` of this part, read off a row over the weight's columns. -/
def plainCol (f : Fin 2340 → EReal) (l : Fin 640) : EReal :=
  if h0 : l.val < 64 then f ⟨576 + l.val, by omega⟩ else if h1 : l.val - 64 < 4 then f ⟨800 + (l.val - 64), by omega⟩ else if h2 : l.val - 64 - 4 < 60 then 0 else f ⟨1828 + (l.val - 64 - 4 - 60), by omega⟩

/-- The projection's entry is the same part of the row of all projections. -/
theorem plainCol_proj (x g : Fin 1024 → EReal) (w : Fin 1024 → Fin 2340 → EReal) (l : Fin 640) :
    Cert.Rows.proj x g (fun k => plainCol (w k) l) = plainCol (fun j => Cert.Rows.proj x g fun k => w k j) l := by
  unfold plainCol
  split_ifs <;> first | rfl | simp only [Cert.Rows.proj, mul_zero, Finset.sum_const_zero]

/-- One entry of this result. -/
def out7 (x g : Fin 1024 → EReal) (p : BitVec 32) (w : Fin 1024 → Fin 2340 → EReal) (l : Fin 1664) : EReal :=
  Cert.Rows.rot 8 64 (Cert.Rows.ext (ropeCol (fun j => Cert.Rows.proj x g fun k => w k j)))
    (fun e => Ideal.cos (Cert.Rows.angle 1098907648#32 p e)) (fun e => Ideal.sin (Cert.Rows.angle 1098907648#32 p e)) l.val

/-- One entry of this result. -/
def out8 (x g : Fin 1024 → EReal) (p : BitVec 32) (w : Fin 1024 → Fin 2340 → EReal) (l : Fin 256) : EReal :=
  Cert.Rows.rot 4 32 (Cert.Rows.ext (ropeiCol (fun j => Cert.Rows.proj x g fun k => w k j)))
    (fun e => Ideal.cos (Cert.Rows.angle 1090519040#32 p e)) (fun e => Ideal.sin (Cert.Rows.angle 1090519040#32 p e)) l.val

/-- One entry of this result. -/
def out9 (x g : Fin 1024 → EReal) (p : BitVec 32) (w : Fin 1024 → Fin 2340 → EReal) (l : Fin 640) : EReal :=
  plainCol (fun j => Cert.Rows.proj x g fun k => w k j) l

end Cert.InOddPair
end
-- ==== Proof.InOddRows.lean ====
module

public import proofs.«01_k».proof.Defs
public import proofs.«01_k».proof.Proof.Gen.InOddIdeal.Value
public import proofs.«01_k».proof.Proof.InOddSpec
public import Idealize.ShloMosaic.Lib.Pointwise
public import Idealize.ShloMosaic.Lib.Claim
public import Idealize.ShloMosaic.Lib.StableHlo.ReadAt

/-! The input projection's kernel: what each of its result arrays holds after the run. -/

@[expose] public section
noncomputable section
open Idealize.ShloMosaic Idealize.ShloMosaic.TcCoe Idealize.SL.Sem
open Idealize.ShloMosaic.Pipeline (Dat)

namespace Cert.InOddIdeal.Rows
open Cert.InOddIdeal Cert.InOddIdeal.Gen Cert.InOddPair

theorem hz : (![0, 0] : Fin 2 → Nat) = fun _ => 0 := funext fun a => by fin_cases a <;> rfl

theorem pay3_apply (x : Vec Ideal S512x1024 .f32) (g : Vec Ideal S1x1024 .f32) (r : Fin 512) (l : Fin 1024) :
    k0_pay3 x g (ix2 r l) = Cert.Rows.rms (fun k => x (ix2 r k)) (fun k => g (ix2 0 k)) l := by
  pointwise [k0_pay3]
  rfl

theorem ld_0 (x : Vec Ideal S3x512x128 .f32) (r : Fin 512) (l : Fin 128) : View.ld x r0_3 (ix3 0 r l) = x (ix3 0 r l) := by
  show x (r0_3.idx (ix3 0 r l)) = _
  congr 1
  funext a
  apply Fin.ext
  match a with
  | ⟨0, _⟩ => rfl
  | ⟨1, _⟩ => show 0 + 1 * r.val = r.val; omega
  | ⟨2, _⟩ => show 0 + 1 * l.val = l.val; omega

theorem ld_1 (x : Vec Ideal S3x512x128 .f32) (r : Fin 512) (l : Fin 128) : View.ld x r0_4 (ix3 0 r l) = x (ix3 1 r l) := by
  show x (r0_4.idx (ix3 0 r l)) = _
  congr 1
  funext a
  apply Fin.ext
  match a with
  | ⟨0, _⟩ => rfl
  | ⟨1, _⟩ => show 0 + 1 * r.val = r.val; omega
  | ⟨2, _⟩ => show 0 + 1 * l.val = l.val; omega

theorem ld_2 (x : Vec Ideal S3x512x128 .f32) (r : Fin 512) (l : Fin 128) : View.ld x r0_5 (ix3 0 r l) = x (ix3 2 r l) := by
  show x (r0_5.idx (ix3 0 r l)) = _
  congr 1
  funext a
  apply Fin.ext
  match a with
  | ⟨0, _⟩ => rfl
  | ⟨1, _⟩ => show 0 + 1 * r.val = r.val; omega
  | ⟨2, _⟩ => show 0 + 1 * l.val = l.val; omega

theorem pay4_apply (x : Vec Ideal S512x1024 .f32) (g : Vec Ideal S1x1024 .f32) (w : Vec Ideal S1024x1664 .bf16) (r : Fin 512) (l : Fin 1664) :
    k0_pay4 x g w (ix2 r l) = Cert.Rows.proj (fun k => x (ix2 r k)) (fun k => g (ix2 0 k)) (fun k => w (ix2 k l)) := by
  pointwise [k0_pay4]
  simp only [pay3_apply]
  rfl

theorem pay2_apply (x : Vec Ideal S512x1024 .f32) (g : Vec Ideal S1x1024 .f32) (w : Vec Ideal S1024x640 .bf16) (r : Fin 512) (l : Fin 640) :
    k0_pay2 (k0_pay3 x g) w (ix2 r l) = Cert.Rows.proj (fun k => x (ix2 r k)) (fun k => g (ix2 0 k)) (fun k => w (ix2 k l)) := by
  pointwise [k0_pay2]
  simp only [pay3_apply]
  rfl

/-- One tile of 128 lanes: the tile, and its two turned copies, each times its table. -/
def turn (o : Nat) (h : S512x1664.Slices ![0, o] S512x128) (z : FVec Ideal S512x1664 .f32) (A B D : Vec Ideal S1x512x128 .f32) : FVec Ideal S512x128 .f32 :=
  addf (addf (mulf (extractStridedSlice S512x128 ![0, o] z h) (k0_pay5 A))
    (mulf (dynamicRotate 1 120#32 none (extractStridedSlice S512x128 ![0, o] z h) rotates_S512x128_d1) (k0_pay6 B)))
    (mulf (dynamicRotate 1 8#32 none (extractStridedSlice S512x128 ![0, o] z h) rotates_S512x128_d1) (k0_pay7 D))

theorem turn_0 (z : FVec Ideal S512x1664 .f32) (A B D : Vec Ideal S1x512x128 .f32) (r : Fin 512) (x : Fin 128) :
    turn 0 slices_S512x1664_o0_0_S512x128 z A B D (ix2 r x)
      = Cert.Rows.tile 8 (Cert.Rows.ext fun j => z (ix2 r j)) (Cert.Rows.ext fun x => A (ix3 0 r x))
        (Cert.Rows.ext fun x => B (ix3 0 r x)) (Cert.Rows.ext fun x => D (ix3 0 r x)) (0 + x.val) := by
  unfold turn
  pointwise [k0_pay5, k0_pay6, k0_pay7]
  have := x.isLt
  exact Cert.Rows.tile_of (fun j => z (ix2 r j)) (fun x => A (ix3 0 r x)) (fun x => B (ix3 0 r x)) (fun x => D (ix3 0 r x))
    _ _ _ _ _ _ (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega)

theorem turn_128 (z : FVec Ideal S512x1664 .f32) (A B D : Vec Ideal S1x512x128 .f32) (r : Fin 512) (x : Fin 128) :
    turn 128 slices_S512x1664_o0_128_S512x128 z A B D (ix2 r x)
      = Cert.Rows.tile 8 (Cert.Rows.ext fun j => z (ix2 r j)) (Cert.Rows.ext fun x => A (ix3 0 r x))
        (Cert.Rows.ext fun x => B (ix3 0 r x)) (Cert.Rows.ext fun x => D (ix3 0 r x)) (128 + x.val) := by
  unfold turn
  pointwise [k0_pay5, k0_pay6, k0_pay7]
  have := x.isLt
  exact Cert.Rows.tile_of (fun j => z (ix2 r j)) (fun x => A (ix3 0 r x)) (fun x => B (ix3 0 r x)) (fun x => D (ix3 0 r x))
    _ _ _ _ _ _ (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega)

theorem turn_256 (z : FVec Ideal S512x1664 .f32) (A B D : Vec Ideal S1x512x128 .f32) (r : Fin 512) (x : Fin 128) :
    turn 256 slices_S512x1664_o0_256_S512x128 z A B D (ix2 r x)
      = Cert.Rows.tile 8 (Cert.Rows.ext fun j => z (ix2 r j)) (Cert.Rows.ext fun x => A (ix3 0 r x))
        (Cert.Rows.ext fun x => B (ix3 0 r x)) (Cert.Rows.ext fun x => D (ix3 0 r x)) (256 + x.val) := by
  unfold turn
  pointwise [k0_pay5, k0_pay6, k0_pay7]
  have := x.isLt
  exact Cert.Rows.tile_of (fun j => z (ix2 r j)) (fun x => A (ix3 0 r x)) (fun x => B (ix3 0 r x)) (fun x => D (ix3 0 r x))
    _ _ _ _ _ _ (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega)

theorem turn_384 (z : FVec Ideal S512x1664 .f32) (A B D : Vec Ideal S1x512x128 .f32) (r : Fin 512) (x : Fin 128) :
    turn 384 slices_S512x1664_o0_384_S512x128 z A B D (ix2 r x)
      = Cert.Rows.tile 8 (Cert.Rows.ext fun j => z (ix2 r j)) (Cert.Rows.ext fun x => A (ix3 0 r x))
        (Cert.Rows.ext fun x => B (ix3 0 r x)) (Cert.Rows.ext fun x => D (ix3 0 r x)) (384 + x.val) := by
  unfold turn
  pointwise [k0_pay5, k0_pay6, k0_pay7]
  have := x.isLt
  exact Cert.Rows.tile_of (fun j => z (ix2 r j)) (fun x => A (ix3 0 r x)) (fun x => B (ix3 0 r x)) (fun x => D (ix3 0 r x))
    _ _ _ _ _ _ (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega)

theorem turn_512 (z : FVec Ideal S512x1664 .f32) (A B D : Vec Ideal S1x512x128 .f32) (r : Fin 512) (x : Fin 128) :
    turn 512 slices_S512x1664_o0_512_S512x128 z A B D (ix2 r x)
      = Cert.Rows.tile 8 (Cert.Rows.ext fun j => z (ix2 r j)) (Cert.Rows.ext fun x => A (ix3 0 r x))
        (Cert.Rows.ext fun x => B (ix3 0 r x)) (Cert.Rows.ext fun x => D (ix3 0 r x)) (512 + x.val) := by
  unfold turn
  pointwise [k0_pay5, k0_pay6, k0_pay7]
  have := x.isLt
  exact Cert.Rows.tile_of (fun j => z (ix2 r j)) (fun x => A (ix3 0 r x)) (fun x => B (ix3 0 r x)) (fun x => D (ix3 0 r x))
    _ _ _ _ _ _ (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega)

theorem turn_640 (z : FVec Ideal S512x1664 .f32) (A B D : Vec Ideal S1x512x128 .f32) (r : Fin 512) (x : Fin 128) :
    turn 640 slices_S512x1664_o0_640_S512x128 z A B D (ix2 r x)
      = Cert.Rows.tile 8 (Cert.Rows.ext fun j => z (ix2 r j)) (Cert.Rows.ext fun x => A (ix3 0 r x))
        (Cert.Rows.ext fun x => B (ix3 0 r x)) (Cert.Rows.ext fun x => D (ix3 0 r x)) (640 + x.val) := by
  unfold turn
  pointwise [k0_pay5, k0_pay6, k0_pay7]
  have := x.isLt
  exact Cert.Rows.tile_of (fun j => z (ix2 r j)) (fun x => A (ix3 0 r x)) (fun x => B (ix3 0 r x)) (fun x => D (ix3 0 r x))
    _ _ _ _ _ _ (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega)

theorem turn_768 (z : FVec Ideal S512x1664 .f32) (A B D : Vec Ideal S1x512x128 .f32) (r : Fin 512) (x : Fin 128) :
    turn 768 slices_S512x1664_o0_768_S512x128 z A B D (ix2 r x)
      = Cert.Rows.tile 8 (Cert.Rows.ext fun j => z (ix2 r j)) (Cert.Rows.ext fun x => A (ix3 0 r x))
        (Cert.Rows.ext fun x => B (ix3 0 r x)) (Cert.Rows.ext fun x => D (ix3 0 r x)) (768 + x.val) := by
  unfold turn
  pointwise [k0_pay5, k0_pay6, k0_pay7]
  have := x.isLt
  exact Cert.Rows.tile_of (fun j => z (ix2 r j)) (fun x => A (ix3 0 r x)) (fun x => B (ix3 0 r x)) (fun x => D (ix3 0 r x))
    _ _ _ _ _ _ (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega)

theorem turn_896 (z : FVec Ideal S512x1664 .f32) (A B D : Vec Ideal S1x512x128 .f32) (r : Fin 512) (x : Fin 128) :
    turn 896 slices_S512x1664_o0_896_S512x128 z A B D (ix2 r x)
      = Cert.Rows.tile 8 (Cert.Rows.ext fun j => z (ix2 r j)) (Cert.Rows.ext fun x => A (ix3 0 r x))
        (Cert.Rows.ext fun x => B (ix3 0 r x)) (Cert.Rows.ext fun x => D (ix3 0 r x)) (896 + x.val) := by
  unfold turn
  pointwise [k0_pay5, k0_pay6, k0_pay7]
  have := x.isLt
  exact Cert.Rows.tile_of (fun j => z (ix2 r j)) (fun x => A (ix3 0 r x)) (fun x => B (ix3 0 r x)) (fun x => D (ix3 0 r x))
    _ _ _ _ _ _ (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega)

theorem turn_1024 (z : FVec Ideal S512x1664 .f32) (A B D : Vec Ideal S1x512x128 .f32) (r : Fin 512) (x : Fin 128) :
    turn 1024 slices_S512x1664_o0_1024_S512x128 z A B D (ix2 r x)
      = Cert.Rows.tile 8 (Cert.Rows.ext fun j => z (ix2 r j)) (Cert.Rows.ext fun x => A (ix3 0 r x))
        (Cert.Rows.ext fun x => B (ix3 0 r x)) (Cert.Rows.ext fun x => D (ix3 0 r x)) (1024 + x.val) := by
  unfold turn
  pointwise [k0_pay5, k0_pay6, k0_pay7]
  have := x.isLt
  exact Cert.Rows.tile_of (fun j => z (ix2 r j)) (fun x => A (ix3 0 r x)) (fun x => B (ix3 0 r x)) (fun x => D (ix3 0 r x))
    _ _ _ _ _ _ (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega)

theorem turn_1152 (z : FVec Ideal S512x1664 .f32) (A B D : Vec Ideal S1x512x128 .f32) (r : Fin 512) (x : Fin 128) :
    turn 1152 slices_S512x1664_o0_1152_S512x128 z A B D (ix2 r x)
      = Cert.Rows.tile 8 (Cert.Rows.ext fun j => z (ix2 r j)) (Cert.Rows.ext fun x => A (ix3 0 r x))
        (Cert.Rows.ext fun x => B (ix3 0 r x)) (Cert.Rows.ext fun x => D (ix3 0 r x)) (1152 + x.val) := by
  unfold turn
  pointwise [k0_pay5, k0_pay6, k0_pay7]
  have := x.isLt
  exact Cert.Rows.tile_of (fun j => z (ix2 r j)) (fun x => A (ix3 0 r x)) (fun x => B (ix3 0 r x)) (fun x => D (ix3 0 r x))
    _ _ _ _ _ _ (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega)

theorem turn_1280 (z : FVec Ideal S512x1664 .f32) (A B D : Vec Ideal S1x512x128 .f32) (r : Fin 512) (x : Fin 128) :
    turn 1280 slices_S512x1664_o0_1280_S512x128 z A B D (ix2 r x)
      = Cert.Rows.tile 8 (Cert.Rows.ext fun j => z (ix2 r j)) (Cert.Rows.ext fun x => A (ix3 0 r x))
        (Cert.Rows.ext fun x => B (ix3 0 r x)) (Cert.Rows.ext fun x => D (ix3 0 r x)) (1280 + x.val) := by
  unfold turn
  pointwise [k0_pay5, k0_pay6, k0_pay7]
  have := x.isLt
  exact Cert.Rows.tile_of (fun j => z (ix2 r j)) (fun x => A (ix3 0 r x)) (fun x => B (ix3 0 r x)) (fun x => D (ix3 0 r x))
    _ _ _ _ _ _ (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega)

theorem turn_1408 (z : FVec Ideal S512x1664 .f32) (A B D : Vec Ideal S1x512x128 .f32) (r : Fin 512) (x : Fin 128) :
    turn 1408 slices_S512x1664_o0_1408_S512x128 z A B D (ix2 r x)
      = Cert.Rows.tile 8 (Cert.Rows.ext fun j => z (ix2 r j)) (Cert.Rows.ext fun x => A (ix3 0 r x))
        (Cert.Rows.ext fun x => B (ix3 0 r x)) (Cert.Rows.ext fun x => D (ix3 0 r x)) (1408 + x.val) := by
  unfold turn
  pointwise [k0_pay5, k0_pay6, k0_pay7]
  have := x.isLt
  exact Cert.Rows.tile_of (fun j => z (ix2 r j)) (fun x => A (ix3 0 r x)) (fun x => B (ix3 0 r x)) (fun x => D (ix3 0 r x))
    _ _ _ _ _ _ (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega)

theorem turn_1536 (z : FVec Ideal S512x1664 .f32) (A B D : Vec Ideal S1x512x128 .f32) (r : Fin 512) (x : Fin 128) :
    turn 1536 slices_S512x1664_o0_1536_S512x128 z A B D (ix2 r x)
      = Cert.Rows.tile 8 (Cert.Rows.ext fun j => z (ix2 r j)) (Cert.Rows.ext fun x => A (ix3 0 r x))
        (Cert.Rows.ext fun x => B (ix3 0 r x)) (Cert.Rows.ext fun x => D (ix3 0 r x)) (1536 + x.val) := by
  unfold turn
  pointwise [k0_pay5, k0_pay6, k0_pay7]
  have := x.isLt
  exact Cert.Rows.tile_of (fun j => z (ix2 r j)) (fun x => A (ix3 0 r x)) (fun x => B (ix3 0 r x)) (fun x => D (ix3 0 r x))
    _ _ _ _ _ _ (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega)

set_option maxRecDepth 8192 in
set_option maxHeartbeats 4000000 in
theorem rotated7 {x0 x1 x4} (A B D : Vec Ideal S1x512x128 .f32) (r : Fin 512) (l : Fin 1664) :
    k0_pay21 (F := Ideal) (k0_pay4 x0 x1 x4) (k0_pay5 A) (k0_pay6 B) (k0_pay7 D) (k0_pay8 x0 x1 x4 A B D)
      (k0_pay12 (k0_pay5 A) (k0_pay6 B) (k0_pay7 D) (k0_pay9 x0 x1 x4) (k0_pay10 x0 x1 x4) (k0_pay11 x0 x1 x4))
      (k0_pay13 (k0_pay4 x0 x1 x4) (k0_pay5 A) (k0_pay6 B) (k0_pay7 D)) (k0_pay14 (k0_pay4 x0 x1 x4) (k0_pay5 A) (k0_pay6 B) (k0_pay7 D))
      (k0_pay15 (k0_pay4 x0 x1 x4) (k0_pay5 A) (k0_pay6 B) (k0_pay7 D)) (k0_pay16 (k0_pay4 x0 x1 x4) (k0_pay5 A) (k0_pay6 B) (k0_pay7 D))
      (k0_pay17 (k0_pay4 x0 x1 x4) (k0_pay5 A) (k0_pay6 B) (k0_pay7 D)) (k0_pay18 (k0_pay4 x0 x1 x4)) (k0_pay19 (k0_pay4 x0 x1 x4))
      (k0_pay20 (k0_pay4 x0 x1 x4)) (ix2 r l)
      = Cert.Rows.tile 8 (Cert.Rows.ext fun j => k0_pay4 x0 x1 x4 (ix2 r j)) (Cert.Rows.ext fun x => A (ix3 0 r x))
        (Cert.Rows.ext fun x => B (ix3 0 r x)) (Cert.Rows.ext fun x => D (ix3 0 r x)) l.val := by
  show concatenate S512x1664 1 [⟨S512x128, turn 0 slices_S512x1664_o0_0_S512x128 (k0_pay4 x0 x1 x4) A B D⟩, ⟨S512x128, turn 128 slices_S512x1664_o0_128_S512x128 (k0_pay4 x0 x1 x4) A B D⟩, ⟨S512x128, turn 256 slices_S512x1664_o0_256_S512x128 (k0_pay4 x0 x1 x4) A B D⟩, ⟨S512x128, turn 384 slices_S512x1664_o0_384_S512x128 (k0_pay4 x0 x1 x4) A B D⟩, ⟨S512x128, turn 512 slices_S512x1664_o0_512_S512x128 (k0_pay4 x0 x1 x4) A B D⟩, ⟨S512x128, turn 640 slices_S512x1664_o0_640_S512x128 (k0_pay4 x0 x1 x4) A B D⟩, ⟨S512x128, turn 768 slices_S512x1664_o0_768_S512x128 (k0_pay4 x0 x1 x4) A B D⟩, ⟨S512x128, turn 896 slices_S512x1664_o0_896_S512x128 (k0_pay4 x0 x1 x4) A B D⟩, ⟨S512x128, turn 1024 slices_S512x1664_o0_1024_S512x128 (k0_pay4 x0 x1 x4) A B D⟩, ⟨S512x128, turn 1152 slices_S512x1664_o0_1152_S512x128 (k0_pay4 x0 x1 x4) A B D⟩, ⟨S512x128, turn 1280 slices_S512x1664_o0_1280_S512x128 (k0_pay4 x0 x1 x4) A B D⟩, ⟨S512x128, turn 1408 slices_S512x1664_o0_1408_S512x128 (k0_pay4 x0 x1 x4) A B D⟩, ⟨S512x128, turn 1536 slices_S512x1664_o0_1536_S512x128 (k0_pay4 x0 x1 x4) A B D⟩] concatenates_S512x128_S512x128_S512x128_S512x128_S512x128_S512x128_S512x128_S512x128_S512x128_S512x128_S512x128_S512x128_S512x128_S512x1664_d1 (ix2 r l) = _
  generalize k0_pay4 x0 x1 x4 = z
  pointwise
  have := l.isLt
  refine Cert.Rows.dite_of (fun _ => (turn_0 z A B D r _).trans (congrArg _ (by first | (dsimp only; omega) | (dsimp only; done)))) (fun _ => ?_)
  refine Cert.Rows.dite_of (fun _ => (turn_128 z A B D r _).trans (congrArg _ (by first | (dsimp only; omega) | (dsimp only; done)))) (fun _ => ?_)
  refine Cert.Rows.dite_of (fun _ => (turn_256 z A B D r _).trans (congrArg _ (by first | (dsimp only; omega) | (dsimp only; done)))) (fun _ => ?_)
  refine Cert.Rows.dite_of (fun _ => (turn_384 z A B D r _).trans (congrArg _ (by first | (dsimp only; omega) | (dsimp only; done)))) (fun _ => ?_)
  refine Cert.Rows.dite_of (fun _ => (turn_512 z A B D r _).trans (congrArg _ (by first | (dsimp only; omega) | (dsimp only; done)))) (fun _ => ?_)
  refine Cert.Rows.dite_of (fun _ => (turn_640 z A B D r _).trans (congrArg _ (by first | (dsimp only; omega) | (dsimp only; done)))) (fun _ => ?_)
  refine Cert.Rows.dite_of (fun _ => (turn_768 z A B D r _).trans (congrArg _ (by first | (dsimp only; omega) | (dsimp only; done)))) (fun _ => ?_)
  refine Cert.Rows.dite_of (fun _ => (turn_896 z A B D r _).trans (congrArg _ (by first | (dsimp only; omega) | (dsimp only; done)))) (fun _ => ?_)
  refine Cert.Rows.dite_of (fun _ => (turn_1024 z A B D r _).trans (congrArg _ (by first | (dsimp only; omega) | (dsimp only; done)))) (fun _ => ?_)
  refine Cert.Rows.dite_of (fun _ => (turn_1152 z A B D r _).trans (congrArg _ (by first | (dsimp only; omega) | (dsimp only; done)))) (fun _ => ?_)
  refine Cert.Rows.dite_of (fun _ => (turn_1280 z A B D r _).trans (congrArg _ (by first | (dsimp only; omega) | (dsimp only; done)))) (fun _ => ?_)
  refine Cert.Rows.dite_of (fun _ => (turn_1408 z A B D r _).trans (congrArg _ (by first | (dsimp only; omega) | (dsimp only; done)))) (fun _ => ?_)
  exact (turn_1536 z A B D r _).trans (congrArg _ (by first | (dsimp only; omega) | (dsimp only; done)))

theorem rotated8 (x : Vec Ideal S512x1024 .f32) (g : Vec Ideal S1x1024 .f32) (w : Vec Ideal S1024x256 .bf16) (A B D : Vec Ideal S1x512x128 .f32) (r : Fin 512) (l : Fin 256) :
    k0_pay1 (k0_pay3 x g) w A B D (ix2 r l)
      = Cert.Rows.tile 4 (Cert.Rows.ext fun j => Cert.Rows.proj (fun k => x (ix2 r k)) (fun k => g (ix2 0 k)) (fun k => w (ix2 k j))) (Cert.Rows.ext fun x => A (ix3 0 r x))
        (Cert.Rows.ext fun x => B (ix3 0 r x)) (Cert.Rows.ext fun x => D (ix3 0 r x)) l.val := by
  unfold k0_pay1
  dsimp only
  generalize hz : matmul dot_S512x1024_S1024x256_S512x256_1_0_0_1_n_n none (k0_pay3 x g) _ _ = z
  have e : ∀ j : Fin 256, Cert.Rows.proj (fun k => x (ix2 r k)) (fun k => g (ix2 0 k)) (fun k => w (ix2 k j)) = z (ix2 r j) := by
    intro j
    rw [← hz]
    pointwise
    simp only [pay3_apply]
    rfl
  simp only [e]
  pointwise
  have := l.isLt
  split_ifs <;> exact Cert.Rows.tile_of (fun j => z (ix2 r j)) (fun x => A (ix3 0 r x)) (fun x => B (ix3 0 r x)) (fun x => D (ix3 0 r x))
    _ _ _ _ _ _ (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega) (by first | (dsimp only; omega) | (dsimp only; done) | omega)

theorem out7_apply (x0 : Vec Ideal S512x1024 .f32) (x1 : Vec Ideal S1x1024 .f32) (x2 x3 : Vec Ideal S3x512x128 .f32) (x4 : Vec Ideal S1024x1664 .bf16) (x5 : Vec Ideal S1024x256 .bf16) (x6 : Vec Ideal S1024x640 .bf16) (r : Fin 512) (l : Fin 1664) :
    out0_7 x0 x1 x2 x3 x4 x5 x6 (ix2 r l) = Cert.Rows.tile 8 (Cert.Rows.ext fun j => Cert.Rows.proj (fun k => x0 (ix2 r k)) (fun k => x1 (ix2 0 k)) (fun k => x4 (ix2 k j))) (Cert.Rows.ext fun x => x2 (ix3 0 r x)) (Cert.Rows.ext fun x => x2 (ix3 1 r x)) (Cert.Rows.ext fun x => x2 (ix3 2 r x)) l.val := by
  unfold_out out0_7
  rw [View.canon_unit_zero hz, View.ld_unit_zero hz, View.ld_unit_zero hz, View.ld_unit_zero hz]
  exact (rotated7 _ _ _ r l).trans (Cert.Rows.tile_congr (fun j => pay4_apply _ _ _ r j) (fun x => ld_0 _ r x) (fun x => ld_1 _ r x) (fun x => ld_2 _ r x) _)

theorem out8_apply (x0 : Vec Ideal S512x1024 .f32) (x1 : Vec Ideal S1x1024 .f32) (x2 x3 : Vec Ideal S3x512x128 .f32) (x4 : Vec Ideal S1024x1664 .bf16) (x5 : Vec Ideal S1024x256 .bf16) (x6 : Vec Ideal S1024x640 .bf16) (r : Fin 512) (l : Fin 256) :
    out0_8 x0 x1 x2 x3 x4 x5 x6 (ix2 r l) = Cert.Rows.tile 4 (Cert.Rows.ext fun j => Cert.Rows.proj (fun k => x0 (ix2 r k)) (fun k => x1 (ix2 0 k)) (fun k => x5 (ix2 k j))) (Cert.Rows.ext fun x => x3 (ix3 0 r x)) (Cert.Rows.ext fun x => x3 (ix3 1 r x)) (Cert.Rows.ext fun x => x3 (ix3 2 r x)) l.val := by
  unfold_out out0_8
  rw [View.canon_unit_zero hz, View.ld_unit_zero hz, View.ld_unit_zero hz, View.ld_unit_zero hz]
  exact (rotated8 _ _ _ _ _ _ r l).trans (Cert.Rows.tile_congr (fun _ => rfl) (fun x => ld_0 _ r x) (fun x => ld_1 _ r x) (fun x => ld_2 _ r x) _)

theorem out9_apply (x0 : Vec Ideal S512x1024 .f32) (x1 : Vec Ideal S1x1024 .f32) (x2 x3 : Vec Ideal S3x512x128 .f32) (x4 : Vec Ideal S1024x1664 .bf16) (x5 : Vec Ideal S1024x256 .bf16) (x6 : Vec Ideal S1024x640 .bf16) (r : Fin 512) (l : Fin 640) :
    out0_9 x0 x1 x2 x3 x4 x5 x6 (ix2 r l) = Cert.Rows.proj (fun k => x0 (ix2 r k)) (fun k => x1 (ix2 0 k)) (fun k => x6 (ix2 k l)) := by
  unfold_out out0_9
  rw [View.canon_unit_zero hz, View.ld_unit_zero hz, View.ld_unit_zero hz, View.ld_unit_zero hz]
  exact pay2_apply _ _ _ r l

end Cert.InOddIdeal.Rows
end
-- ==== Proof.InOddReads.lean ====
module

public import proofs.«01_k».proof.Defs
public import proofs.«01_k».proof.Proof.Gen.InOddIdeal.Value
public import proofs.«01_k».proof.Proof.InOddSpec
public import Idealize.ShloMosaic.Lib.Pointwise
public import Idealize.ShloMosaic.Lib.Claim
public import Idealize.ShloMosaic.Lib.StableHlo.ReadAt

/-! The input projection's kernel: what each of its result arrays holds after the run. -/

@[expose] public section
noncomputable section
open Idealize.ShloMosaic Idealize.ShloMosaic.TcCoe Idealize.SL.Sem
open Idealize.ShloMosaic.Pipeline (Dat)

namespace Cert.InOddIdeal.Rows
open Cert.InOddIdeal Cert.InOddIdeal.Gen Cert.InOddPair

variable (m : (ℓ : Loc nD τ sig) → Buf (Elt Ideal) ℓ) (ρ : Dev nD → PrngReg)

theorem V_gain (c : Dev nD) (r : Fin 1) (l : Fin 1024) : V m c main_v91 (ix2 r l) = m ((c : Thread nD τ).loc main_arg2) (ix1 l) := by
  unfold V
  after_reads_simp
  pointwise

set_option maxHeartbeats 4000000 in
theorem V_rope (c : Dev nD) (r : Fin 1024) (l : Fin 1664) :
    V m c main_v92 (ix2 r l) = ropeCol (fun j => m ((c : Thread nD τ).loc main_arg3) (ix2 r j)) l := by
  unfold V
  after_reads_simp
  pointwise
  after_reads_simp
  pointwise
  unfold ropeCol
  split_ifs <;> rfl

set_option maxHeartbeats 4000000 in
theorem V_ropei (c : Dev nD) (r : Fin 1024) (l : Fin 256) :
    V m c main_v93 (ix2 r l) = ropeiCol (fun j => m ((c : Thread nD τ).loc main_arg3) (ix2 r j)) l := by
  unfold V
  after_reads_simp
  pointwise
  after_reads_simp
  pointwise
  unfold ropeiCol
  split_ifs <;> rfl

set_option maxHeartbeats 4000000 in
theorem V_plain (c : Dev nD) (r : Fin 1024) (l : Fin 640) :
    V m c main_v94 (ix2 r l) = plainCol (fun j => m ((c : Thread nD τ).loc main_arg3) (ix2 r j)) l := by
  unfold V
  after_reads_simp
  pointwise
  after_reads_simp
  pointwise
  unfold plainCol
  split_ifs <;> rfl

set_option maxHeartbeats 4000000 in
set_option maxRecDepth 8192 in
theorem V_table64_0 (c : Dev nD) (r : Fin 32768) (l : Fin 128) :
    V m c main_v37 (ix3 0 r l) = Cert.Rows.tabA 8 64
      (fun e => Ideal.cos (Cert.Rows.angle 1098907648#32 (m ((c : Thread nD τ).loc main_arg1) (ix2 ⟨r.val / 2048, by omega⟩ ⟨r.val % 2048, by omega⟩)) e)) l.val := by
  unfold V
  after_reads_simp
  pointwise
  after_reads_simp
  pointwise
  after_reads_simp
  pointwise
  unfold Cert.Rows.tabA
  split_ifs <;> rfl

set_option maxHeartbeats 4000000 in
set_option maxRecDepth 8192 in
theorem V_table64_1 (c : Dev nD) (r : Fin 32768) (l : Fin 128) :
    V m c main_v37 (ix3 1 r l) = Cert.Rows.tabB 8 64
      (fun e => Ideal.sin (Cert.Rows.angle 1098907648#32 (m ((c : Thread nD τ).loc main_arg1) (ix2 ⟨r.val / 2048, by omega⟩ ⟨r.val % 2048, by omega⟩)) e)) l.val := by
  unfold V
  after_reads_simp
  pointwise
  after_reads_simp
  pointwise
  after_reads_simp
  pointwise
  unfold Cert.Rows.tabB
  split_ifs <;> rfl

set_option maxHeartbeats 4000000 in
set_option maxRecDepth 8192 in
theorem V_table64_2 (c : Dev nD) (r : Fin 32768) (l : Fin 128) :
    V m c main_v37 (ix3 2 r l) = Cert.Rows.tabD 8 64
      (fun e => Ideal.sin (Cert.Rows.angle 1098907648#32 (m ((c : Thread nD τ).loc main_arg1) (ix2 ⟨r.val / 2048, by omega⟩ ⟨r.val % 2048, by omega⟩)) e)) l.val := by
  unfold V
  after_reads_simp
  pointwise
  after_reads_simp
  pointwise
  after_reads_simp
  pointwise
  unfold Cert.Rows.tabD
  split_ifs <;> rfl

set_option maxHeartbeats 4000000 in
set_option maxRecDepth 8192 in
theorem V_table32_0 (c : Dev nD) (r : Fin 32768) (l : Fin 128) :
    V m c main_v75 (ix3 0 r l) = Cert.Rows.tabA 4 32
      (fun e => Ideal.cos (Cert.Rows.angle 1090519040#32 (m ((c : Thread nD τ).loc main_arg1) (ix2 ⟨r.val / 2048, by omega⟩ ⟨r.val % 2048, by omega⟩)) e)) l.val := by
  unfold V
  after_reads_simp
  pointwise
  after_reads_simp
  pointwise
  after_reads_simp
  pointwise
  unfold Cert.Rows.tabA
  split_ifs <;> rfl

set_option maxHeartbeats 4000000 in
set_option maxRecDepth 8192 in
theorem V_table32_1 (c : Dev nD) (r : Fin 32768) (l : Fin 128) :
    V m c main_v75 (ix3 1 r l) = Cert.Rows.tabB 4 32
      (fun e => Ideal.sin (Cert.Rows.angle 1090519040#32 (m ((c : Thread nD τ).loc main_arg1) (ix2 ⟨r.val / 2048, by omega⟩ ⟨r.val % 2048, by omega⟩)) e)) l.val := by
  unfold V
  after_reads_simp
  pointwise
  after_reads_simp
  pointwise
  after_reads_simp
  pointwise
  unfold Cert.Rows.tabB
  split_ifs <;> rfl

set_option maxHeartbeats 4000000 in
set_option maxRecDepth 8192 in
theorem V_table32_2 (c : Dev nD) (r : Fin 32768) (l : Fin 128) :
    V m c main_v75 (ix3 2 r l) = Cert.Rows.tabD 4 32
      (fun e => Ideal.sin (Cert.Rows.angle 1090519040#32 (m ((c : Thread nD τ).loc main_arg1) (ix2 ⟨r.val / 2048, by omega⟩ ⟨r.val % 2048, by omega⟩)) e)) l.val := by
  unfold V
  after_reads_simp
  pointwise
  after_reads_simp
  pointwise
  after_reads_simp
  pointwise
  unfold Cert.Rows.tabD
  split_ifs <;> rfl

end Cert.InOddIdeal.Rows
end
-- ==== Proof.InOddBlocks.lean ====
module

public import proofs.«01_k».proof.Defs
public import proofs.«01_k».proof.Proof.InOddRows
public import proofs.«01_k».proof.Proof.InOddReads
public import proofs.«01_k».proof.Proof.Gen.InOddIdeal.Value
public import proofs.«01_k».proof.Proof.InOddSpec
public import Idealize.ShloMosaic.Lib.Pointwise
public import Idealize.ShloMosaic.Lib.Claim
public import Idealize.ShloMosaic.Lib.StableHlo.ReadAt

/-! The input projection's kernel: what each of its result arrays holds after the run. -/

@[expose] public section
noncomputable section
open Idealize.ShloMosaic Idealize.ShloMosaic.TcCoe Idealize.SL.Sem
open Idealize.ShloMosaic.Pipeline (Dat)

namespace Cert.InOddIdeal.Rows
open Cert.InOddIdeal Cert.InOddIdeal.Gen Cert.InOddPair

variable (m : (ℓ : Loc nD τ sig) → Buf (Elt Ideal) ℓ) (ρ : Dev nD → PrngReg)

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = t.val ∧ win0_7.index t 1 = 0 := by decide +kernel
theorem idx8 : ∀ t : Fin grid0.N, win0_8.index t 0 = t.val ∧ win0_8.index t 1 = 0 := by decide +kernel
theorem idx9 : ∀ t : Fin grid0.N, win0_9.index t 0 = t.val ∧ win0_9.index t 1 = 0 := by decide +kernel

/-- Row `r` of block `t` is a row of the array. -/
abbrev row (t : Fin cfg0.N) (r : Fin 512) : Fin 32768 :=
  ⟨t.val * 512 + r.val, by have := t.isLt; have : cfg0.N = 64 := N_0; omega⟩

theorem emb0 (t : Fin cfg0.N) (r : Fin 512) (l : Fin 1024) : ((cfg0.win 0).blk t).view.emb (ix2 r l) = ix2 (row t r) l := by
  funext a
  apply Fin.ext
  match a with
  | ⟨0, _⟩ => show win0_0.index t 0 * 512 + 1 * r.val = _; rw [(idx0 t).1, Nat.one_mul]; rfl
  | ⟨1, _⟩ => show win0_0.index t 1 * 1024 + 1 * l.val = _; rw [(idx0 t).2]; show 0 * 1024 + 1 * l.val = l.val; omega

theorem emb1 (t : Fin cfg0.N) (r : Fin 1) (l : Fin 1024) : ((cfg0.win 1).blk t).view.emb (ix2 r l) = ix2 r l := by
  funext a
  apply Fin.ext
  match a with
  | ⟨0, _⟩ => show win0_1.index t 0 * 1 + 1 * r.val = r.val; rw [(idx1 t).1]; omega
  | ⟨1, _⟩ => show win0_1.index t 1 * 1024 + 1 * l.val = _; rw [(idx1 t).2]; show 0 * 1024 + 1 * l.val = l.val; omega

theorem emb4 (t : Fin cfg0.N) (r : Fin 1024) (l : Fin 1664) : ((cfg0.win 4).blk t).view.emb (ix2 r l) = ix2 r l := by
  funext a
  apply Fin.ext
  match a with
  | ⟨0, _⟩ => show win0_4.index t 0 * 1024 + 1 * r.val = r.val; rw [(idx4 t).1]; omega
  | ⟨1, _⟩ => show win0_4.index t 1 * 1664 + 1 * l.val = _; rw [(idx4 t).2]; show 0 * 1664 + 1 * l.val = l.val; omega

theorem emb5 (t : Fin cfg0.N) (r : Fin 1024) (l : Fin 256) : ((cfg0.win 5).blk t).view.emb (ix2 r l) = ix2 r l := by
  funext a
  apply Fin.ext
  match a with
  | ⟨0, _⟩ => show win0_5.index t 0 * 1024 + 1 * r.val = r.val; rw [(idx5 t).1]; omega
  | ⟨1, _⟩ => show win0_5.index t 1 * 256 + 1 * l.val = _; rw [(idx5 t).2]; show 0 * 256 + 1 * l.val = l.val; omega

theorem emb6 (t : Fin cfg0.N) (r : Fin 1024) (l : Fin 640) : ((cfg0.win 6).blk t).view.emb (ix2 r l) = ix2 r l := by
  funext a
  apply Fin.ext
  match a with
  | ⟨0, _⟩ => show win0_6.index t 0 * 1024 + 1 * r.val = r.val; rw [(idx6 t).1]; omega
  | ⟨1, _⟩ => show win0_6.index t 1 * 640 + 1 * l.val = _; rw [(idx6 t).2]; show 0 * 640 + 1 * l.val = l.val; omega

theorem emb7 (t : Fin cfg0.N) (r : Fin 512) (l : Fin 1664) : ((cfg0.win 7).blk t).view.emb (ix2 r l) = ix2 (row t r) l := by
  funext a
  apply Fin.ext
  match a with
  | ⟨0, _⟩ => show win0_7.index t 0 * 512 + 1 * r.val = _; rw [(idx7 t).1, Nat.one_mul]; rfl
  | ⟨1, _⟩ => show win0_7.index t 1 * 1664 + 1 * l.val = _; rw [(idx7 t).2]; show 0 * 1664 + 1 * l.val = l.val; omega

theorem emb8 (t : Fin cfg0.N) (r : Fin 512) (l : Fin 256) : ((cfg0.win 8).blk t).view.emb (ix2 r l) = ix2 (row t r) l := by
  funext a
  apply Fin.ext
  match a with
  | ⟨0, _⟩ => show win0_8.index t 0 * 512 + 1 * r.val = _; rw [(idx8 t).1, Nat.one_mul]; rfl
  | ⟨1, _⟩ => show win0_8.index t 1 * 256 + 1 * l.val = _; rw [(idx8 t).2]; show 0 * 256 + 1 * l.val = l.val; omega

theorem emb9 (t : Fin cfg0.N) (r : Fin 512) (l : Fin 640) : ((cfg0.win 9).blk t).view.emb (ix2 r l) = ix2 (row t r) l := by
  funext a
  apply Fin.ext
  match a with
  | ⟨0, _⟩ => show win0_9.index t 0 * 512 + 1 * r.val = _; rw [(idx9 t).1, Nat.one_mul]; rfl
  | ⟨1, _⟩ => show win0_9.index t 1 * 640 + 1 * l.val = _; rw [(idx9 t).2]; show 0 * 640 + 1 * l.val = l.val; omega

theorem idx2 : ∀ t : Fin grid0.N, win0_2.index t 0 = 0 ∧ win0_2.index t 1 = t.val ∧ win0_2.index t 2 = 0 := by decide +kernel

theorem emb2 (t : Fin cfg0.N) (z : Fin 3) (r : Fin 512) (l : Fin 128) : ((cfg0.win 2).blk t).view.emb (ix3 z r l) = ix3 z (row t r) l := by
  funext a
  apply Fin.ext
  match a with
  | ⟨0, _⟩ => show win0_2.index t 0 * 3 + 1 * z.val = z.val; rw [(idx2 t).1]; omega
  | ⟨1, _⟩ => show win0_2.index t 1 * 512 + 1 * r.val = _; rw [(idx2 t).2.1, Nat.one_mul]; rfl
  | ⟨2, _⟩ => show win0_2.index t 2 * 128 + 1 * l.val = l.val; rw [(idx2 t).2.2]; omega

theorem idx3 : ∀ t : Fin grid0.N, win0_3.index t 0 = 0 ∧ win0_3.index t 1 = t.val ∧ win0_3.index t 2 = 0 := by decide +kernel

theorem emb3 (t : Fin cfg0.N) (z : Fin 3) (r : Fin 512) (l : Fin 128) : ((cfg0.win 3).blk t).view.emb (ix3 z r l) = ix3 z (row t r) l := by
  funext a
  apply Fin.ext
  match a with
  | ⟨0, _⟩ => show win0_3.index t 0 * 3 + 1 * z.val = z.val; rw [(idx3 t).1]; omega
  | ⟨1, _⟩ => show win0_3.index t 1 * 512 + 1 * r.val = _; rw [(idx3 t).2.1, Nat.one_mul]; rfl
  | ⟨2, _⟩ => show win0_3.index t 2 * 128 + 1 * l.val = l.val; rw [(idx3 t).2.2]; omega

theorem b0 (c : Dev nD) (t : Fin cfg0.N) (r : Fin 512) (l : Fin 1024) :
    iblk m c 0 t (ix2 r l) = m ((c : Thread nD τ).loc main_arg0) (ix2 (row t r) l) := by
  unfold iblk
  rw [View.read_apply, emb0]
  show V m c main_arg0 _ = _
  rw [V_main_arg0]

theorem b1 (c : Dev nD) (t : Fin cfg0.N) (r : Fin 1) (l : Fin 1024) :
    iblk m c 1 t (ix2 r l) = m ((c : Thread nD τ).loc main_arg2) (ix1 l) := by
  unfold iblk
  rw [View.read_apply, emb1]
  exact V_gain m c r l

theorem b4 (c : Dev nD) (t : Fin cfg0.N) (r : Fin 1024) (l : Fin 1664) :
    iblk m c 4 t (ix2 r l) = ropeCol (fun j => m ((c : Thread nD τ).loc main_arg3) (ix2 r j)) l := by
  unfold iblk
  rw [View.read_apply, emb4]
  exact V_rope m c r l

theorem b5 (c : Dev nD) (t : Fin cfg0.N) (r : Fin 1024) (l : Fin 256) :
    iblk m c 5 t (ix2 r l) = ropeiCol (fun j => m ((c : Thread nD τ).loc main_arg3) (ix2 r j)) l := by
  unfold iblk
  rw [View.read_apply, emb5]
  exact V_ropei m c r l

theorem b6 (c : Dev nD) (t : Fin cfg0.N) (r : Fin 1024) (l : Fin 640) :
    iblk m c 6 t (ix2 r l) = plainCol (fun j => m ((c : Thread nD τ).loc main_arg3) (ix2 r j)) l := by
  unfold iblk
  rw [View.read_apply, emb6]
  exact V_plain m c r l

theorem b2_0 (c : Dev nD) (t : Fin cfg0.N) (r : Fin 512) (l : Fin 128) :
    iblk m c 2 t (ix3 0 r l) = Cert.Rows.tabA 8 64
      (fun e => Ideal.cos (Cert.Rows.angle 1098907648#32 (m ((c : Thread nD τ).loc main_arg1) (ix2 ⟨(row t r).val / 2048, by have := (row t r).isLt; omega⟩ ⟨(row t r).val % 2048, by omega⟩)) e)) l.val := by
  unfold iblk
  rw [View.read_apply, emb2]
  exact V_table64_0 m c (row t r) l

theorem b2_1 (c : Dev nD) (t : Fin cfg0.N) (r : Fin 512) (l : Fin 128) :
    iblk m c 2 t (ix3 1 r l) = Cert.Rows.tabB 8 64
      (fun e => Ideal.sin (Cert.Rows.angle 1098907648#32 (m ((c : Thread nD τ).loc main_arg1) (ix2 ⟨(row t r).val / 2048, by have := (row t r).isLt; omega⟩ ⟨(row t r).val % 2048, by omega⟩)) e)) l.val := by
  unfold iblk
  rw [View.read_apply, emb2]
  exact V_table64_1 m c (row t r) l

theorem b2_2 (c : Dev nD) (t : Fin cfg0.N) (r : Fin 512) (l : Fin 128) :
    iblk m c 2 t (ix3 2 r l) = Cert.Rows.tabD 8 64
      (fun e => Ideal.sin (Cert.Rows.angle 1098907648#32 (m ((c : Thread nD τ).loc main_arg1) (ix2 ⟨(row t r).val / 2048, by have := (row t r).isLt; omega⟩ ⟨(row t r).val % 2048, by omega⟩)) e)) l.val := by
  unfold iblk
  rw [View.read_apply, emb2]
  exact V_table64_2 m c (row t r) l

theorem b3_0 (c : Dev nD) (t : Fin cfg0.N) (r : Fin 512) (l : Fin 128) :
    iblk m c 3 t (ix3 0 r l) = Cert.Rows.tabA 4 32
      (fun e => Ideal.cos (Cert.Rows.angle 1090519040#32 (m ((c : Thread nD τ).loc main_arg1) (ix2 ⟨(row t r).val / 2048, by have := (row t r).isLt; omega⟩ ⟨(row t r).val % 2048, by omega⟩)) e)) l.val := by
  unfold iblk
  rw [View.read_apply, emb3]
  exact V_table32_0 m c (row t r) l

theorem b3_1 (c : Dev nD) (t : Fin cfg0.N) (r : Fin 512) (l : Fin 128) :
    iblk m c 3 t (ix3 1 r l) = Cert.Rows.tabB 4 32
      (fun e => Ideal.sin (Cert.Rows.angle 1090519040#32 (m ((c : Thread nD τ).loc main_arg1) (ix2 ⟨(row t r).val / 2048, by have := (row t r).isLt; omega⟩ ⟨(row t r).val % 2048, by omega⟩)) e)) l.val := by
  unfold iblk
  rw [View.read_apply, emb3]
  exact V_table32_1 m c (row t r) l

theorem b3_2 (c : Dev nD) (t : Fin cfg0.N) (r : Fin 512) (l : Fin 128) :
    iblk m c 3 t (ix3 2 r l) = Cert.Rows.tabD 4 32
      (fun e => Ideal.sin (Cert.Rows.angle 1090519040#32 (m ((c : Thread nD τ).loc main_arg1) (ix2 ⟨(row t r).val / 2048, by have := (row t r).isLt; omega⟩ ⟨(row t r).val % 2048, by omega⟩)) e)) l.val := by
  unfold iblk
  rw [View.read_apply, emb3]
  exact V_table32_2 m c (row t r) l

/-- Result 0: every entry as the row function of the token's row. -/
def G7 (c : Dev nD) : Buf (Elt Ideal) ((c : Thread nD τ).loc main_v95_0) := fun i =>
  out7 (fun k => m ((c : Thread nD τ).loc main_arg0) (ix2 (i 0) k)) (fun k => m ((c : Thread nD τ).loc main_arg2) (ix1 k))
    (m ((c : Thread nD τ).loc main_arg1) (ix2 ⟨(i 0).val / 2048, by have : (i 0).val < 32768 := (i 0).isLt; omega⟩ ⟨(i 0).val % 2048, by omega⟩))
    (fun k j => m ((c : Thread nD τ).loc main_arg3) (ix2 k j)) (i 1)

theorem flushed_eq7 (c : Dev nD) (t : Fin cfg0.N) : (dats m 0 c).flushed 7 t = ((cfg0.win 7).blk t).view.read (Elt Ideal) (G7 m c) := by
  rw [Value.flushed7]
  funext j
  obtain ⟨r, l, rfl⟩ : ∃ (r : Fin 512) (l : Fin 1664), j = ix2 r l := ⟨j 0, j 1, eq_ix2 j⟩
  rw [View.read_apply, emb7]
  refine (out7_apply _ _ _ _ _ _ _ r l).trans ?_
  refine (Cert.Rows.tile_tables64 _ _ _ _ _ _ (fun x => b2_0 m c t r x) (fun x => b2_1 m c t r x) (fun x => b2_2 m c t r x) l.val).trans ?_
  simp only [b0, b1, b4, ropeCol_proj]
  rfl

theorem cover7 (i : S32768x1664.Idx) : ∃ t : Fin cfg0.N, (cfg0.win 7).flush t = true ∧ i ∈ ((cfg0.win 7).blk t).view.set := by
  have h0 : (i 0 : Nat) < 32768 := (i 0).isLt
  have hN : cfg0.N = 64 := N_0
  refine ⟨⟨(i 0 : Nat) / 512, by omega⟩, flush0_7 _, ?_⟩
  have e := emb7 ⟨(i 0 : Nat) / 512, by omega⟩ ⟨(i 0 : Nat) % 512, by omega⟩ (i 1)
  refine Finset.mem_map.mpr ⟨_, Finset.mem_univ _, e.trans ?_⟩
  refine Eq.trans ?_ (eq_ix2 i).symm
  congr 1
  apply Fin.ext
  show (i 0 : Nat) / 512 * 512 + (i 0 : Nat) % 512 = (i 0 : Nat)
  omega

theorem final7 (c : Dev nD) : (dats m 0 c).arrAt 7 cfg0.N = G7 m c :=
  (dats m 0 c).arrAt_eq_of_cover 7 (G7 m c) (fun t _ => flushed_eq7 m c t) cover7

/-- Result 1: every entry as the row function of the token's row. -/
def G8 (c : Dev nD) : Buf (Elt Ideal) ((c : Thread nD τ).loc main_v95_1) := fun i =>
  out8 (fun k => m ((c : Thread nD τ).loc main_arg0) (ix2 (i 0) k)) (fun k => m ((c : Thread nD τ).loc main_arg2) (ix1 k))
    (m ((c : Thread nD τ).loc main_arg1) (ix2 ⟨(i 0).val / 2048, by have : (i 0).val < 32768 := (i 0).isLt; omega⟩ ⟨(i 0).val % 2048, by omega⟩))
    (fun k j => m ((c : Thread nD τ).loc main_arg3) (ix2 k j)) (i 1)

theorem flushed_eq8 (c : Dev nD) (t : Fin cfg0.N) : (dats m 0 c).flushed 8 t = ((cfg0.win 8).blk t).view.read (Elt Ideal) (G8 m c) := by
  rw [Value.flushed8]
  funext j
  obtain ⟨r, l, rfl⟩ : ∃ (r : Fin 512) (l : Fin 256), j = ix2 r l := ⟨j 0, j 1, eq_ix2 j⟩
  rw [View.read_apply, emb8]
  refine (out8_apply _ _ _ _ _ _ _ r l).trans ?_
  refine (Cert.Rows.tile_tables32 _ _ _ _ _ _ (fun x => b3_0 m c t r x) (fun x => b3_1 m c t r x) (fun x => b3_2 m c t r x) l.val).trans ?_
  simp only [b0, b1, b5, ropeiCol_proj]
  rfl

theorem cover8 (i : S32768x256.Idx) : ∃ t : Fin cfg0.N, (cfg0.win 8).flush t = true ∧ i ∈ ((cfg0.win 8).blk t).view.set := by
  have h0 : (i 0 : Nat) < 32768 := (i 0).isLt
  have hN : cfg0.N = 64 := N_0
  refine ⟨⟨(i 0 : Nat) / 512, by omega⟩, flush0_8 _, ?_⟩
  have e := emb8 ⟨(i 0 : Nat) / 512, by omega⟩ ⟨(i 0 : Nat) % 512, by omega⟩ (i 1)
  refine Finset.mem_map.mpr ⟨_, Finset.mem_univ _, e.trans ?_⟩
  refine Eq.trans ?_ (eq_ix2 i).symm
  congr 1
  apply Fin.ext
  show (i 0 : Nat) / 512 * 512 + (i 0 : Nat) % 512 = (i 0 : Nat)
  omega

theorem final8 (c : Dev nD) : (dats m 0 c).arrAt 8 cfg0.N = G8 m c :=
  (dats m 0 c).arrAt_eq_of_cover 8 (G8 m c) (fun t _ => flushed_eq8 m c t) cover8

/-- Result 2: every entry as the row function of the token's row. -/
def G9 (c : Dev nD) : Buf (Elt Ideal) ((c : Thread nD τ).loc main_v95_2) := fun i =>
  out9 (fun k => m ((c : Thread nD τ).loc main_arg0) (ix2 (i 0) k)) (fun k => m ((c : Thread nD τ).loc main_arg2) (ix1 k))
    (m ((c : Thread nD τ).loc main_arg1) (ix2 ⟨(i 0).val / 2048, by have : (i 0).val < 32768 := (i 0).isLt; omega⟩ ⟨(i 0).val % 2048, by omega⟩))
    (fun k j => m ((c : Thread nD τ).loc main_arg3) (ix2 k j)) (i 1)

theorem flushed_eq9 (c : Dev nD) (t : Fin cfg0.N) : (dats m 0 c).flushed 9 t = ((cfg0.win 9).blk t).view.read (Elt Ideal) (G9 m c) := by
  rw [Value.flushed9]
  funext j
  obtain ⟨r, l, rfl⟩ : ∃ (r : Fin 512) (l : Fin 640), j = ix2 r l := ⟨j 0, j 1, eq_ix2 j⟩
  rw [View.read_apply, emb9]
  refine (out9_apply _ _ _ _ _ _ _ r l).trans ?_
  simp only [b0, b1, b6, plainCol_proj]
  rfl

theorem cover9 (i : S32768x640.Idx) : ∃ t : Fin cfg0.N, (cfg0.win 9).flush t = true ∧ i ∈ ((cfg0.win 9).blk t).view.set := by
  have h0 : (i 0 : Nat) < 32768 := (i 0).isLt
  have hN : cfg0.N = 64 := N_0
  refine ⟨⟨(i 0 : Nat) / 512, by omega⟩, flush0_9 _, ?_⟩
  have e := emb9 ⟨(i 0 : Nat) / 512, by omega⟩ ⟨(i 0 : Nat) % 512, by omega⟩ (i 1)
  refine Finset.mem_map.mpr ⟨_, Finset.mem_univ _, e.trans ?_⟩
  refine Eq.trans ?_ (eq_ix2 i).symm
  congr 1
  apply Fin.ext
  show (i 0 : Nat) / 512 * 512 + (i 0 : Nat) % 512 = (i 0 : Nat)
  omega

theorem final9 (c : Dev nD) : (dats m 0 c).arrAt 9 cfg0.N = G9 m c :=
  (dats m 0 c).arrAt_eq_of_cover 9 (G9 m c) (fun t _ => flushed_eq9 m c t) cover9

end Cert.InOddIdeal.Rows
end
-- ==== Proof.InOddReference.lean ====
module

public import proofs.«01_k».proof.Defs
public import proofs.«01_k».proof.Proof.Gen.InOddRefIdeal.Run
public import proofs.«01_k».proof.Proof.InOddSpec
public import Idealize.ShloMosaic.Lib.Pointwise
public import Idealize.ShloMosaic.Lib.Claim

/-! The input projection's reference: each result entry is the row function of the token's row. -/

@[expose] public section
noncomputable section
open Idealize.ShloMosaic Idealize.ShloMosaic.TcCoe Idealize.SL.Sem

namespace Cert.InOddRefIdeal.Rows
open Cert.InOddRefIdeal Cert.InOddPair

variable (m : (ℓ : Loc nD τ sig) → Buf (Elt Ideal) ℓ)

theorem cos8_angle (P : IVec S16x2048 32) (r : Fin 32768) (e : Fin 8) :
    Host.cos (F := Ideal)
      (mulf
        (broadcastInDim S32768x8 ![0, 1] Gen.bcast_S32768x1_S32768x8_0_1
          (shapeCast S32768x1 (sitofp FTy.f32 P) Gen.shapeCasts_S16x2048_S32768x1))
        (broadcastInDim S32768x8 ![0, 1] Gen.bcast_S1x8_S32768x8_0_1
          (broadcastInDim S1x8 ![1] Gen.bcast_S8_S1x8_1
            (Host.powf (broadcastInDim S8 ![] Gen.bcast_S_S8 (constant S_ FTy.f32 1223959552#32))
              (Host.divf
                (Host.negf
                  (addf (broadcastInDim S8 ![] Gen.bcast_S_S8 (constant S_ FTy.f32 0#32))
                    (mulf (broadcastInDim S8 ![] Gen.bcast_S_S8 (constant S_ FTy.f32 1073741824#32))
                      (sitofp FTy.f32 (iotaInDim S8 32 0)))))
                (broadcastInDim S8 ![] Gen.bcast_S_S8 (constant S_ FTy.f32 1098907648#32))))))) (ix2 r e)
      = Ideal.cos (Cert.Rows.angle 1098907648#32 (P (ix2 ⟨r.val / 2048, by omega⟩ ⟨r.val % 2048, by omega⟩)) e.val) := by
  pointwise
  rfl

theorem sin8_angle (P : IVec S16x2048 32) (r : Fin 32768) (e : Fin 8) :
    Host.sin (F := Ideal)
      (mulf
        (broadcastInDim S32768x8 ![0, 1] Gen.bcast_S32768x1_S32768x8_0_1
          (shapeCast S32768x1 (sitofp FTy.f32 P) Gen.shapeCasts_S16x2048_S32768x1))
        (broadcastInDim S32768x8 ![0, 1] Gen.bcast_S1x8_S32768x8_0_1
          (broadcastInDim S1x8 ![1] Gen.bcast_S8_S1x8_1
            (Host.powf (broadcastInDim S8 ![] Gen.bcast_S_S8 (constant S_ FTy.f32 1223959552#32))
              (Host.divf
                (Host.negf
                  (addf (broadcastInDim S8 ![] Gen.bcast_S_S8 (constant S_ FTy.f32 0#32))
                    (mulf (broadcastInDim S8 ![] Gen.bcast_S_S8 (constant S_ FTy.f32 1073741824#32))
                      (sitofp FTy.f32 (iotaInDim S8 32 0)))))
                (broadcastInDim S8 ![] Gen.bcast_S_S8 (constant S_ FTy.f32 1098907648#32))))))) (ix2 r e)
      = Ideal.sin (Cert.Rows.angle 1098907648#32 (P (ix2 ⟨r.val / 2048, by omega⟩ ⟨r.val % 2048, by omega⟩)) e.val) := by
  pointwise
  rfl

theorem cos4_angle (P : IVec S16x2048 32) (r : Fin 32768) (e : Fin 4) :
    Host.cos (F := Ideal)
      (mulf
        (broadcastInDim S32768x4 ![0, 1] Gen.bcast_S32768x1_S32768x4_0_1
          (shapeCast S32768x1 (sitofp FTy.f32 P) Gen.shapeCasts_S16x2048_S32768x1))
        (broadcastInDim S32768x4 ![0, 1] Gen.bcast_S1x4_S32768x4_0_1
          (broadcastInDim S1x4 ![1] Gen.bcast_S4_S1x4_1
            (Host.powf (broadcastInDim S4 ![] Gen.bcast_S_S4 (constant S_ FTy.f32 1223959552#32))
              (Host.divf
                (Host.negf
                  (addf (broadcastInDim S4 ![] Gen.bcast_S_S4 (constant S_ FTy.f32 0#32))
                    (mulf (broadcastInDim S4 ![] Gen.bcast_S_S4 (constant S_ FTy.f32 1073741824#32))
                      (sitofp FTy.f32 (iotaInDim S4 32 0)))))
                (broadcastInDim S4 ![] Gen.bcast_S_S4 (constant S_ FTy.f32 1090519040#32))))))) (ix2 r e)
      = Ideal.cos (Cert.Rows.angle 1090519040#32 (P (ix2 ⟨r.val / 2048, by omega⟩ ⟨r.val % 2048, by omega⟩)) e.val) := by
  pointwise
  rfl

theorem sin4_angle (P : IVec S16x2048 32) (r : Fin 32768) (e : Fin 4) :
    Host.sin (F := Ideal)
      (mulf
        (broadcastInDim S32768x4 ![0, 1] Gen.bcast_S32768x1_S32768x4_0_1
          (shapeCast S32768x1 (sitofp FTy.f32 P) Gen.shapeCasts_S16x2048_S32768x1))
        (broadcastInDim S32768x4 ![0, 1] Gen.bcast_S1x4_S32768x4_0_1
          (broadcastInDim S1x4 ![1] Gen.bcast_S4_S1x4_1
            (Host.powf (broadcastInDim S4 ![] Gen.bcast_S_S4 (constant S_ FTy.f32 1223959552#32))
              (Host.divf
                (Host.negf
                  (addf (broadcastInDim S4 ![] Gen.bcast_S_S4 (constant S_ FTy.f32 0#32))
                    (mulf (broadcastInDim S4 ![] Gen.bcast_S_S4 (constant S_ FTy.f32 1073741824#32))
                      (sitofp FTy.f32 (iotaInDim S4 32 0)))))
                (broadcastInDim S4 ![] Gen.bcast_S_S4 (constant S_ FTy.f32 1090519040#32))))))) (ix2 r e)
      = Ideal.sin (Cert.Rows.angle 1090519040#32 (P (ix2 ⟨r.val / 2048, by omega⟩ ⟨r.val % 2048, by omega⟩)) e.val) := by
  pointwise
  rfl

set_option maxRecDepth 8192 in
set_option maxHeartbeats 8000000 in
theorem out7_apply (c : Dev nD) (r : Fin 32768) (l : Fin 1664) :
    Value.res_main_v78 m c (ix2 r l) = out7 (fun k => m ((c : Thread nD τ).loc main_arg0) (ix2 r k)) (fun k => m ((c : Thread nD τ).loc main_arg2) (ix1 k))
      (m ((c : Thread nD τ).loc main_arg1) (ix2 ⟨r.val / 2048, by omega⟩ ⟨r.val % 2048, by omega⟩))
      (fun k j => m ((c : Thread nD τ).loc main_arg3) (ix2 k j)) l := by
  unfold Value.res_main_v78
  generalize hZ : Host.dotGeneral (F := Ideal) dot_S32768x1024_S1024x2340_S32768x2340_1_0_0_1_n_n none _ _ = Z
  have eZ : ∀ j : Fin 2340, Z (ix2 r j) = Cert.Rows.proj (fun k => m ((c : Thread nD τ).loc main_arg0) (ix2 r k)) (fun k => m ((c : Thread nD τ).loc main_arg2) (ix1 k)) (fun k => m ((c : Thread nD τ).loc main_arg3) (ix2 k j)) := by
    intro j
    rw [← hZ]
    pointwise
    rfl
  generalize hY : concatenate (α := EReal) S32768x1664 1 _ _ = Y
  have eY : ∀ j : Fin 1664, Y (ix2 r j) = ropeCol (fun j => Cert.Rows.proj (fun k => m ((c : Thread nD τ).loc main_arg0) (ix2 r k)) (fun k => m ((c : Thread nD τ).loc main_arg2) (ix1 k)) (fun k => m ((c : Thread nD τ).loc main_arg3) (ix2 k j))) j := by
    intro j
    rw [← hY]
    pointwise
    unfold ropeCol
    simp only [eZ]
  generalize hC : Host.cos (F := Ideal) (s := S32768x8) _ = C
  generalize hS : Host.sin (F := Ideal) (s := S32768x8) _ = S
  have eC : ∀ e : Fin 8, C (ix2 r e) = Ideal.cos (Cert.Rows.angle 1098907648#32 (m ((c : Thread nD τ).loc main_arg1) (ix2 ⟨r.val / 2048, by omega⟩ ⟨r.val % 2048, by omega⟩)) e.val) := by
    intro e
    rw [← hC]
    exact cos8_angle _ r e
  have eS : ∀ e : Fin 8, S (ix2 r e) = Ideal.sin (Cert.Rows.angle 1098907648#32 (m ((c : Thread nD τ).loc main_arg1) (ix2 ⟨r.val / 2048, by omega⟩ ⟨r.val % 2048, by omega⟩)) e.val) := by
    intro e
    rw [← hS]
    exact sin8_angle _ r e
  pointwise
  unfold out7
  have := l.isLt
  split
  · next h => exact Cert.Rows.rot_lo h ((eY _).trans (Cert.Rows.ext_eq _ _ (by first | (dsimp only; omega) | (dsimp only; done)))) ((eY _).trans (Cert.Rows.ext_eq _ _ (by first | (dsimp only; omega) | (dsimp only; done)))) (eC _) (eS _)
  · next h =>
    split
    · next h' => exact Cert.Rows.rot_mid h h' ((eY _).trans (Cert.Rows.ext_eq _ _ (by first | (dsimp only; omega) | (dsimp only; done)))) ((eY _).trans (Cert.Rows.ext_eq _ _ (by first | (dsimp only; omega) | (dsimp only; done)))) (eC _) (eS _)
    · next h' => exact Cert.Rows.rot_hi h h' ((eY _).trans (Cert.Rows.ext_eq _ _ (by first | (dsimp only; omega) | (dsimp only; done))))

set_option maxRecDepth 8192 in
set_option maxHeartbeats 8000000 in
theorem out8_apply (c : Dev nD) (r : Fin 32768) (l : Fin 256) :
    Value.res_main_v98 m c (ix2 r l) = out8 (fun k => m ((c : Thread nD τ).loc main_arg0) (ix2 r k)) (fun k => m ((c : Thread nD τ).loc main_arg2) (ix1 k))
      (m ((c : Thread nD τ).loc main_arg1) (ix2 ⟨r.val / 2048, by omega⟩ ⟨r.val % 2048, by omega⟩))
      (fun k j => m ((c : Thread nD τ).loc main_arg3) (ix2 k j)) l := by
  unfold Value.res_main_v98
  generalize hZ : Host.dotGeneral (F := Ideal) dot_S32768x1024_S1024x2340_S32768x2340_1_0_0_1_n_n none _ _ = Z
  have eZ : ∀ j : Fin 2340, Z (ix2 r j) = Cert.Rows.proj (fun k => m ((c : Thread nD τ).loc main_arg0) (ix2 r k)) (fun k => m ((c : Thread nD τ).loc main_arg2) (ix1 k)) (fun k => m ((c : Thread nD τ).loc main_arg3) (ix2 k j)) := by
    intro j
    rw [← hZ]
    pointwise
    rfl
  generalize hY : concatenate (α := EReal) S32768x256 1 _ _ = Y
  have eY : ∀ j : Fin 256, Y (ix2 r j) = ropeiCol (fun j => Cert.Rows.proj (fun k => m ((c : Thread nD τ).loc main_arg0) (ix2 r k)) (fun k => m ((c : Thread nD τ).loc main_arg2) (ix1 k)) (fun k => m ((c : Thread nD τ).loc main_arg3) (ix2 k j))) j := by
    intro j
    rw [← hY]
    pointwise
    unfold ropeiCol
    simp only [eZ]
  generalize hC : Host.cos (F := Ideal) (s := S32768x4) _ = C
  generalize hS : Host.sin (F := Ideal) (s := S32768x4) _ = S
  have eC : ∀ e : Fin 4, C (ix2 r e) = Ideal.cos (Cert.Rows.angle 1090519040#32 (m ((c : Thread nD τ).loc main_arg1) (ix2 ⟨r.val / 2048, by omega⟩ ⟨r.val % 2048, by omega⟩)) e.val) := by
    intro e
    rw [← hC]
    exact cos4_angle _ r e
  have eS : ∀ e : Fin 4, S (ix2 r e) = Ideal.sin (Cert.Rows.angle 1090519040#32 (m ((c : Thread nD τ).loc main_arg1) (ix2 ⟨r.val / 2048, by omega⟩ ⟨r.val % 2048, by omega⟩)) e.val) := by
    intro e
    rw [← hS]
    exact sin4_angle _ r e
  pointwise
  unfold out8
  have := l.isLt
  split
  · next h => exact Cert.Rows.rot_lo h ((eY _).trans (Cert.Rows.ext_eq _ _ (by first | (dsimp only; omega) | (dsimp only; done)))) ((eY _).trans (Cert.Rows.ext_eq _ _ (by first | (dsimp only; omega) | (dsimp only; done)))) (eC _) (eS _)
  · next h =>
    split
    · next h' => exact Cert.Rows.rot_mid h h' ((eY _).trans (Cert.Rows.ext_eq _ _ (by first | (dsimp only; omega) | (dsimp only; done)))) ((eY _).trans (Cert.Rows.ext_eq _ _ (by first | (dsimp only; omega) | (dsimp only; done)))) (eC _) (eS _)
    · next h' => exact Cert.Rows.rot_hi h h' ((eY _).trans (Cert.Rows.ext_eq _ _ (by first | (dsimp only; omega) | (dsimp only; done))))

end Cert.InOddRefIdeal.Rows
end
-- ==== Proof.InOddValue.lean ====
module

public import proofs.«01_k».proof.Defs
public import proofs.«01_k».proof.Proof.InOddBlocks
public import proofs.«01_k».proof.Proof.InOddReference
public import Idealize.ShloMosaic.Lib.Claim

/-! The input projection at the extended reals: every result is the row function of the token's row. -/

@[expose] public section
noncomputable section
open Idealize.ShloMosaic Idealize.ShloMosaic.TcCoe Idealize.SL.Sem

namespace Cert.InOddPair

set_option maxRecDepth 8192 in
set_option maxHeartbeats 8000000 in
/-- At the extended reals the kernel's results are the reference's. -/
theorem algebraic :
    Cert.algebraic_InOddIdeal_InOddRefIdeal (hInOddIdeal := Cert.InOddIdeal.Gen.facts) (hInOddRefIdeal := Cert.InOddRefIdeal.Gen.facts) := by
  pair_intro
  · run_from (Cert.InOddIdeal.Value.run_blocks m g)
  · run_from (Cert.InOddRefIdeal.Value.run m' g')
    · rw [Cert.InOddIdeal.Rows.final7]
      funext i
      obtain ⟨r, l, rfl⟩ : ∃ (r : Fin 32768) (l : Fin 1664), i = ix2 r l := ⟨i 0, i 1, eq_ix2 i⟩
      refine (Cert.InOddRefIdeal.Rows.out7_apply m' c r l).trans ?_
      simp only [hagree c]
      rfl
    · rw [Cert.InOddIdeal.Rows.final8]
      funext i
      obtain ⟨r, l, rfl⟩ : ∃ (r : Fin 32768) (l : Fin 256), i = ix2 r l := ⟨i 0, i 1, eq_ix2 i⟩
      refine (Cert.InOddRefIdeal.Rows.out8_apply m' c r l).trans ?_
      simp only [hagree c]
      rfl
    · rw [Cert.InOddIdeal.Rows.final9]
      generalize hZ : Host.dotGeneral (F := Ideal) Cert.InOddRefIdeal.dot_S32768x1024_S1024x2340_S32768x2340_1_0_0_1_n_n none _ _ = Z
      funext i
      obtain ⟨r, l, rfl⟩ : ∃ (r : Fin 32768) (l : Fin 640), i = ix2 r l := ⟨i 0, i 1, eq_ix2 i⟩
      have eZ : ∀ j : Fin 2340, Z (ix2 r j) = Cert.Rows.proj (fun k => m ((c : Thread Cert.InOddIdeal.nD Cert.InOddIdeal.τ).loc Cert.InOddIdeal.main_arg0) (ix2 r k))
          (fun k => m ((c : Thread Cert.InOddIdeal.nD Cert.InOddIdeal.τ).loc Cert.InOddIdeal.main_arg2) (ix1 k)) (fun k => m ((c : Thread Cert.InOddIdeal.nD Cert.InOddIdeal.τ).loc Cert.InOddIdeal.main_arg3) (ix2 k j)) := by
        intro j
        rw [← hZ]
        pointwise
        simp only [hagree c]
        rfl
      pointwise
      simp only [eZ]
      rfl
end Cert.InOddPair
end
-- ==== Proof.lean ====
module

public import proofs.«01_k».proof.Defs
public import proofs.«01_k».proof.Proof.Gen.Moba
public import proofs.«01_k».proof.Proof.Gen.MobaIdeal
public import proofs.«01_k».proof.Proof.Gen.MobaRefIdeal
public import proofs.«01_k».proof.Proof.Gen.MobaRef
public import proofs.«01_k».proof.Proof.Gen.Moba.Frame
public import proofs.«01_k».proof.Proof.Gen.Moba.Loops
public import proofs.«01_k».proof.Proof.Gen.MobaIdeal.Frame
public import proofs.«01_k».proof.Proof.Gen.MobaIdeal.Loops
public import proofs.«01_k».proof.Proof.Gen.MobaRefIdeal.Run
public import proofs.«01_k».proof.Proof.MobaRun
public import proofs.«01_k».proof.Proof.MobaBitsRun
public import proofs.«01_k».proof.Proof.MobaValue
public import proofs.«01_k».proof.Proof.Gen.Ffn
public import proofs.«01_k».proof.Proof.Gen.FfnIdeal
public import proofs.«01_k».proof.Proof.Gen.FfnRefIdeal
public import proofs.«01_k».proof.Proof.Gen.FfnRef
public import proofs.«01_k».proof.Proof.Gen.Ffn.Frame
public import proofs.«01_k».proof.Proof.Gen.FfnIdeal.Value
public import proofs.«01_k».proof.Proof.Gen.FfnRefIdeal.Run
public import proofs.«01_k».proof.Proof.FfnValue
public import proofs.«01_k».proof.Proof.Gen.FfnLast
public import proofs.«01_k».proof.Proof.Gen.FfnLastIdeal
public import proofs.«01_k».proof.Proof.Gen.FfnLastRefIdeal
public import proofs.«01_k».proof.Proof.Gen.FfnLastRef
public import proofs.«01_k».proof.Proof.Gen.FfnLast.Frame
public import proofs.«01_k».proof.Proof.Gen.FfnLastIdeal.Value
public import proofs.«01_k».proof.Proof.Gen.FfnLastRefIdeal.Run
public import proofs.«01_k».proof.Proof.FfnLastValue
public import proofs.«01_k».proof.Proof.Gen.OutEven
public import proofs.«01_k».proof.Proof.Gen.OutEvenIdeal
public import proofs.«01_k».proof.Proof.Gen.OutEvenRefIdeal
public import proofs.«01_k».proof.Proof.Gen.OutEvenRef
public import proofs.«01_k».proof.Proof.Gen.OutEven.Frame
public import proofs.«01_k».proof.Proof.Gen.OutEvenIdeal.Value
public import proofs.«01_k».proof.Proof.Gen.OutEvenRefIdeal.Run
public import proofs.«01_k».proof.Proof.OutEvenValue
public import proofs.«01_k».proof.Proof.Gen.OutOdd
public import proofs.«01_k».proof.Proof.Gen.OutOddIdeal
public import proofs.«01_k».proof.Proof.Gen.OutOddRefIdeal
public import proofs.«01_k».proof.Proof.Gen.OutOddRef
public import proofs.«01_k».proof.Proof.Gen.OutOdd.Frame
public import proofs.«01_k».proof.Proof.Gen.OutOddIdeal.Value
public import proofs.«01_k».proof.Proof.Gen.OutOddRefIdeal.Run
public import proofs.«01_k».proof.Proof.OutOddValue
public import proofs.«01_k».proof.Proof.Gen.InEven
public import proofs.«01_k».proof.Proof.Gen.InEvenIdeal
public import proofs.«01_k».proof.Proof.Gen.InEvenRefIdeal
public import proofs.«01_k».proof.Proof.Gen.InEvenRef
public import proofs.«01_k».proof.Proof.Gen.InEven.Frame
public import proofs.«01_k».proof.Proof.Gen.InEvenIdeal.Value
public import proofs.«01_k».proof.Proof.Gen.InEvenRefIdeal.Run
public import proofs.«01_k».proof.Proof.InEvenValue
public import proofs.«01_k».proof.Proof.Gen.InOdd
public import proofs.«01_k».proof.Proof.Gen.InOddIdeal
public import proofs.«01_k».proof.Proof.Gen.InOddRefIdeal
public import proofs.«01_k».proof.Proof.Gen.InOddRef
public import proofs.«01_k».proof.Proof.Gen.InOdd.Frame
public import proofs.«01_k».proof.Proof.Gen.InOddIdeal.Value
public import proofs.«01_k».proof.Proof.Gen.InOddRefIdeal.Run
public import proofs.«01_k».proof.Proof.InOddValue
public import Idealize.ShloMosaic.Lib.Quiescent

/-! The claims, each from its own module. -/

@[expose] public section
noncomputable section
namespace Cert.Proof
open Idealize.ShloMosaic

theorem frame_Moba : Cert.quiescent_Moba (hMoba := Cert.Moba.Gen.facts) := fun m g _ => Cert.Moba.Att.frame_all m g

theorem frame_MobaIdeal : Cert.quiescent_MobaIdeal (hMobaIdeal := Cert.MobaIdeal.Gen.facts) := fun m g _ => Cert.MobaIdeal.Att.frame_all m g

theorem frame_MobaIdeal_finite : Cert.quiescent_MobaIdeal_pre_finite_scores (hMobaIdeal := Cert.MobaIdeal.Gen.facts) (hPre_finite_scores := Cert.MobaPair.preFacts) :=
  fun m g _ => frame_MobaIdeal m g trivial

theorem frame_MobaRefIdeal : Cert.quiescent_MobaRefIdeal (hMobaRefIdeal := Cert.MobaRefIdeal.Gen.facts) := by intro m g hpre; hlo_run; exacts [fun _ => by simp, sem_eq_zero_of_no_sems (by decide) _]

theorem frame_MobaRefIdeal_finite : Cert.quiescent_MobaRefIdeal_pre_finite_scores (hMobaRefIdeal := Cert.MobaRefIdeal.Gen.facts) (hPre_finite_scores := Cert.MobaPair.preFacts) :=
  fun m g _ => frame_MobaRefIdeal m g trivial

theorem frame_MobaRef : Cert.quiescent_MobaRef (hMobaRef := Cert.MobaRef.Gen.facts) := by intro m g hpre; hlo_run; exacts [fun _ => by simp, sem_eq_zero_of_no_sems (by decide) _]

theorem named_Moba : Cert.preserves_Moba_MobaIdeal :=
  IdealRules.named_const.statement Cert.MobaIdeal.κ "mask" .f32 0xF149F2CA#32 ⊥ rfl

theorem frame_Ffn : Cert.quiescent_Ffn (hFfn := Cert.Ffn.Gen.facts) := fun m g _ => Cert.Ffn.Gen.frame m g

theorem frame_FfnIdeal : Cert.quiescent_FfnIdeal (hFfnIdeal := Cert.FfnIdeal.Gen.facts) := fun m g _ => Cert.FfnIdeal.Gen.frame m g

theorem frame_FfnRefIdeal : Cert.quiescent_FfnRefIdeal (hFfnRefIdeal := Cert.FfnRefIdeal.Gen.facts) := by intro m g hpre; hlo_run; exacts [fun _ => by simp, sem_eq_zero_of_no_sems (by decide) _]

theorem frame_FfnRef : Cert.quiescent_FfnRef (hFfnRef := Cert.FfnRef.Gen.facts) := by intro m g hpre; hlo_run; exacts [fun _ => by simp, sem_eq_zero_of_no_sems (by decide) _]

theorem frame_FfnLast : Cert.quiescent_FfnLast (hFfnLast := Cert.FfnLast.Gen.facts) := fun m g _ => Cert.FfnLast.Gen.frame m g

theorem frame_FfnLastIdeal : Cert.quiescent_FfnLastIdeal (hFfnLastIdeal := Cert.FfnLastIdeal.Gen.facts) := fun m g _ => Cert.FfnLastIdeal.Gen.frame m g

theorem frame_FfnLastRefIdeal : Cert.quiescent_FfnLastRefIdeal (hFfnLastRefIdeal := Cert.FfnLastRefIdeal.Gen.facts) := by intro m g hpre; hlo_run; exacts [fun _ => by simp, sem_eq_zero_of_no_sems (by decide) _]

theorem frame_FfnLastRef : Cert.quiescent_FfnLastRef (hFfnLastRef := Cert.FfnLastRef.Gen.facts) := by intro m g hpre; hlo_run; exacts [fun _ => by simp, sem_eq_zero_of_no_sems (by decide) _]

theorem frame_OutEven : Cert.quiescent_OutEven (hOutEven := Cert.OutEven.Gen.facts) := fun m g _ => Cert.OutEven.Gen.frame m g

theorem frame_OutEvenIdeal : Cert.quiescent_OutEvenIdeal (hOutEvenIdeal := Cert.OutEvenIdeal.Gen.facts) := fun m g _ => Cert.OutEvenIdeal.Gen.frame m g

theorem frame_OutEvenRefIdeal : Cert.quiescent_OutEvenRefIdeal (hOutEvenRefIdeal := Cert.OutEvenRefIdeal.Gen.facts) := by intro m g hpre; hlo_run; exacts [fun _ => by simp, sem_eq_zero_of_no_sems (by decide) _]

theorem frame_OutEvenRef : Cert.quiescent_OutEvenRef (hOutEvenRef := Cert.OutEvenRef.Gen.facts) := by intro m g hpre; hlo_run; exacts [fun _ => by simp, sem_eq_zero_of_no_sems (by decide) _]

theorem frame_OutOdd : Cert.quiescent_OutOdd (hOutOdd := Cert.OutOdd.Gen.facts) := fun m g _ => Cert.OutOdd.Gen.frame m g

theorem frame_OutOddIdeal : Cert.quiescent_OutOddIdeal (hOutOddIdeal := Cert.OutOddIdeal.Gen.facts) := fun m g _ => Cert.OutOddIdeal.Gen.frame m g

theorem frame_OutOddRefIdeal : Cert.quiescent_OutOddRefIdeal (hOutOddRefIdeal := Cert.OutOddRefIdeal.Gen.facts) := by intro m g hpre; hlo_run; exacts [fun _ => by simp, sem_eq_zero_of_no_sems (by decide) _]

theorem frame_OutOddRef : Cert.quiescent_OutOddRef (hOutOddRef := Cert.OutOddRef.Gen.facts) := by intro m g hpre; hlo_run; exacts [fun _ => by simp, sem_eq_zero_of_no_sems (by decide) _]

theorem frame_InEven : Cert.quiescent_InEven (hInEven := Cert.InEven.Gen.facts) := fun m g _ => Cert.InEven.Gen.frame m g

theorem frame_InEvenIdeal : Cert.quiescent_InEvenIdeal (hInEvenIdeal := Cert.InEvenIdeal.Gen.facts) := fun m g _ => Cert.InEvenIdeal.Gen.frame m g

theorem frame_InEvenRefIdeal : Cert.quiescent_InEvenRefIdeal (hInEvenRefIdeal := Cert.InEvenRefIdeal.Gen.facts) := by intro m g hpre; hlo_run; exacts [fun _ => by simp, sem_eq_zero_of_no_sems (by decide) _]

theorem frame_InEvenRef : Cert.quiescent_InEvenRef (hInEvenRef := Cert.InEvenRef.Gen.facts) := by intro m g hpre; hlo_run; exacts [fun _ => by simp, sem_eq_zero_of_no_sems (by decide) _]

theorem frame_InOdd : Cert.quiescent_InOdd (hInOdd := Cert.InOdd.Gen.facts) := fun m g _ => Cert.InOdd.Gen.frame m g

theorem frame_InOddIdeal : Cert.quiescent_InOddIdeal (hInOddIdeal := Cert.InOddIdeal.Gen.facts) := fun m g _ => Cert.InOddIdeal.Gen.frame m g

theorem frame_InOddRefIdeal : Cert.quiescent_InOddRefIdeal (hInOddRefIdeal := Cert.InOddRefIdeal.Gen.facts) := by intro m g hpre; hlo_run; exacts [fun _ => by simp, sem_eq_zero_of_no_sems (by decide) _]

theorem frame_InOddRef : Cert.quiescent_InOddRef (hInOddRef := Cert.InOddRef.Gen.facts) := by intro m g hpre; hlo_run; exacts [fun _ => by simp, sem_eq_zero_of_no_sems (by decide) _]

set_option maxHeartbeats 4000000 in
theorem claim : Cert.Claim :=
  ⟨Cert.Moba.Gen.facts, Cert.MobaIdeal.Gen.facts, Cert.MobaRefIdeal.Gen.facts, Cert.MobaRef.Gen.facts,
   Cert.Ffn.Gen.facts, Cert.FfnIdeal.Gen.facts, Cert.FfnRefIdeal.Gen.facts, Cert.FfnRef.Gen.facts,
   Cert.FfnLast.Gen.facts, Cert.FfnLastIdeal.Gen.facts, Cert.FfnLastRefIdeal.Gen.facts, Cert.FfnLastRef.Gen.facts,
   Cert.OutEven.Gen.facts, Cert.OutEvenIdeal.Gen.facts, Cert.OutEvenRefIdeal.Gen.facts, Cert.OutEvenRef.Gen.facts,
   Cert.OutOdd.Gen.facts, Cert.OutOddIdeal.Gen.facts, Cert.OutOddRefIdeal.Gen.facts, Cert.OutOddRef.Gen.facts,
   Cert.InEven.Gen.facts, Cert.InEvenIdeal.Gen.facts, Cert.InEvenRefIdeal.Gen.facts, Cert.InEvenRef.Gen.facts,
   Cert.InOdd.Gen.facts, Cert.InOddIdeal.Gen.facts, Cert.InOddRefIdeal.Gen.facts, Cert.InOddRef.Gen.facts,
   Cert.MobaPair.preFacts,
   frame_Moba, frame_MobaIdeal, frame_MobaIdeal_finite, frame_MobaRefIdeal, frame_MobaRefIdeal_finite, frame_MobaRef, frame_Ffn, frame_FfnIdeal, frame_FfnRefIdeal, frame_FfnRef, frame_FfnLast, frame_FfnLastIdeal, frame_FfnLastRefIdeal, frame_FfnLastRef, frame_OutEven, frame_OutEvenIdeal, frame_OutEvenRefIdeal, frame_OutEvenRef, frame_OutOdd, frame_OutOddIdeal, frame_OutOddRefIdeal, frame_OutOddRef, frame_InEven, frame_InEvenIdeal, frame_InEvenRefIdeal, frame_InEvenRef, frame_InOdd, frame_InOddIdeal, frame_InOddRefIdeal, frame_InOddRef,
   named_Moba, trivial, Cert.MobaPair.algebraic,
   trivial, trivial, Cert.FfnPair.algebraic,
   trivial, trivial, Cert.FfnLastPair.algebraic,
   trivial, trivial, Cert.OutEvenPair.algebraic,
   trivial, trivial, Cert.OutOddPair.algebraic,
   trivial, trivial, Cert.InEvenPair.algebraic,
   trivial, trivial, Cert.InOddPair.algebraic⟩

end Cert.Proof
end
